-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel3 [hPre_pre3 : Cert.Pre_pre3.Facts] (m : (ℓ : Loc Cert.Kernel3.nD Cert.Kernel3.τ Cert.Kernel3.sig) → Buf (Elt Bits) ℓ) : Prop :=
  ∀ c : Dev Cert.Kernel3.nD,
    (Cert.Pre_pre3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_pre3 : Cert.Pre_pre3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre3 [hPre_pre3 : Cert.Pre_pre3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_pre7 [hPre_pre7 : Cert.Pre_pre7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_pre7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_pre7 [hPre_pre7 : Cert.Pre_pre7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_pre7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_pre8 [hPre_pre8 : Cert.Pre_pre8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_pre8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_pre8 [hPre_pre8 : Cert.Pre_pre8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_pre8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel3 [hKernel3 : Cert.Kernel3.Facts] [hPre_pre3 : Cert.Pre_pre3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_pre3 [hReference3Ideal : Cert.Reference3Ideal.Facts] [hPre_pre3 : Cert.Pre_pre3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_pre7 [hKernel7Ideal : Cert.Kernel7Ideal.Facts] [hPre_pre7 : Cert.Pre_pre7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_pre7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_pre7 [hReference7Ideal : Cert.Reference7Ideal.Facts] [hPre_pre7 : Cert.Pre_pre7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_pre7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel8Ideal_pre_pre8 [hKernel8Ideal : Cert.Kernel8Ideal.Facts] [hPre_pre8 : Cert.Pre_pre8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_pre8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Reference8Ideal_pre_pre8 [hReference8Ideal : Cert.Reference8Ideal.Facts] [hPre_pre8 : Cert.Pre_pre8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_pre8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v313) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_pre7 [hKernel7Ideal : Cert.Kernel7Ideal.Facts] [hReference7Ideal : Cert.Reference7Ideal.Facts] [hPre_pre7 : Cert.Pre_pre7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_pre7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_pre8 [hKernel8Ideal : Cert.Kernel8Ideal.Facts] [hReference8Ideal : Cert.Reference8Ideal.Facts] [hPre_pre8 : Cert.Pre_pre8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_pre8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v319) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_pre3 : Cert.Pre_pre3.Facts) (hPre_pre7 : Cert.Pre_pre7.Facts) (hPre_pre8 : Cert.Pre_pre8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel3 (hKernel3 := hKernel3) (hPre_pre3 := hPre_pre3)
    ∧ quiescent_Kernel3Ideal (hKernel3Ideal := hKernel3Ideal) (hPre_pre3 := hPre_pre3)
    ∧ quiescent_Reference3Ideal (hReference3Ideal := hReference3Ideal)
    ∧ quiescent_Reference3Ideal_pre_pre3 (hReference3Ideal := hReference3Ideal) (hPre_pre3 := hPre_pre3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_pre7 (hKernel7Ideal := hKernel7Ideal) (hPre_pre7 := hPre_pre7)
    ∧ quiescent_Reference7Ideal (hReference7Ideal := hReference7Ideal)
    ∧ quiescent_Reference7Ideal_pre_pre7 (hReference7Ideal := hReference7Ideal) (hPre_pre7 := hPre_pre7)
    ∧ quiescent_Kernel8 (hKernel8 := hKernel8)
    ∧ quiescent_Kernel8Ideal (hKernel8Ideal := hKernel8Ideal)
    ∧ quiescent_Kernel8Ideal_pre_pre8 (hKernel8Ideal := hKernel8Ideal) (hPre_pre8 := hPre_pre8)
    ∧ quiescent_Reference8Ideal (hReference8Ideal := hReference8Ideal)
    ∧ quiescent_Reference8Ideal_pre_pre8 (hReference8Ideal := hReference8Ideal) (hPre_pre8 := hPre_pre8)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel3_Kernel3Ideal
    ∧ algebraic_Kernel3Ideal_Reference3Ideal (hKernel3Ideal := hKernel3Ideal) (hReference3Ideal := hReference3Ideal) (hPre_pre3 := hPre_pre3)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_pre7 (hKernel7Ideal := hKernel7Ideal) (hReference7Ideal := hReference7Ideal) (hPre_pre7 := hPre_pre7)
    ∧ preserves_Kernel8_Kernel8Ideal
    ∧ algebraic_Kernel8Ideal_Reference8Ideal_pre_pre8 (hKernel8Ideal := hKernel8Ideal) (hReference8Ideal := hReference8Ideal) (hPre_pre8 := hPre_pre8)
-- ==== Pre_pre3.lean ====
abbrev S147456x1024 : Shape := ⟨2, ![147456, 1024]⟩
abbrev S288 : Shape := ⟨1, ![288]⟩
abbrev S1 : Shape := ⟨1, ![1]⟩
abbrev S4x32x1024x1024 : Shape := ⟨4, ![4, 32, 1024, 1024]⟩
abbrev S4x32x512x1024 : Shape := ⟨4, ![4, 32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S147456x1024 .f32) (main_arg1 : IVec S288 32) (main_arg2 : IVec S1 32) (main_arg3 : FVec F S4x32x1024x1024 .f32) (main_arg4 : FVec F S4x32x512x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg1 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_pre7.lean ====
abbrev S32x2048x1024 : Shape := ⟨3, ![32, 2048, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024 .f32) (main_arg5 : FVec F S1024x4 .f32) (main_arg6 : FVec F S1024x32 .f32) (main_v3 : IVec S_ 1) (main_v7 : IVec S_ 1) (main_v11 : IVec S_ 1) (main_v15 : IVec S_ 1) : IVec S_ 1 :=
  let main_v16 : FVec F S1024 .f32 := subf main_arg4 main_arg4
  let main_cst_6 : FVec F S_ .f32 := constant S_ .f32 0x00000000#32
  let main_v17 : FVec F S1024 .f32 := broadcastInDim S1024 ![] bcast_S_S1024 main_cst_6
  let main_v18 : IVec S1024 1 := cmpf .oeq main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x4 .f32 := subf main_arg5 main_arg5
  let main_cst_8 : FVec F S_ .f32 := constant S_ .f32 0x00000000#32
  let main_v21 : FVec F S1024x4 .f32 := broadcastInDim S1024x4 ![] bcast_S_S1024x4 main_cst_8
  let main_v22 : IVec S1024x4 1 := cmpf .oeq main_v20 main_v21
  let main_c_9 : IVec S_ 1 := constantI S_ 1 1#1
  let main_v23 : IVec S_ 1 := (fun x v => Host.reduce IntOp.andi x v reducesTo_S1024x4_S_d0_1 h_S_) main_v22 main_c_9
  let main_v24 : FVec F S1024x32 .f32 := subf main_arg6 main_arg6
  let main_cst_10 : FVec F S_ .f32 := constant S_ .f32 0x00000000#32
  let main_v25 : FVec F S1024x32 .f32 := broadcastInDim S1024x32 ![] bcast_S_S1024x32 main_cst_10
  let main_v26 : IVec S1024x32 1 := cmpf .oeq main_v24 main_v25
  let main_c_11 : IVec S_ 1 := constantI S_ 1 1#1
  let main_v27 : IVec S_ 1 := (fun x v => Host.reduce IntOp.andi x v reducesTo_S1024x32_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S32x2048x1024 .bf16) (main_arg1 : FVec F S32x2048x1024 .f32) (main_arg2 : FVec F S1024x1024 .f32) (main_arg3 : FVec F S1024 .f32) (main_arg4 : FVec F S1024 .f32) (main_arg5 : FVec F S1024x4 .f32) (main_arg6 : FVec F S1024x32 .f32) : IVec S_ 1 :=
  let main_v0 : FVec F S32x2048x1024 .bf16 := subf main_arg0 main_arg0
  let main_cst : FVec F S_ .bf16 := constant S_ .bf16 0x0000#16
  let main_v1 : FVec F S32x2048x1024 .bf16 := broadcastInDim S32x2048x1024 ![] bcast_S_S32x2048x1024 main_cst
  let main_v2 : IVec S32x2048x1024 1 := cmpf .oeq main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2048x1024 .f32 := subf main_arg1 main_arg1
  let main_cst_0 : FVec F S_ .f32 := constant S_ .f32 0x00000000#32
  let main_v5 : FVec F S32x2048x1024 .f32 := broadcastInDim S32x2048x1024 ![] bcast_S_S32x2048x1024 main_cst_0
  let main_v6 : IVec S32x2048x1024 1 := cmpf .oeq main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : FVec F S1024x1024 .f32 := subf main_arg2 main_arg2
  let main_cst_2 : FVec F S_ .f32 := constant S_ .f32 0x00000000#32
  let main_v9 : FVec F S1024x1024 .f32 := broadcastInDim S1024x1024 ![] bcast_S_S1024x1024 main_cst_2
  let main_v10 : IVec S1024x1024 1 := cmpf .oeq main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := subf main_arg3 main_arg3
  let main_cst_4 : FVec F S_ .f32 := constant S_ .f32 0x00000000#32
  let main_v13 : FVec F S1024 .f32 := broadcastInDim S1024 ![] bcast_S_S1024 main_cst_4
  let main_v14 : IVec S1024 1 := cmpf .oeq main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_v3 main_v7 main_v11 main_v15
-- ==== Pre_pre8.lean ====
abbrev S32x2048x1024 : Shape := ⟨3, ![32, 2048, 1024]⟩
abbrev S1024x2560 : Shape := ⟨2, ![1024, 2560]⟩
abbrev S3x512 : Shape := ⟨2, ![3, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S3x512 : S_.BroadcastsInDim S3x512 (![] : Fin 0 → Fin S3x512.rank)
  reducesTo_S3x512_S_d0_1 : S3x512.ReducesTo [0, 1] S_
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1024 .f32) (main_arg9 : FVec F S1024 .f32) (main_arg10 : FVec F S1024x256 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024 .f32 := subf main_arg8 main_arg8
  let main_cst_14 : FVec F S_ .f32 := constant S_ .f32 0x00000000#32
  let main_v33 : FVec F S1024 .f32 := broadcastInDim S1024 ![] bcast_S_S1024 main_cst_14
  let main_v34 : IVec S1024 1 := cmpf .oeq main_v32 main_v33
  let main_c_15 : IVec S_ 1 := constantI S_ 1 1#1
  let main_v35 : IVec S_ 1 := (fun x v => Host.reduce IntOp.andi x v reducesTo_S1024_S_d0 h_S_) main_v34 main_c_15
  let main_v36 : FVec F S1024 .f32 := subf main_arg9 main_arg9
  let main_cst_16 : FVec F S_ .f32 := constant S_ .f32 0x00000000#32
  let main_v37 : FVec F S1024 .f32 := broadcastInDim S1024 ![] bcast_S_S1024 main_cst_16
  let main_v38 : IVec S1024 1 := cmpf .oeq main_v36 main_v37
  let main_c_17 : IVec S_ 1 := constantI S_ 1 1#1
  let main_v39 : IVec S_ 1 := (fun x v => Host.reduce IntOp.andi x v reducesTo_S1024_S_d0 h_S_) main_v38 main_c_17
  let main_v40 : FVec F S1024x256 .bf16 := subf main_arg10 main_arg10
  let main_cst_18 : FVec F S_ .bf16 := constant S_ .bf16 0x0000#16
  let main_v41 : FVec F S1024x256 .bf16 := broadcastInDim S1024x256 ![] bcast_S_S1024x256 main_cst_18
  let main_v42 : IVec S1024x256 1 := cmpf .oeq main_v40 main_v41
  let main_c_19 : IVec S_ 1 := constantI S_ 1 1#1
  let main_v43 : IVec S_ 1 := (fun x v => Host.reduce IntOp.andi x v reducesTo_S1024x256_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S512 .f32) (main_arg5 : FVec F S512 .f32) (main_arg6 : FVec F S512 .f32) (main_arg7 : FVec F S1024x1024 .f32) (main_arg8 : FVec F S1024 .f32) (main_arg9 : FVec F S1024 .f32) (main_arg10 : FVec F S1024x256 .bf16) (main_v3 : IVec S_ 1) (main_v7 : IVec S_ 1) (main_v11 : IVec S_ 1) (main_v15 : IVec S_ 1) : IVec S_ 1 :=
  let main_v16 : FVec F S512 .f32 := subf main_arg4 main_arg4
  let main_cst_6 : FVec F S_ .f32 := constant S_ .f32 0x00000000#32
  let main_v17 : FVec F S512 .f32 := broadcastInDim S512 ![] bcast_S_S512 main_cst_6
  let main_v18 : IVec S512 1 := cmpf .oeq main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512 .f32 := subf main_arg5 main_arg5
  let main_cst_8 : FVec F S_ .f32 := constant S_ .f32 0x00000000#32
  let main_v21 : FVec F S512 .f32 := broadcastInDim S512 ![] bcast_S_S512 main_cst_8
  let main_v22 : IVec S512 1 := cmpf .oeq main_v20 main_v21
  let main_c_9 : IVec S_ 1 := constantI S_ 1 1#1
  let main_v23 : IVec S_ 1 := (fun x v => Host.reduce IntOp.andi x v reducesTo_S512_S_d0 h_S_) main_v22 main_c_9
  let main_v24 : FVec F S512 .f32 := subf main_arg6 main_arg6
  let main_cst_10 : FVec F S_ .f32 := constant S_ .f32 0x00000000#32
  let main_v25 : FVec F S512 .f32 := broadcastInDim S512 ![] bcast_S_S512 main_cst_10
  let main_v26 : IVec S512 1 := cmpf .oeq main_v24 main_v25
  let main_c_11 : IVec S_ 1 := constantI S_ 1 1#1
  let main_v27 : IVec S_ 1 := (fun x v => Host.reduce IntOp.andi x v reducesTo_S512_S_d0 h_S_) main_v26 main_c_11
  let main_v28 : FVec F S1024x1024 .f32 := subf main_arg7 main_arg7
  let main_cst_12 : FVec F S_ .f32 := constant S_ .f32 0x00000000#32
  let main_v29 : FVec F S1024x1024 .f32 := broadcastInDim S1024x1024 ![] bcast_S_S1024x1024 main_cst_12
  let main_v30 : IVec S1024x1024 1 := cmpf .oeq main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S32x2048x1024 .f32) (main_arg1 : FVec F S1024x2560 .f32) (main_arg2 : FVec F S3x512 .f32) (main_arg3 : FVec F S31x512 .f32) (main_arg4 : FVec F S512 .f32) (main_arg5 : FVec F S512 .f32) (main_arg6 : FVec F S512 .f32) (main_arg7 : FVec F S1024x1024 .f32) (main_arg8 : FVec F S1024 .f32) (main_arg9 : FVec F S1024 .f32) (main_arg10 : FVec F S1024x256 .bf16) : IVec S_ 1 :=
  let main_v0 : FVec F S32x2048x1024 .f32 := subf main_arg0 main_arg0
  let main_cst : FVec F S_ .f32 := constant S_ .f32 0x00000000#32
  let main_v1 : FVec F S32x2048x1024 .f32 := broadcastInDim S32x2048x1024 ![] bcast_S_S32x2048x1024 main_cst
  let main_v2 : IVec S32x2048x1024 1 := cmpf .oeq main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x2560 .f32 := subf main_arg1 main_arg1
  let main_cst_0 : FVec F S_ .f32 := constant S_ .f32 0x00000000#32
  let main_v5 : FVec F S1024x2560 .f32 := broadcastInDim S1024x2560 ![] bcast_S_S1024x2560 main_cst_0
  let main_v6 : IVec S1024x2560 1 := cmpf .oeq main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : FVec F S3x512 .f32 := subf main_arg2 main_arg2
  let main_cst_2 : FVec F S_ .f32 := constant S_ .f32 0x00000000#32
  let main_v9 : FVec F S3x512 .f32 := broadcastInDim S3x512 ![] bcast_S_S3x512 main_cst_2
  let main_v10 : IVec S3x512 1 := cmpf .oeq main_v8 main_v9
  let main_c_3 : IVec S_ 1 := constantI S_ 1 1#1
  let main_v11 : IVec S_ 1 := (fun x v => Host.reduce IntOp.andi x v reducesTo_S3x512_S_d0_1 h_S_) main_v10 main_c_3
  let main_v12 : FVec F S31x512 .f32 := subf main_arg3 main_arg3
  let main_cst_4 : FVec F S_ .f32 := constant S_ .f32 0x00000000#32
  let main_v13 : FVec F S31x512 .f32 := broadcastInDim S31x512 ![] bcast_S_S31x512 main_cst_4
  let main_v14 : IVec S31x512 1 := cmpf .oeq main_v12 main_v13
  let main_c_5 : IVec S_ 1 := constantI S_ 1 1#1
  let main_v15 : IVec S_ 1 := (fun x v => Host.reduce IntOp.andi x v reducesTo_S31x512_S_d0_1 h_S_) main_v14 main_c_5
  fn_part1 (F := F) main_arg4 main_arg5 main_arg6 main_arg7 main_arg8 main_arg9 main_arg10 main_v3 main_v7 main_v11 main_v15
-- ==== Kernel.lean ====
abbrev S32x2048x3072 : Shape := ⟨3, ![32, 2048, 3072]⟩
abbrev S32x2048x1024 : Shape := ⟨3, ![32, 2048, 1024]⟩
abbrev S1x2048x256 : Shape := ⟨3, ![1, 2048, 256]⟩
abbrev S4x256x128 : Shape := ⟨3, ![4, 256, 128]⟩
abbrev S1x128 : Shape := ⟨2, ![1, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩

abbrev nBuf : Space → Nat
  | .hbm => 2
  | .vmem => 10
  | .smem => 0
  | _ => 0

abbrev bufTy : (tb : Table) → Fin (tcTables nBuf tb) → BufTy
  | .hbm, ⟨0, _⟩ => ⟨S32x2048x3072, .bf16⟩
  | .hbm, ⟨1, _⟩ => ⟨S32x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S4x256x128, .f32⟩
  | .local _ .vmem, ⟨9, _⟩ => ⟨S4x256x128, .f32⟩
  | _, _ => ⟨S32x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_mult1 : BitVec 32 :=
  let c256_i32_346 : BitVec 32 := 256#32
  let c256_i32 : BitVec 32 := 256#32
  let c0_i32_344 : BitVec 32 := 0#32
  let c1_i32_345 : BitVec 32 := 1#32
  let v692 : BitVec 32 := Scalar.addi c0_i32_344 c1_i32_345
  let v693 : BitVec 32 := Scalar.muli c256_i32 v692
  let v694 : BitVec 32 := Scalar.subi c256_i32_346 v693
  v694
def k0_off1 : Fin 3 → Nat :=
  let c0_347 : Index := 0#32
  let c256_i32_346 : BitVec 32 := 256#32
  let c256_i32 : BitVec 32 := 256#32
  let c0_i32_344 : BitVec 32 := 0#32
  let c1_i32_345 : BitVec 32 := 1#32
  let v692 : BitVec 32 := Scalar.addi c0_i32_344 c1_i32_345
  let v693 : BitVec 32 := Scalar.muli c256_i32 v692
  let v694 : BitVec 32 := Scalar.subi c256_i32_346 v693
  let v695 : BitVec 32 := v694
  let v696 : Index := Scalar.indexCast v695
  let c0_348 : Index := 0#32
  ![0, v696.toNat, 0]
def k0_off2 : Fin 3 → Nat :=
  let c0_391 : Index := 0#32
  let c256_i32_346 : BitVec 32 := 256#32
  let c256_i32 : BitVec 32 := 256#32
  let c0_i32_344 : BitVec 32 := 0#32
  let c1_i32_345 : BitVec 32 := 1#32
  let v692 : BitVec 32 := Scalar.addi c0_i32_344 c1_i32_345
  let v693 : BitVec 32 := Scalar.muli c256_i32 v692
  let v694 : BitVec 32 := Scalar.subi c256_i32_346 v693
  let v695 : BitVec 32 := v694
  let v776 : Index := Scalar.indexCast v695
  let c128_392 : Index := 128#32
  ![0, v776.toNat, 128]
@[reducible] def k0_t1_loop : Scf.Loop 32 :=
  let c0_i32_629 : BitVec 32 := 0#32
  let c2_i32 : BitVec 32 := 2#32
  let v1234 : BitVec 32 := Scalar.addi c0_i32_629 c2_i32
  let c1_i32_630 : BitVec 32 := 1#32
  ⟨c0_i32_629, v1234, c1_i32_630⟩
def k0_mult2 (k0_t1 : Fin k0_t1_loop.trips) : BitVec 32 :=
  let c512_i32 : BitVec 32 := 512#32
  let c256_i32_1647 : BitVec 32 := 256#32
  let c0_i32_629 : BitVec 32 := 0#32
  let c1_i32_630 : BitVec 32 := 1#32
  let arg8 : BitVec 32 := Scf.iv c0_i32_629 c1_i32_630 k0_t1
  let c1_i32_1646 : BitVec 32 := 1#32
  let v3204 : BitVec 32 := Scalar.addi arg8 c1_i32_1646
  let v3205 : BitVec 32 := Scalar.muli c256_i32_1647 v3204
  let v3206 : BitVec 32 := Scalar.subi c512_i32 v3205
  v3206
def k0_off3 (k0_t1 : Fin k0_t1_loop.trips) : Fin 3 → Nat :=
  let c0_1648 : Index := 0#32
  let c512_i32 : BitVec 32 := 512#32
  let c256_i32_1647 : BitVec 32 := 256#32
  let c0_i32_629 : BitVec 32 := 0#32
  let c1_i32_630 : BitVec 32 := 1#32
  let arg8 : BitVec 32 := Scf.iv c0_i32_629 c1_i32_630 k0_t1
  let c1_i32_1646 : BitVec 32 := 1#32
  let v3204 : BitVec 32 := Scalar.addi arg8 c1_i32_1646
  let v3205 : BitVec 32 := Scalar.muli c256_i32_1647 v3204
  let v3206 : BitVec 32 := Scalar.subi c512_i32 v3205
  let v3207 : BitVec 32 := v3206
  let v3208 : Index := Scalar.indexCast v3207
  let c0_1649 : Index := 0#32
  ![0, v3208.toNat, 0]
def k0_off4 (k0_t1 : Fin k0_t1_loop.trips) : Fin 3 → Nat :=
  let c0_1692 : Index := 0#32
  let c512_i32 : BitVec 32 := 512#32
  let c256_i32_1647 : BitVec 32 := 256#32
  let c0_i32_629 : BitVec 32 := 0#32
  let c1_i32_630 : BitVec 32 := 1#32
  let arg8 : BitVec 32 := Scf.iv c0_i32_629 c1_i32_630 k0_t1
  let c1_i32_1646 : BitVec 32 := 1#32
  let v3204 : BitVec 32 := Scalar.addi arg8 c1_i32_1646
  let v3205 : BitVec 32 := Scalar.muli c256_i32_1647 v3204
  let v3206 : BitVec 32 := Scalar.subi c512_i32 v3205
  let v3207 : BitVec 32 := v3206
  let v3288 : Index := Scalar.indexCast v3207
  let c128_1693 : Index := 128#32
  ![0, v3288.toNat, 128]
@[reducible] def k0_t2_loop : Scf.Loop 32 :=
  let c0_i32_825 : BitVec 32 := 0#32
  let c3_i32 : BitVec 32 := 3#32
  let v1613 : BitVec 32 := Scalar.addi c0_i32_825 c3_i32
  let c1_i32_826 : BitVec 32 := 1#32
  ⟨c0_i32_825, v1613, c1_i32_826⟩
def k0_mult3 (k0_t2 : Fin k0_t2_loop.trips) : BitVec 32 :=
  let c768_i32 : BitVec 32 := 768#32
  let c256_i32_1647 : BitVec 32 := 256#32
  let c0_i32_825 : BitVec 32 := 0#32
  let c1_i32_826 : BitVec 32 := 1#32
  let arg8 : BitVec 32 := Scf.iv c0_i32_825 c1_i32_826 k0_t2
  let c1_i32_1646 : BitVec 32 := 1#32
  let v3204 : BitVec 32 := Scalar.addi arg8 c1_i32_1646
  let v3205 : BitVec 32 := Scalar.muli c256_i32_1647 v3204
  let v3206 : BitVec 32 := Scalar.subi c768_i32 v3205
  v3206
def k0_off5 (k0_t2 : Fin k0_t2_loop.trips) : Fin 3 → Nat :=
  let c0_1648 : Index := 0#32
  let c768_i32 : BitVec 32 := 768#32
  let c256_i32_1647 : BitVec 32 := 256#32
  let c0_i32_825 : BitVec 32 := 0#32
  let c1_i32_826 : BitVec 32 := 1#32
  let arg8 : BitVec 32 := Scf.iv c0_i32_825 c1_i32_826 k0_t2
  let c1_i32_1646 : BitVec 32 := 1#32
  let v3204 : BitVec 32 := Scalar.addi arg8 c1_i32_1646
  let v3205 : BitVec 32 := Scalar.muli c256_i32_1647 v3204
  let v3206 : BitVec 32 := Scalar.subi c768_i32 v3205
  let v3207 : BitVec 32 := v3206
  let v3208 : Index := Scalar.indexCast v3207
  let c0_1649 : Index := 0#32
  ![0, v3208.toNat, 0]
def k0_off6 (k0_t2 : Fin k0_t2_loop.trips) : Fin 3 → Nat :=
  let c0_1692 : Index := 0#32
  let c768_i32 : BitVec 32 := 768#32
  let c256_i32_1647 : BitVec 32 := 256#32
  let c0_i32_825 : BitVec 32 := 0#32
  let c1_i32_826 : BitVec 32 := 1#32
  let arg8 : BitVec 32 := Scf.iv c0_i32_825 c1_i32_826 k0_t2
  let c1_i32_1646 : BitVec 32 := 1#32
  let v3204 : BitVec 32 := Scalar.addi arg8 c1_i32_1646
  let v3205 : BitVec 32 := Scalar.muli c256_i32_1647 v3204
  let v3206 : BitVec 32 := Scalar.subi c768_i32 v3205
  let v3207 : BitVec 32 := v3206
  let v3288 : Index := Scalar.indexCast v3207
  let c128_1693 : Index := 128#32
  ![0, v3288.toNat, 128]
@[reducible] def k0_t3_loop : Scf.Loop 32 :=
  let c0_i32_1021 : BitVec 32 := 0#32
  let c4_i32 : BitVec 32 := 4#32
  let v1992 : BitVec 32 := Scalar.addi c0_i32_1021 c4_i32
  let c1_i32_1022 : BitVec 32 := 1#32
  ⟨c0_i32_1021, v1992, c1_i32_1022⟩
def k0_mult4 (k0_t3 : Fin k0_t3_loop.trips) : BitVec 32 :=
  let c1024_i32 : BitVec 32 := 1024#32
  let c256_i32_1647 : BitVec 32 := 256#32
  let c0_i32_1021 : BitVec 32 := 0#32
  let c1_i32_1022 : BitVec 32 := 1#32
  let arg8 : BitVec 32 := Scf.iv c0_i32_1021 c1_i32_1022 k0_t3
  let c1_i32_1646 : BitVec 32 := 1#32
  let v3204 : BitVec 32 := Scalar.addi arg8 c1_i32_1646
  let v3205 : BitVec 32 := Scalar.muli c256_i32_1647 v3204
  let v3206 : BitVec 32 := Scalar.subi c1024_i32 v3205
  v3206
def k0_off7 (k0_t3 : Fin k0_t3_loop.trips) : Fin 3 → Nat :=
  let c0_1648 : Index := 0#32
  let c1024_i32 : BitVec 32 := 1024#32
  let c256_i32_1647 : BitVec 32 := 256#32
  let c0_i32_1021 : BitVec 32 := 0#32
  let c1_i32_1022 : BitVec 32 := 1#32
  let arg8 : BitVec 32 := Scf.iv c0_i32_1021 c1_i32_1022 k0_t3
  let c1_i32_1646 : BitVec 32 := 1#32
  let v3204 : BitVec 32 := Scalar.addi arg8 c1_i32_1646
  let v3205 : BitVec 32 := Scalar.muli c256_i32_1647 v3204
  let v3206 : BitVec 32 := Scalar.subi c1024_i32 v3205
  let v3207 : BitVec 32 := v3206
  let v3208 : Index := Scalar.indexCast v3207
  let c0_1649 : Index := 0#32
  ![0, v3208.toNat, 0]
def k0_off8 (k0_t3 : Fin k0_t3_loop.trips) : Fin 3 → Nat :=
  let c0_1692 : Index := 0#32
  let c1024_i32 : BitVec 32 := 1024#32
  let c256_i32_1647 : BitVec 32 := 256#32
  let c0_i32_1021 : BitVec 32 := 0#32
  let c1_i32_1022 : BitVec 32 := 1#32
  let arg8 : BitVec 32 := Scf.iv c0_i32_1021 c1_i32_1022 k0_t3
  let c1_i32_1646 : BitVec 32 := 1#32
  let v3204 : BitVec 32 := Scalar.addi arg8 c1_i32_1646
  let v3205 : BitVec 32 := Scalar.muli c256_i32_1647 v3204
  let v3206 : BitVec 32 := Scalar.subi c1024_i32 v3205
  let v3207 : BitVec 32 := v3206
  let v3288 : Index := Scalar.indexCast v3207
  let c128_1693 : Index := 128#32
  ![0, v3288.toNat, 128]
@[reducible] def k0_t4_loop : Scf.Loop 32 :=
  let c0_i32_1217 : BitVec 32 := 0#32
  let c5_i32 : BitVec 32 := 5#32
  let v2371 : BitVec 32 := Scalar.addi c0_i32_1217 c5_i32
  let c1_i32_1218 : BitVec 32 := 1#32
  ⟨c0_i32_1217, v2371, c1_i32_1218⟩
def k0_mult5 (k0_t4 : Fin k0_t4_loop.trips) : BitVec 32 :=
  let c1280_i32 : BitVec 32 := 1280#32
  let c256_i32_1647 : BitVec 32 := 256#32
  let c0_i32_1217 : BitVec 32 := 0#32
  let c1_i32_1218 : BitVec 32 := 1#32
  let arg8 : BitVec 32 := Scf.iv c0_i32_1217 c1_i32_1218 k0_t4
  let c1_i32_1646 : BitVec 32 := 1#32
  let v3204 : BitVec 32 := Scalar.addi arg8 c1_i32_1646
  let v3205 : BitVec 32 := Scalar.muli c256_i32_1647 v3204
  let v3206 : BitVec 32 := Scalar.subi c1280_i32 v3205
  v3206
def k0_off9 (k0_t4 : Fin k0_t4_loop.trips) : Fin 3 → Nat :=
  let c0_1648 : Index := 0#32
  let c1280_i32 : BitVec 32 := 1280#32
  let c256_i32_1647 : BitVec 32 := 256#32
  let c0_i32_1217 : BitVec 32 := 0#32
  let c1_i32_1218 : BitVec 32 := 1#32
  let arg8 : BitVec 32 := Scf.iv c0_i32_1217 c1_i32_1218 k0_t4
  let c1_i32_1646 : BitVec 32 := 1#32
  let v3204 : BitVec 32 := Scalar.addi arg8 c1_i32_1646
  let v3205 : BitVec 32 := Scalar.muli c256_i32_1647 v3204
  let v3206 : BitVec 32 := Scalar.subi c1280_i32 v3205
  let v3207 : BitVec 32 := v3206
  let v3208 : Index := Scalar.indexCast v3207
  let c0_1649 : Index := 0#32
  ![0, v3208.toNat, 0]
def k0_off10 (k0_t4 : Fin k0_t4_loop.trips) : Fin 3 → Nat :=
  let c0_1692 : Index := 0#32
  let c1280_i32 : BitVec 32 := 1280#32
  let c256_i32_1647 : BitVec 32 := 256#32
  let c0_i32_1217 : BitVec 32 := 0#32
  let c1_i32_1218 : BitVec 32 := 1#32
  let arg8 : BitVec 32 := Scf.iv c0_i32_1217 c1_i32_1218 k0_t4
  let c1_i32_1646 : BitVec 32 := 1#32
  let v3204 : BitVec 32 := Scalar.addi arg8 c1_i32_1646
  let v3205 : BitVec 32 := Scalar.muli c256_i32_1647 v3204
  let v3206 : BitVec 32 := Scalar.subi c1280_i32 v3205
  let v3207 : BitVec 32 := v3206
  let v3288 : Index := Scalar.indexCast v3207
  let c128_1693 : Index := 128#32
  ![0, v3288.toNat, 128]
@[reducible] def k0_t5_loop : Scf.Loop 32 :=
  let c0_i32_1413 : BitVec 32 := 0#32
  let c6_i32 : BitVec 32 := 6#32
  let v2750 : BitVec 32 := Scalar.addi c0_i32_1413 c6_i32
  let c1_i32_1414 : BitVec 32 := 1#32
  ⟨c0_i32_1413, v2750, c1_i32_1414⟩
def k0_mult6 (k0_t5 : Fin k0_t5_loop.trips) : BitVec 32 :=
  let c1536_i32 : BitVec 32 := 1536#32
  let c256_i32_1647 : BitVec 32 := 256#32
  let c0_i32_1413 : BitVec 32 := 0#32
  let c1_i32_1414 : BitVec 32 := 1#32
  let arg8 : BitVec 32 := Scf.iv c0_i32_1413 c1_i32_1414 k0_t5
  let c1_i32_1646 : BitVec 32 := 1#32
  let v3204 : BitVec 32 := Scalar.addi arg8 c1_i32_1646
  let v3205 : BitVec 32 := Scalar.muli c256_i32_1647 v3204
  let v3206 : BitVec 32 := Scalar.subi c1536_i32 v3205
  v3206
def k0_off11 (k0_t5 : Fin k0_t5_loop.trips) : Fin 3 → Nat :=
  let c0_1648 : Index := 0#32
  let c1536_i32 : BitVec 32 := 1536#32
  let c256_i32_1647 : BitVec 32 := 256#32
  let c0_i32_1413 : BitVec 32 := 0#32
  let c1_i32_1414 : BitVec 32 := 1#32
  let arg8 : BitVec 32 := Scf.iv c0_i32_1413 c1_i32_1414 k0_t5
  let c1_i32_1646 : BitVec 32 := 1#32
  let v3204 : BitVec 32 := Scalar.addi arg8 c1_i32_1646
  let v3205 : BitVec 32 := Scalar.muli c256_i32_1647 v3204
  let v3206 : BitVec 32 := Scalar.subi c1536_i32 v3205
  let v3207 : BitVec 32 := v3206
  let v3208 : Index := Scalar.indexCast v3207
  let c0_1649 : Index := 0#32
  ![0, v3208.toNat, 0]
def k0_off12 (k0_t5 : Fin k0_t5_loop.trips) : Fin 3 → Nat :=
  let c0_1692 : Index := 0#32
  let c1536_i32 : BitVec 32 := 1536#32
  let c256_i32_1647 : BitVec 32 := 256#32
  let c0_i32_1413 : BitVec 32 := 0#32
  let c1_i32_1414 : BitVec 32 := 1#32
  let arg8 : BitVec 32 := Scf.iv c0_i32_1413 c1_i32_1414 k0_t5
  let c1_i32_1646 : BitVec 32 := 1#32
  let v3204 : BitVec 32 := Scalar.addi arg8 c1_i32_1646
  let v3205 : BitVec 32 := Scalar.muli c256_i32_1647 v3204
  let v3206 : BitVec 32 := Scalar.subi c1536_i32 v3205
  let v3207 : BitVec 32 := v3206
  let v3288 : Index := Scalar.indexCast v3207
  let c128_1693 : Index := 128#32
  ![0, v3288.toNat, 128]
@[reducible] def k0_t6_loop : Scf.Loop 32 :=
  let c0_i32_1609 : BitVec 32 := 0#32
  let c7_i32 : BitVec 32 := 7#32
  let v3129 : BitVec 32 := Scalar.addi c0_i32_1609 c7_i32
  let c1_i32_1610 : BitVec 32 := 1#32
  ⟨c0_i32_1609, v3129, c1_i32_1610⟩
def k0_mult7 (k0_t6 : Fin k0_t6_loop.trips) : BitVec 32 :=
  let c1792_i32 : BitVec 32 := 1792#32
  let c256_i32_1647 : BitVec 32 := 256#32
  let c0_i32_1609 : BitVec 32 := 0#32
  let c1_i32_1610 : BitVec 32 := 1#32
  let arg8 : BitVec 32 := Scf.iv c0_i32_1609 c1_i32_1610 k0_t6
  let c1_i32_1646 : BitVec 32 := 1#32
  let v3204 : BitVec 32 := Scalar.addi arg8 c1_i32_1646
  let v3205 : BitVec 32 := Scalar.muli c256_i32_1647 v3204
  let v3206 : BitVec 32 := Scalar.subi c1792_i32 v3205
  v3206
def k0_off13 (k0_t6 : Fin k0_t6_loop.trips) : Fin 3 → Nat :=
  let c0_1648 : Index := 0#32
  let c1792_i32 : BitVec 32 := 1792#32
  let c256_i32_1647 : BitVec 32 := 256#32
  let c0_i32_1609 : BitVec 32 := 0#32
  let c1_i32_1610 : BitVec 32 := 1#32
  let arg8 : BitVec 32 := Scf.iv c0_i32_1609 c1_i32_1610 k0_t6
  let c1_i32_1646 : BitVec 32 := 1#32
  let v3204 : BitVec 32 := Scalar.addi arg8 c1_i32_1646
  let v3205 : BitVec 32 := Scalar.muli c256_i32_1647 v3204
  let v3206 : BitVec 32 := Scalar.subi c1792_i32 v3205
  let v3207 : BitVec 32 := v3206
  let v3208 : Index := Scalar.indexCast v3207
  let c0_1649 : Index := 0#32
  ![0, v3208.toNat, 0]
def k0_off14 (k0_t6 : Fin k0_t6_loop.trips) : Fin 3 → Nat :=
  let c0_1692 : Index := 0#32
  let c1792_i32 : BitVec 32 := 1792#32
  let c256_i32_1647 : BitVec 32 := 256#32
  let c0_i32_1609 : BitVec 32 := 0#32
  let c1_i32_1610 : BitVec 32 := 1#32
  let arg8 : BitVec 32 := Scf.iv c0_i32_1609 c1_i32_1610 k0_t6
  let c1_i32_1646 : BitVec 32 := 1#32
  let v3204 : BitVec 32 := Scalar.addi arg8 c1_i32_1646
  let v3205 : BitVec 32 := Scalar.muli c256_i32_1647 v3204
  let v3206 : BitVec 32 := Scalar.subi c1792_i32 v3205
  let v3207 : BitVec 32 := v3206
  let v3288 : Index := Scalar.indexCast v3207
  let c128_1693 : Index := 128#32
  ![0, v3288.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x3072 : Shape := ⟨3, ![32, 2048, 3072]⟩
abbrev S32x2048x3x16x64 : Shape := ⟨5, ![32, 2048, 3, 16, 64]⟩
abbrev S32x2048x1x16x64 : Shape := ⟨5, ![32, 2048, 1, 16, 64]⟩
abbrev S32x2048x16x64 : Shape := ⟨4, ![32, 2048, 16, 64]⟩
abbrev S32x16x2048x64 : Shape := ⟨4, ![32, 16, 2048, 64]⟩
abbrev S32x16x2048x2048 : Shape := ⟨4, ![32, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S32x2048x1024 : Shape := ⟨3, ![32, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x3072, .bf16⟩
  | .hbm, ⟨1, _⟩ => ⟨S32x2048x3x16x64, .bf16⟩
  | .hbm, ⟨2, _⟩ => ⟨S32x2048x1x16x64, .bf16⟩
  | .hbm, ⟨3, _⟩ => ⟨S32x2048x16x64, .bf16⟩
  | .hbm, ⟨4, _⟩ => ⟨S32x16x2048x64, .bf16⟩
  | .hbm, ⟨5, _⟩ => ⟨S32x2048x1x16x64, .bf16⟩
  | .hbm, ⟨6, _⟩ => ⟨S32x2048x16x64, .bf16⟩
  | .hbm, ⟨7, _⟩ => ⟨S32x16x2048x64, .bf16⟩
  | .hbm, ⟨8, _⟩ => ⟨S32x2048x1x16x64, .bf16⟩
  | .hbm, ⟨9, _⟩ => ⟨S32x2048x16x64, .bf16⟩
  | .hbm, ⟨10, _⟩ => ⟨S32x16x2048x64, .bf16⟩
  | .hbm, ⟨11, _⟩ => ⟨S32x16x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S32x16x2048x2048, .f32⟩
  | .hbm, ⟨20, _⟩ => ⟨S32x16x2048x2048, .f32⟩
  | .hbm, ⟨21, _⟩ => ⟨S_, .f32⟩
  | .hbm, ⟨22, _⟩ => ⟨S32x16x2048x2048, .f32⟩
  | .hbm, ⟨23, _⟩ => ⟨S32x16x2048x2048, .f32⟩
  | .hbm, ⟨24, _⟩ => ⟨S32x16x2048x2048, .f32⟩
  | .hbm, ⟨25, _⟩ => ⟨S32x16x2048x2048, .f32⟩
  | .hbm, ⟨26, _⟩ => ⟨S32x16x2048x2048, .i1⟩
  | .hbm, ⟨27, _⟩ => ⟨S32x16x2048x2048, .f32⟩
  | .hbm, ⟨28, _⟩ => ⟨S32x16x2048x2048, .f32⟩
  | .hbm, ⟨29, _⟩ => ⟨S32x16x2048x2048, .f32⟩
  | .hbm, ⟨30, _⟩ => ⟨S32x16x2048x2048, .f32⟩
  | .hbm, ⟨31, _⟩ => ⟨S32x16x2048x2048, .f32⟩
  | .hbm, ⟨32, _⟩ => ⟨S32x16x2048x2048, .f32⟩
  | .hbm, ⟨33, _⟩ => ⟨S32x16x2048x2048, .f32⟩
  | .hbm, ⟨34, _⟩ => ⟨S32x16x2048x2048, .f32⟩
  | .hbm, ⟨35, _⟩ => ⟨S32x16x2048x2048, .f32⟩
  | .hbm, ⟨36, _⟩ => ⟨S_, .f32⟩
  | .hbm, ⟨37, _⟩ => ⟨S_, .f32⟩
  | .hbm, ⟨38, _⟩ => ⟨S32x16x2048x2048, .i1⟩
  | .hbm, ⟨39, _⟩ => ⟨S32x16x2048x2048, .f32⟩
  | .hbm, ⟨40, _⟩ => ⟨S32x16x2048x2048, .f32⟩
  | .hbm, ⟨41, _⟩ => ⟨S_, .f32⟩
  | .hbm, ⟨42, _⟩ => ⟨S_, .f32⟩
  | .hbm, ⟨43, _⟩ => ⟨S32x16x2048x2048, .f32⟩
  | .hbm, ⟨44, _⟩ => ⟨S32x16x2048x2048, .f32⟩
  | .hbm, ⟨45, _⟩ => ⟨S32x16x2048x2048, .f32⟩
  | .hbm, ⟨46, _⟩ => ⟨S_, .f32⟩
  | .hbm, ⟨47, _⟩ => ⟨S32x16x2048x2048, .f32⟩
  | .hbm, ⟨48, _⟩ => ⟨S32x16x2048x2048, .f32⟩
  | .hbm, ⟨49, _⟩ => ⟨S32x16x2048x2048, .f32⟩
  | .hbm, ⟨50, _⟩ => ⟨S32x16x2048x2048, .f32⟩
  | .hbm, ⟨51, _⟩ => ⟨S32x16x2048x2048, .i1⟩
  | .hbm, ⟨52, _⟩ => ⟨S32x16x2048x2048, .f32⟩
  | .hbm, ⟨53, _⟩ => ⟨S32x16x2048x2048, .f32⟩
  | .hbm, ⟨54, _⟩ => ⟨S32x16x2048x2048, .f32⟩
  | .hbm, ⟨55, _⟩ => ⟨S32x16x2048x2048, .f32⟩
  | .hbm, ⟨56, _⟩ => ⟨S32x16x2048x2048, .f32⟩
  | .hbm, ⟨57, _⟩ => ⟨S32x16x2048x2048, .f32⟩
  | .hbm, ⟨58, _⟩ => ⟨S32x16x2048x2048, .f32⟩
  | .hbm, ⟨59, _⟩ => ⟨S32x16x2048x2048, .f32⟩
  | .hbm, ⟨60, _⟩ => ⟨S32x16x2048x2048, .f32⟩
  | .hbm, ⟨61, _⟩ => ⟨S32x16x2048x2048, .f32⟩
  | .hbm, ⟨62, _⟩ => ⟨S32x16x2048x2048, .f32⟩
  | .hbm, ⟨63, _⟩ => ⟨S_, .f32⟩
  | .hbm, ⟨64, _⟩ => ⟨S_, .f32⟩
  | .hbm, ⟨65, _⟩ => ⟨S32x16x2048x2048, .i1⟩
  | .hbm, ⟨66, _⟩ => ⟨S32x16x2048x2048, .f32⟩
  | .hbm, ⟨67, _⟩ => ⟨S32x16x2048x2048, .f32⟩
  | .hbm, ⟨68, _⟩ => ⟨S32x16x2048x2048, .bf16⟩
  | .hbm, ⟨69, _⟩ => ⟨S32x16x2048x64, .f32⟩
  | .hbm, ⟨70, _⟩ => ⟨S32x16x2048x64, .bf16⟩
  | .hbm, ⟨71, _⟩ => ⟨S32x2048x16x64, .bf16⟩
  | .hbm, ⟨72, _⟩ => ⟨S32x2048x1024, .bf16⟩
  | _, _ => ⟨S32x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024x3072 : Shape := ⟨2, ![1024, 3072]⟩
abbrev S32x2048x3072 : Shape := ⟨3, ![32, 2048, 3072]⟩
abbrev S1x512x1024 : Shape := ⟨3, ![1, 512, 1024]⟩
abbrev S1x512x3072 : Shape := ⟨3, ![1, 512, 3072]⟩
abbrev S512x1024 : Shape := ⟨2, ![512, 1024]⟩
abbrev S512x3072 : Shape := ⟨2, ![512, 3072]⟩
abbrev S512x2048 : Shape := ⟨2, ![512, 2048]⟩
abbrev S1x512x2048 : Shape := ⟨3, ![1, 512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x3072, .f32⟩
  | .hbm, ⟨2, _⟩ => ⟨S1024x3072, .bf16⟩
  | .hbm, ⟨3, _⟩ => ⟨S32x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x512x3072, .bf16⟩
  | .local _ .vmem, ⟨4, _⟩ => ⟨S1x512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32x2048x1024 : Shape := ⟨3, ![32, 2048, 1024]⟩
abbrev S1024x3072 : Shape := ⟨2, ![1024, 3072]⟩
abbrev S32x2048x3072 : Shape := ⟨3, ![32, 2048, 3072]⟩
abbrev S_ : Shape := ⟨0, ![]⟩
abbrev S32x2048x2048 : Shape := ⟨3, ![32, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x3072, .f32⟩
  | .hbm, ⟨2, _⟩ => ⟨S32x2048x1024, .bf16⟩
  | .hbm, ⟨3, _⟩ => ⟨S1024x3072, .bf16⟩
  | .hbm, ⟨4, _⟩ => ⟨S32x2048x3072, .f32⟩
  | .hbm, ⟨5, _⟩ => ⟨S32x2048x1024, .f32⟩
  | .hbm, ⟨6, _⟩ => ⟨S_, .f32⟩
  | .hbm, ⟨7, _⟩ => ⟨S32x2048x1024, .f32⟩
  | .hbm, ⟨8, _⟩ => ⟨S32x2048x1024, .f32⟩
  | .hbm, ⟨9, _⟩ => ⟨S32x2048x2048, .f32⟩
  | .hbm, ⟨10, _⟩ => ⟨S32x2048x3072, .f32⟩
  | .hbm, ⟨11, _⟩ => ⟨S32x2048x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S32x2048x1024 : Shape := ⟨3, ![32, 2048, 1024]⟩
abbrev S1024x1024 : Shape := ⟨2, ![1024, 1024]⟩
abbrev S1024 : Shape := ⟨1, ![1024]⟩
abbrev S1024x256 : Shape := ⟨2, ![1024, 256]⟩
abbrev S1x1024 : Shape := ⟨2, ![1, 1024]⟩
abbrev S32x2048x128 : Shape := ⟨3, ![32, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1024x128 : Shape := ⟨2, ![1024, 128]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x256, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32x2048x1024, .f32⟩
  | .hbm, ⟨10, _⟩ => ⟨S32x2048x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x128, .f32⟩
  | .local _ .vmem, ⟨11, _⟩ => ⟨S1x512x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S32x2048x1024 : Shape := ⟨3, ![32, 2048, 1024]⟩
abbrev S1024x1024 : Shape := ⟨2, ![1024, 1024]⟩
abbrev S1024 : Shape := ⟨1, ![1024]⟩
abbrev S1024x256 : Shape := ⟨2, ![1024, 256]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x256, .bf16⟩
  | .hbm, ⟨6, _⟩ => ⟨S1024x1024, .bf16⟩
  | .hbm, ⟨7, _⟩ => ⟨S32x2048x1024, .f32⟩
  | .hbm, ⟨8, _⟩ => ⟨S_, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S1x1x1024, .f32⟩
  | .hbm, ⟨36, _⟩ => ⟨S32x2048x1024, .f32⟩
  | .hbm, ⟨37, _⟩ => ⟨S32x2048x1024, .f32⟩
  | .hbm, ⟨38, _⟩ => ⟨S1x1x1024, .f32⟩
  | .hbm, ⟨39, _⟩ => ⟨S32x2048x1024, .f32⟩
  | .hbm, ⟨40, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel3.lean ====
abbrev S147456x1024 : Shape := ⟨2, ![147456, 1024]⟩
abbrev S288 : Shape := ⟨1, ![288]⟩
abbrev S1 : Shape := ⟨1, ![1]⟩
abbrev S4x32x1024x1024 : Shape := ⟨4, ![4, 32, 1024, 1024]⟩
abbrev S4x32x512x1024 : Shape := ⟨4, ![4, 32, 512, 1024]⟩
abbrev S512x1024 : Shape := ⟨2, ![512, 1024]⟩
abbrev S1x1x1024x1024 : Shape := ⟨4, ![1, 1, 1024, 1024]⟩
abbrev S1x1x512x1024 : Shape := ⟨4, ![1, 1, 512, 1024]⟩
abbrev S1024x1024 : Shape := ⟨2, ![1024, 1024]⟩
abbrev S512x512 : Shape := ⟨2, ![512, 512]⟩

abbrev nBuf : Space → Nat
  | .hbm => 4
  | .vmem => 10
  | .smem => 2
  | _ => 0

abbrev bufTy : (tb : Table) → Fin (tcTables nBuf tb) → BufTy
  | .hbm, ⟨0, _⟩ => ⟨S147456x1024, .f32⟩
  | .hbm, ⟨1, _⟩ => ⟨S4x32x1024x1024, .f32⟩
  | .hbm, ⟨2, _⟩ => ⟨S4x32x512x1024, .f32⟩
  | .hbm, ⟨3, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S147456x1024 : Shape := ⟨2, ![147456, 1024]⟩
abbrev S288 : Shape := ⟨1, ![288]⟩
abbrev S1 : Shape := ⟨1, ![1]⟩
abbrev S4x32x1024x1024 : Shape := ⟨4, ![4, 32, 1024, 1024]⟩
abbrev S4x32x512x1024 : Shape := ⟨4, ![4, 32, 512, 1024]⟩
abbrev S288x512x1024 : Shape := ⟨3, ![288, 512, 1024]⟩
abbrev S1x32x1024x1024 : Shape := ⟨4, ![1, 32, 1024, 1024]⟩
abbrev S32x1024x1024 : Shape := ⟨3, ![32, 1024, 1024]⟩
abbrev S_ : Shape := ⟨0, ![]⟩
abbrev S288x1 : Shape := ⟨2, ![288, 1]⟩
abbrev S288x1024x1024 : Shape := ⟨3, ![288, 1024, 1024]⟩
abbrev S288x512x512 : Shape := ⟨3, ![288, 512, 512]⟩
abbrev S1x32x512x1024 : Shape := ⟨4, ![1, 32, 512, 1024]⟩
abbrev S32x512x1024 : Shape := ⟨3, ![32, 512, 1024]⟩
abbrev S288x1x1 : Shape := ⟨3, ![288, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S1, .i32⟩
  | .hbm, ⟨3, _⟩ => ⟨S4x32x1024x1024, .f32⟩
  | .hbm, ⟨4, _⟩ => ⟨S4x32x512x1024, .f32⟩
  | .hbm, ⟨5, _⟩ => ⟨S288x512x1024, .f32⟩
  | .hbm, ⟨6, _⟩ => ⟨S288x512x1024, .bf16⟩
  | .hbm, ⟨7, _⟩ => ⟨S1x32x1024x1024, .f32⟩
  | .hbm, ⟨8, _⟩ => ⟨S32x1024x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x1024x1024, .f32⟩
  | .hbm, ⟨18, _⟩ => ⟨S288x1024x1024, .bf16⟩
  | .hbm, ⟨19, _⟩ => ⟨S288x512x1024, .f32⟩
  | .hbm, ⟨20, _⟩ => ⟨S288x512x512, .f32⟩
  | .hbm, ⟨21, _⟩ => ⟨S288x512x512, .f32⟩
  | .hbm, ⟨22, _⟩ => ⟨S288x512x512, .f32⟩
  | .hbm, ⟨23, _⟩ => ⟨S288x512x512, .f32⟩
  | .hbm, ⟨24, _⟩ => ⟨S_, .f32⟩
  | .hbm, ⟨25, _⟩ => ⟨S288x512x512, .f32⟩
  | .hbm, ⟨26, _⟩ => ⟨S288x512x512, .f32⟩
  | .hbm, ⟨27, _⟩ => ⟨S_, .f32⟩
  | .hbm, ⟨28, _⟩ => ⟨S288x512x512, .f32⟩
  | .hbm, ⟨29, _⟩ => ⟨S288x512x512, .f32⟩
  | .hbm, ⟨30, _⟩ => ⟨S288x512x512, .f32⟩
  | .hbm, ⟨31, _⟩ => ⟨S288x512x512, .f32⟩
  | .hbm, ⟨32, _⟩ => ⟨S288x512x512, .bf16⟩
  | .hbm, ⟨33, _⟩ => ⟨S1x32x512x1024, .f32⟩
  | .hbm, ⟨34, _⟩ => ⟨S32x512x1024, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x512x1024, .f32⟩
  | .hbm, ⟨44, _⟩ => ⟨S288x512x1024, .bf16⟩
  | .hbm, ⟨45, _⟩ => ⟨S288x512x1024, .f32⟩
  | .hbm, ⟨46, _⟩ => ⟨S288, .i32⟩
  | .hbm, ⟨47, _⟩ => ⟨S_, .i32⟩
  | .hbm, ⟨48, _⟩ => ⟨S288, .i32⟩
  | .hbm, ⟨49, _⟩ => ⟨S288, .i1⟩
  | .hbm, ⟨50, _⟩ => ⟨S288x1x1, .i1⟩
  | .hbm, ⟨51, _⟩ => ⟨S_, .f32⟩
  | .hbm, ⟨52, _⟩ => ⟨S_, .f32⟩
  | .hbm, ⟨53, _⟩ => ⟨S288x512x1024, .i1⟩
  | .hbm, ⟨54, _⟩ => ⟨S288x512x1024, .f32⟩
  | .hbm, ⟨55, _⟩ => ⟨S288x512x1024, .f32⟩
  | .hbm, ⟨56, _⟩ => ⟨S147456x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024x2560 : Shape := ⟨2, ![1024, 2560]⟩
abbrev S3x512 : Shape := ⟨2, ![3, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S1x512 : Shape := ⟨2, ![1, 512]⟩
abbrev S1x1024 : Shape := ⟨2, ![1, 1024]⟩
abbrev S32x2048x128 : Shape := ⟨3, ![32, 2048, 128]⟩
abbrev S1x512x1024 : Shape := ⟨3, ![1, 512, 1024]⟩
abbrev S1x512x128 : Shape := ⟨3, ![1, 512, 128]⟩
abbrev S512x2560 : Shape := ⟨2, ![512, 2560]⟩
abbrev S544x512 : Shape := ⟨2, ![544, 512]⟩
abbrev S512x1024 : Shape := ⟨2, ![512, 1024]⟩
abbrev S32x512 : Shape := ⟨2, ![32, 512]⟩
abbrev S512x512 : Shape := ⟨2, ![512, 512]⟩
abbrev S32 : Shape := ⟨1, ![32]⟩
abbrev S32x1 : Shape := ⟨2, ![32, 1]⟩
abbrev S512x1 : Shape := ⟨2, ![512, 1]⟩
abbrev S512x256 : Shape := ⟨2, ![512, 256]⟩
abbrev S1024x128 : Shape := ⟨2, ![1024, 128]⟩
abbrev S512x128 : Shape := ⟨2, ![512, 128]⟩

abbrev nBuf : Space → Nat
  | .hbm => 20
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024x2560, .f32⟩
  | .hbm, ⟨2, _⟩ => ⟨S3x512, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x256, .bf16⟩
  | .hbm, ⟨11, _⟩ => ⟨S1024x2560, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S32x2048x1024, .f32⟩
  | .hbm, ⟨19, _⟩ => ⟨S32x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S3x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x256, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x128, .f32⟩
  | .local _ .vmem, ⟨15, _⟩ => ⟨S1x512x128, .f32⟩
  | .local _ .vmem, ⟨16, _⟩ => ⟨S512x2560, .f32⟩
  | .local _ .vmem, ⟨17, _⟩ => ⟨S544x512, .f32⟩
  | .local _ .vmem, ⟨18, _⟩ => ⟨S544x512, .f32⟩
  | .local _ .vmem, ⟨19, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S32x2048x1024 : Shape := ⟨3, ![32, 2048, 1024]⟩
abbrev S1024x2560 : Shape := ⟨2, ![1024, 2560]⟩
abbrev S3x512 : Shape := ⟨2, ![3, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S32x2048x2560 : Shape := ⟨3, ![32, 2048, 2560]⟩
abbrev S32x2048x512 : Shape := ⟨3, ![32, 2048, 512]⟩
abbrev S_ : Shape := ⟨0, ![]⟩
abbrev S32x2050x512 : Shape := ⟨3, ![32, 2050, 512]⟩
abbrev S1x512 : Shape := ⟨2, ![1, 512]⟩
abbrev S1x1x512 : Shape := ⟨3, ![1, 1, 512]⟩
abbrev S32x2078x512 : Shape := ⟨3, ![32, 2078, 512]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 350
  | .vmem => 0
  | .smem => 0
  | _ => 0

abbrev hbmTy0_0 (i : Nat) : BufTy := match i % 128 with
  | 0 => ⟨S32x2048x1024, .f32⟩
  | 1 => ⟨S1024x2560, .f32⟩
  | 2 => ⟨S3x512, .f32⟩
  | 3 => ⟨S31x512, .f32⟩
  | 4 => ⟨S512, .f32⟩
  | 5 => ⟨S512, .f32⟩
  | 6 => ⟨S512, .f32⟩
  | 7 => ⟨S1024x1024, .f32⟩
  | 8 => ⟨S1024, .f32⟩
  | 9 => ⟨S1024, .f32⟩
  | 10 => ⟨S1024x256, .bf16⟩
  | 11 => ⟨S32x2048x1024, .bf16⟩
  | 12 => ⟨S1024x2560, .bf16⟩
  | 13 => ⟨S32x2048x2560, .f32⟩
  | 14 => ⟨S32x2048x512, .f32⟩
  | 15 => ⟨S32x2048x512, .f32⟩
  | 16 => ⟨S32x2048x512, .f32⟩
  | 17 => ⟨S32x2048x512, .f32⟩
  | 18 => ⟨S32x2048x512, .f32⟩
  | 19 => ⟨S32x2048x512, .f32⟩
  | 20 => ⟨S_, .i32⟩
  | 21 => ⟨S_, .f32⟩
  | 22 => ⟨S32x2050x512, .f32⟩
  | 23 => ⟨S1x512, .f32⟩
  | 24 => ⟨S512, .f32⟩
  | 25 => ⟨S32x2048x512, .f32⟩
  | 26 => ⟨S1x1x512, .f32⟩
  | 27 => ⟨S32x2048x512, .f32⟩
  | 28 => ⟨S32x2048x512, .f32⟩
  | 29 => ⟨S1x512, .f32⟩
  | 30 => ⟨S512, .f32⟩
  | 31 => ⟨S32x2048x512, .f32⟩
  | 32 => ⟨S1x1x512, .f32⟩
  | 33 => ⟨S32x2048x512, .f32⟩
  | 34 => ⟨S32x2048x512, .f32⟩
  | 35 => ⟨S32x2048x512, .f32⟩
  | 36 => ⟨S1x512, .f32⟩
  | 37 => ⟨S512, .f32⟩
  | 38 => ⟨S32x2048x512, .f32⟩
  | 39 => ⟨S1x1x512, .f32⟩
  | 40 => ⟨S32x2048x512, .f32⟩
  | 41 => ⟨S32x2048x512, .f32⟩
  | 42 => ⟨S32x2048x512, .f32⟩
  | 43 => ⟨S32x2048x512, .f32⟩
  | 44 => ⟨S32x2048x512, .f32⟩
  | 45 => ⟨S32x2048x512, .f32⟩
  | 46 => ⟨S_, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S32x2048x512, .f32⟩
  | 53 => ⟨S_, .i32⟩
  | 54 => ⟨S_, .f32⟩
  | 55 => ⟨S32x2078x512, .f32⟩
  | 56 => ⟨S1x512, .f32⟩
  | 57 => ⟨S512, .f32⟩
  | 58 => ⟨S32x2048x512, .f32⟩
  | 59 => ⟨S1x1x512, .f32⟩
  | 60 => ⟨S32x2048x512, .f32⟩
  | 61 => ⟨S32x2048x512, .f32⟩
  | 62 => ⟨S1x512, .f32⟩
  | 63 => ⟨S512, .f32⟩
  | 64 => ⟨S32x2048x512, .f32⟩
  | 65 => ⟨S1x1x512, .f32⟩
  | 66 => ⟨S32x2048x512, .f32⟩
  | 67 => ⟨S32x2048x512, .f32⟩
  | 68 => ⟨S32x2048x512, .f32⟩
  | 69 => ⟨S1x512, .f32⟩
  | 70 => ⟨S512, .f32⟩
  | 71 => ⟨S32x2048x512, .f32⟩
  | 72 => ⟨S1x1x512, .f32⟩
  | 73 => ⟨S32x2048x512, .f32⟩
  | 74 => ⟨S32x2048x512, .f32⟩
  | 75 => ⟨S32x2048x512, .f32⟩
  | 76 => ⟨S1x512, .f32⟩
  | 77 => ⟨S512, .f32⟩
  | 78 => ⟨S32x2048x512, .f32⟩
  | 79 => ⟨S1x1x512, .f32⟩
  | 80 => ⟨S32x2048x512, .f32⟩
  | 81 => ⟨S32x2048x512, .f32⟩
  | 82 => ⟨S32x2048x512, .f32⟩
  | 83 => ⟨S1x512, .f32⟩
  | 84 => ⟨S512, .f32⟩
  | 85 => ⟨S32x2048x512, .f32⟩
  | 86 => ⟨S1x1x512, .f32⟩
  | 87 => ⟨S32x2048x512, .f32⟩
  | 88 => ⟨S32x2048x512, .f32⟩
  | 89 => ⟨S32x2048x512, .f32⟩
  | 90 => ⟨S1x512, .f32⟩
  | 91 => ⟨S512, .f32⟩
  | 92 => ⟨S32x2048x512, .f32⟩
  | 93 => ⟨S1x1x512, .f32⟩
  | 94 => ⟨S32x2048x512, .f32⟩
  | 95 => ⟨S32x2048x512, .f32⟩
  | 96 => ⟨S32x2048x512, .f32⟩
  | 97 => ⟨S1x512, .f32⟩
  | 98 => ⟨S512, .f32⟩
  | 99 => ⟨S32x2048x512, .f32⟩
  | 100 => ⟨S1x1x512, .f32⟩
  | 101 => ⟨S32x2048x512, .f32⟩
  | 102 => ⟨S32x2048x512, .f32⟩
  | 103 => ⟨S32x2048x512, .f32⟩
  | 104 => ⟨S1x512, .f32⟩
  | 105 => ⟨S512, .f32⟩
  | 106 => ⟨S32x2048x512, .f32⟩
  | 107 => ⟨S1x1x512, .f32⟩
  | 108 => ⟨S32x2048x512, .f32⟩
  | 109 => ⟨S32x2048x512, .f32⟩
  | 110 => ⟨S32x2048x512, .f32⟩
  | 111 => ⟨S1x512, .f32⟩
  | 112 => ⟨S512, .f32⟩
  | 113 => ⟨S32x2048x512, .f32⟩
  | 114 => ⟨S1x1x512, .f32⟩
  | 115 => ⟨S32x2048x512, .f32⟩
  | 116 => ⟨S32x2048x512, .f32⟩
  | 117 => ⟨S32x2048x512, .f32⟩
  | 118 => ⟨S1x512, .f32⟩
  | 119 => ⟨S512, .f32⟩
  | 120 => ⟨S32x2048x512, .f32⟩
  | 121 => ⟨S1x1x512, .f32⟩
  | 122 => ⟨S32x2048x512, .f32⟩
  | 123 => ⟨S32x2048x512, .f32⟩
  | 124 => ⟨S32x2048x512, .f32⟩
  | 125 => ⟨S1x512, .f32⟩
  | 126 => ⟨S512, .f32⟩
  | 127 => ⟨S32x2048x512, .f32⟩
  | _ => ⟨S32x2048x1024, .f32⟩

abbrev hbmTy0_1 (i : Nat) : BufTy := match i % 128 with
  | 0 => ⟨S1x1x512, .f32⟩
  | 1 => ⟨S32x2048x512, .f32⟩
  | 2 => ⟨S32x2048x512, .f32⟩
  | 3 => ⟨S32x2048x512, .f32⟩
  | 4 => ⟨S1x512, .f32⟩
  | 5 => ⟨S512, .f32⟩
  | 6 => ⟨S32x2048x512, .f32⟩
  | 7 => ⟨S1x1x512, .f32⟩
  | 8 => ⟨S32x2048x512, .f32⟩
  | 9 => ⟨S32x2048x512, .f32⟩
  | 10 => ⟨S32x2048x512, .f32⟩
  | 11 => ⟨S1x512, .f32⟩
  | 12 => ⟨S512, .f32⟩
  | 13 => ⟨S32x2048x512, .f32⟩
  | 14 => ⟨S1x1x512, .f32⟩
  | 15 => ⟨S32x2048x512, .f32⟩
  | 16 => ⟨S32x2048x512, .f32⟩
  | 17 => ⟨S32x2048x512, .f32⟩
  | 18 => ⟨S1x512, .f32⟩
  | 19 => ⟨S512, .f32⟩
  | 20 => ⟨S32x2048x512, .f32⟩
  | 21 => ⟨S1x1x512, .f32⟩
  | 22 => ⟨S32x2048x512, .f32⟩
  | 23 => ⟨S32x2048x512, .f32⟩
  | 24 => ⟨S32x2048x512, .f32⟩
  | 25 => ⟨S1x512, .f32⟩
  | 26 => ⟨S512, .f32⟩
  | 27 => ⟨S32x2048x512, .f32⟩
  | 28 => ⟨S1x1x512, .f32⟩
  | 29 => ⟨S32x2048x512, .f32⟩
  | 30 => ⟨S32x2048x512, .f32⟩
  | 31 => ⟨S32x2048x512, .f32⟩
  | 32 => ⟨S1x512, .f32⟩
  | 33 => ⟨S512, .f32⟩
  | 34 => ⟨S32x2048x512, .f32⟩
  | 35 => ⟨S1x1x512, .f32⟩
  | 36 => ⟨S32x2048x512, .f32⟩
  | 37 => ⟨S32x2048x512, .f32⟩
  | 38 => ⟨S32x2048x512, .f32⟩
  | 39 => ⟨S1x512, .f32⟩
  | 40 => ⟨S512, .f32⟩
  | 41 => ⟨S32x2048x512, .f32⟩
  | 42 => ⟨S1x1x512, .f32⟩
  | 43 => ⟨S32x2048x512, .f32⟩
  | 44 => ⟨S32x2048x512, .f32⟩
  | 45 => ⟨S32x2048x512, .f32⟩
  | 46 => ⟨S1x512, .f32⟩
  | 47 => ⟨S512, .f32⟩
  | 48 => ⟨S32x2048x512, .f32⟩
  | 49 => ⟨S1x1x512, .f32⟩
  | 50 => ⟨S32x2048x512, .f32⟩
  | 51 => ⟨S32x2048x512, .f32⟩
  | 52 => ⟨S32x2048x512, .f32⟩
  | 53 => ⟨S1x512, .f32⟩
  | 54 => ⟨S512, .f32⟩
  | 55 => ⟨S32x2048x512, .f32⟩
  | 56 => ⟨S1x1x512, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S32x2048x512, .f32⟩
  | 63 => ⟨S1x1x512, .f32⟩
  | 64 => ⟨S32x2048x512, .f32⟩
  | 65 => ⟨S32x2048x512, .f32⟩
  | 66 => ⟨S32x2048x512, .f32⟩
  | 67 => ⟨S1x512, .f32⟩
  | 68 => ⟨S512, .f32⟩
  | 69 => ⟨S32x2048x512, .f32⟩
  | 70 => ⟨S1x1x512, .f32⟩
  | 71 => ⟨S32x2048x512, .f32⟩
  | 72 => ⟨S32x2048x512, .f32⟩
  | 73 => ⟨S32x2048x512, .f32⟩
  | 74 => ⟨S1x512, .f32⟩
  | 75 => ⟨S512, .f32⟩
  | 76 => ⟨S32x2048x512, .f32⟩
  | 77 => ⟨S1x1x512, .f32⟩
  | 78 => ⟨S32x2048x512, .f32⟩
  | 79 => ⟨S32x2048x512, .f32⟩
  | 80 => ⟨S32x2048x512, .f32⟩
  | 81 => ⟨S1x512, .f32⟩
  | 82 => ⟨S512, .f32⟩
  | 83 => ⟨S32x2048x512, .f32⟩
  | 84 => ⟨S1x1x512, .f32⟩
  | 85 => ⟨S32x2048x512, .f32⟩
  | 86 => ⟨S32x2048x512, .f32⟩
  | 87 => ⟨S32x2048x512, .f32⟩
  | 88 => ⟨S1x512, .f32⟩
  | 89 => ⟨S512, .f32⟩
  | 90 => ⟨S32x2048x512, .f32⟩
  | 91 => ⟨S1x1x512, .f32⟩
  | 92 => ⟨S32x2048x512, .f32⟩
  | 93 => ⟨S32x2048x512, .f32⟩
  | 94 => ⟨S32x2048x512, .f32⟩
  | 95 => ⟨S1x512, .f32⟩
  | 96 => ⟨S512, .f32⟩
  | 97 => ⟨S32x2048x512, .f32⟩
  | 98 => ⟨S1x1x512, .f32⟩
  | 99 => ⟨S32x2048x512, .f32⟩
  | 100 => ⟨S32x2048x512, .f32⟩
  | 101 => ⟨S32x2048x512, .f32⟩
  | 102 => ⟨S1x512, .f32⟩
  | 103 => ⟨S512, .f32⟩
  | 104 => ⟨S32x2048x512, .f32⟩
  | 105 => ⟨S1x1x512, .f32⟩
  | 106 => ⟨S32x2048x512, .f32⟩
  | 107 => ⟨S32x2048x512, .f32⟩
  | 108 => ⟨S32x2048x512, .f32⟩
  | 109 => ⟨S1x512, .f32⟩
  | 110 => ⟨S512, .f32⟩
  | 111 => ⟨S32x2048x512, .f32⟩
  | 112 => ⟨S1x1x512, .f32⟩
  | 113 => ⟨S32x2048x512, .f32⟩
  | 114 => ⟨S32x2048x512, .f32⟩
  | 115 => ⟨S32x2048x512, .f32⟩
  | 116 => ⟨S1x512, .f32⟩
  | 117 => ⟨S512, .f32⟩
  | 118 => ⟨S32x2048x512, .f32⟩
  | 119 => ⟨S1x1x512, .f32⟩
  | 120 => ⟨S32x2048x512, .f32⟩
  | 121 => ⟨S32x2048x512, .f32⟩
  | 122 => ⟨S32x2048x512, .f32⟩
  | 123 => ⟨S1x512, .f32⟩
  | 124 => ⟨S512, .f32⟩
  | 125 => ⟨S32x2048x512, .f32⟩
  | 126 => ⟨S1x1x512, .f32⟩
  | 127 => ⟨S32x2048x512, .f32⟩
  | _ => ⟨S32x2048x1024, .f32⟩

abbrev hbmTy0_2 (i : Nat) : BufTy := match i % 128 with
  | 0 => ⟨S32x2048x512, .f32⟩
  | 1 => ⟨S32x2048x512, .f32⟩
  | 2 => ⟨S1x512, .f32⟩
  | 3 => ⟨S512, .f32⟩
  | 4 => ⟨S32x2048x512, .f32⟩
  | 5 => ⟨S1x1x512, .f32⟩
  | 6 => ⟨S32x2048x512, .f32⟩
  | 7 => ⟨S32x2048x512, .f32⟩
  | 8 => ⟨S32x2048x512, .f32⟩
  | 9 => ⟨S1x512, .f32⟩
  | 10 => ⟨S512, .f32⟩
  | 11 => ⟨S32x2048x512, .f32⟩
  | 12 => ⟨S1x1x512, .f32⟩
  | 13 => ⟨S32x2048x512, .f32⟩
  | 14 => ⟨S32x2048x512, .f32⟩
  | 15 => ⟨S32x2048x512, .f32⟩
  | 16 => ⟨S1x1x512, .f32⟩
  | 17 => ⟨S32x2048x512, .f32⟩
  | 18 => ⟨S32x2048x512, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S32x2048x512, .f32⟩
  | 26 => ⟨S32x2048x512, .f32⟩
  | 27 => ⟨S32x2048x512, .f32⟩
  | 28 => ⟨S_, .f32⟩
  | 29 => ⟨S32x2048, .f32⟩
  | 30 => ⟨S32x2048x1, .f32⟩
  | 31 => ⟨S_, .f32⟩
  | 32 => ⟨S32x2048x1, .f32⟩
  | 33 => ⟨S32x2048x1, .f32⟩
  | 34 => ⟨S32x2048x512, .f32⟩
  | 35 => ⟨S32x2048x512, .f32⟩
  | 36 => ⟨S_, .f32⟩
  | 37 => ⟨S32x2048x1, .f32⟩
  | 38 => ⟨S32x2048x1, .f32⟩
  | 39 => ⟨S32x2048x1, .f32⟩
  | 40 => ⟨S32x2048x512, .f32⟩
  | 41 => ⟨S32x2048x512, .f32⟩
  | 42 => ⟨S1x1x512, .f32⟩
  | 43 => ⟨S32x2048x512, .f32⟩
  | 44 => ⟨S32x2048x512, .f32⟩
  | 45 => ⟨S1x1x512, .f32⟩
  | 46 => ⟨S32x2048x512, .f32⟩
  | 47 => ⟨S32x2048x512, .f32⟩
  | 48 => ⟨S32x2048x512, .f32⟩
  | 49 => ⟨S32x2048x512, .f32⟩
  | 50 => ⟨S_, .f32⟩
  | 51 => ⟨S32x2048x512, .f32⟩
  | 52 => ⟨S32x2048x512, .f32⟩
  | 53 => ⟨S_, .f32⟩
  | 54 => ⟨S32x2048x512, .f32⟩
  | 55 => ⟨S32x2048x512, .f32⟩
  | 56 => ⟨S32x2048x512, .f32⟩
  | 57 => ⟨S32x2048x1024, .f32⟩
  | 58 => ⟨S32x2048x1024, .bf16⟩
  | 59 => ⟨S1024x1024, .bf16⟩
  | 60 => ⟨S32x2048x1024, .f32⟩
  | 61 => ⟨S_, .f32⟩
  | 62 => ⟨S32x2048x1024, .f32⟩
  | 63 => ⟨S32x2048x1024, .f32⟩
  | 64 => ⟨S32x2048x1024, .f32⟩
  | 65 => ⟨S_, .f32⟩
  | 66 => ⟨S32x2048, .f32⟩
  | 67 => ⟨S32x2048x1, .f32⟩
  | 68 => ⟨S_, .f32⟩
  | 69 => ⟨S32x2048x1, .f32⟩
  | 70 => ⟨S32x2048x1, .f32⟩
  | 71 => ⟨S32x2048x1024, .f32⟩
  | 72 => ⟨S32x2048x1024, .f32⟩
  | 73 => ⟨S32x2048x1024, .f32⟩
  | 74 => ⟨S_, .f32⟩
  | 75 => ⟨S32x2048, .f32⟩
  | 76 => ⟨S32x2048x1, .f32⟩
  | 77 => ⟨S_, .f32⟩
  | 78 => ⟨S32x2048x1, .f32⟩
  | 79 => ⟨S32x2048x1, .f32⟩
  | 80 => ⟨S32x2048x1024, .f32⟩
  | 81 => ⟨S32x2048x1024, .f32⟩
  | 82 => ⟨S_, .f32⟩
  | 83 => ⟨S32x2048x1, .f32⟩
  | 84 => ⟨S32x2048x1, .f32⟩
  | 85 => ⟨S32x2048x1, .f32⟩
  | 86 => ⟨S32x2048x1024, .f32⟩
  | 87 => ⟨S32x2048x1024, .f32⟩
  | 88 => ⟨S1x1x1024, .f32⟩
  | 89 => ⟨S32x2048x1024, .f32⟩
  | 90 => ⟨S32x2048x1024, .f32⟩
  | 91 => ⟨S1x1x1024, .f32⟩
  | 92 => ⟨S32x2048x1024, .f32⟩
  | 93 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_2 : Ref sig .tc := ⟨.hbm, 275, rfl⟩
abbrev main_v258 : Ref sig .tc := ⟨.hbm, 276, rfl⟩
abbrev main_v259 : Ref sig .tc := ⟨.hbm, 277, rfl⟩
abbrev main_cst_3 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_cst_4 : Ref sig .tc := ⟨.hbm, 284, rfl⟩
abbrev main_v265 : Ref sig .tc := ⟨.hbm, 285, rfl⟩
abbrev main_v266 : Ref sig .tc := ⟨.hbm, 286, rfl⟩
abbrev main_cst_5 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_cst_6 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_call2_v0 : Ref sig .tc := ⟨.hbm, 304, rfl⟩
abbrev main_call2_v1 : Ref sig .tc := ⟨.hbm, 305, rfl⟩
abbrev main_call2_cst : Ref sig .tc := ⟨.hbm, 306, rfl⟩
abbrev main_call2_v2 : Ref sig .tc := ⟨.hbm, 307, rfl⟩
abbrev main_call2_v3 : Ref sig .tc := ⟨.hbm, 308, rfl⟩
abbrev main_call2_cst_0 : Ref sig .tc := ⟨.hbm, 309, rfl⟩
abbrev main_call2_v4 : Ref sig .tc := ⟨.hbm, 310, rfl⟩
abbrev main_call2_v5 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_cst_7 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_cst_8 : Ref sig .tc := ⟨.hbm, 321, rfl⟩
abbrev main_v290 : Ref sig .tc := ⟨.hbm, 322, rfl⟩
abbrev main_v291 : Ref sig .tc := ⟨.hbm, 323, rfl⟩
abbrev main_cst_9 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_cst_10 : Ref sig .tc := ⟨.hbm, 330, rfl⟩
abbrev main_v297 : Ref sig .tc := ⟨.hbm, 331, rfl⟩
abbrev main_v298 : Ref sig .tc := ⟨.hbm, 332, rfl⟩
abbrev main_cst_11 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_12 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩

abbrev nD : Nat := 1
abbrev τ : Topo := Topo.v7x

variable {F : FTy → Type} [FloatOps F]
-- ==== Kernel6.lean ====
abbrev S65536x1024 : Shape := ⟨2, ![65536, 1024]⟩
abbrev S65536x2 : Shape := ⟨2, ![65536, 2]⟩
abbrev S131072x1024 : Shape := ⟨2, ![131072, 1024]⟩
abbrev S1024 : Shape := ⟨1, ![1024]⟩
abbrev S1x1024 : Shape := ⟨2, ![1, 1024]⟩
abbrev S512x1024 : Shape := ⟨2, ![512, 1024]⟩
abbrev S512x2 : Shape := ⟨2, ![512, 2]⟩
abbrev S512x1 : Shape := ⟨2, ![512, 1]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x2, .f32⟩
  | .hbm, ⟨2, _⟩ => ⟨S131072x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2, .f32⟩
  | .local _ .vmem, ⟨3, _⟩ => ⟨S512x2, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S65536x1024 : Shape := ⟨2, ![65536, 1024]⟩
abbrev S65536x2 : Shape := ⟨2, ![65536, 2]⟩
abbrev S131072x1024 : Shape := ⟨2, ![131072, 1024]⟩
abbrev S1024 : Shape := ⟨1, ![1024]⟩
abbrev S2x65536x1024 : Shape := ⟨3, ![2, 65536, 1024]⟩
abbrev S2x65536 : Shape := ⟨2, ![2, 65536]⟩
abbrev S2x65536x1 : Shape := ⟨3, ![2, 65536, 1]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2, .f32⟩
  | .hbm, ⟨2, _⟩ => ⟨S131072x1024, .f32⟩
  | .hbm, ⟨3, _⟩ => ⟨S1024, .f32⟩
  | .hbm, ⟨4, _⟩ => ⟨S1024, .f32⟩
  | .hbm, ⟨5, _⟩ => ⟨S2x65536x1024, .f32⟩
  | .hbm, ⟨6, _⟩ => ⟨S2x65536, .f32⟩
  | .hbm, ⟨7, _⟩ => ⟨S2x65536x1, .f32⟩
  | .hbm, ⟨8, _⟩ => ⟨S2x65536x1024, .f32⟩
  | .hbm, ⟨9, _⟩ => ⟨S2x65536x1024, .f32⟩
  | .hbm, ⟨10, _⟩ => ⟨S_, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel7.lean ====
abbrev S32x2048x1024 : Shape := ⟨3, ![32, 2048, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1024x256 : Shape := ⟨2, ![1024, 256]⟩
abbrev S1x1024 : Shape := ⟨2, ![1, 1024]⟩
abbrev S32x2048x128 : Shape := ⟨3, ![32, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 21
  | .vmem => 12
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S1024x36, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x256, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S32x2048x1024, .f32⟩
  | .hbm, ⟨20, _⟩ => ⟨S32x2048x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x128, .f32⟩
  | .local _ .vmem, ⟨11, _⟩ => ⟨S1x512x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S32x2048x1024 : Shape := ⟨3, ![32, 2048, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4 : Shape := ⟨3, ![32, 2048, 4]⟩
abbrev S32x2048x32 : Shape := ⟨3, ![32, 2048, 32]⟩
abbrev S32x2048x36 : Shape := ⟨3, ![32, 2048, 36]⟩
abbrev S32x2048x128 : Shape := ⟨3, ![32, 2048, 128]⟩

abbrev nBuf : Space → Nat
  | .hbm => 48
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S1024x1024, .bf16⟩
  | .hbm, ⟨8, _⟩ => ⟨S32x2048x1024, .f32⟩
  | .hbm, ⟨9, _⟩ => ⟨S_, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S32x2048x1, .f32⟩
  | .hbm, ⟨34, _⟩ => ⟨S32x2048x1024, .f32⟩
  | .hbm, ⟨35, _⟩ => ⟨S32x2048x1024, .f32⟩
  | .hbm, ⟨36, _⟩ => ⟨S1x1x1024, .f32⟩
  | .hbm, ⟨37, _⟩ => ⟨S32x2048x1024, .f32⟩
  | .hbm, ⟨38, _⟩ => ⟨S32x2048x1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | .hbm, ⟨42, _⟩ => ⟨S32x2048x4, .f32⟩
  | .hbm, ⟨43, _⟩ => ⟨S32x2048x32, .f32⟩
  | .hbm, ⟨44, _⟩ => ⟨S32x2048x36, .f32⟩
  | .hbm, ⟨45, _⟩ => ⟨S_, .i32⟩
  | .hbm, ⟨46, _⟩ => ⟨S_, .f32⟩
  | .hbm, ⟨47, _⟩ => ⟨S32x2048x128, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call0_v0 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel8.lean ====
abbrev S32x2048x1024 : Shape := ⟨3, ![32, 2048, 1024]⟩
abbrev S1024x2560 : Shape := ⟨2, ![1024, 2560]⟩
abbrev S3x512 : Shape := ⟨2, ![3, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S1x512 : Shape := ⟨2, ![1, 512]⟩
abbrev S1x1024 : Shape := ⟨2, ![1, 1024]⟩
abbrev S32x2048x128 : Shape := ⟨3, ![32, 2048, 128]⟩
abbrev S1x512x1024 : Shape := ⟨3, ![1, 512, 1024]⟩
abbrev S1x512x128 : Shape := ⟨3, ![1, 512, 128]⟩
abbrev S512x2560 : Shape := ⟨2, ![512, 2560]⟩
abbrev S544x512 : Shape := ⟨2, ![544, 512]⟩
abbrev S512x1024 : Shape := ⟨2, ![512, 1024]⟩
abbrev S32x512 : Shape := ⟨2, ![32, 512]⟩
abbrev S512x512 : Shape := ⟨2, ![512, 512]⟩
abbrev S32 : Shape := ⟨1, ![32]⟩
abbrev S32x1 : Shape := ⟨2, ![32, 1]⟩
abbrev S512x1 : Shape := ⟨2, ![512, 1]⟩
abbrev S512x256 : Shape := ⟨2, ![512, 256]⟩
abbrev S1024x128 : Shape := ⟨2, ![1024, 128]⟩
abbrev S512x128 : Shape := ⟨2, ![512, 128]⟩

abbrev nBuf : Space → Nat
  | .hbm => 20
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024x2560, .f32⟩
  | .hbm, ⟨2, _⟩ => ⟨S3x512, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x256, .bf16⟩
  | .hbm, ⟨11, _⟩ => ⟨S1024x2560, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S32x2048x1024, .f32⟩
  | .hbm, ⟨19, _⟩ => ⟨S32x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S3x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x256, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x128, .f32⟩
  | .local _ .vmem, ⟨15, _⟩ => ⟨S1x512x128, .f32⟩
  | .local _ .vmem, ⟨16, _⟩ => ⟨S512x2560, .f32⟩
  | .local _ .vmem, ⟨17, _⟩ => ⟨S544x512, .f32⟩
  | .local _ .vmem, ⟨18, _⟩ => ⟨S544x512, .f32⟩
  | .local _ .vmem, ⟨19, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference8Ideal.lean ====
abbrev S32x2048x1024 : Shape := ⟨3, ![32, 2048, 1024]⟩
abbrev S1024x2560 : Shape := ⟨2, ![1024, 2560]⟩
abbrev S3x512 : Shape := ⟨2, ![3, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S32x2048x2560 : Shape := ⟨3, ![32, 2048, 2560]⟩
abbrev S32x2048x512 : Shape := ⟨3, ![32, 2048, 512]⟩
abbrev S_ : Shape := ⟨0, ![]⟩
abbrev S32x2050x512 : Shape := ⟨3, ![32, 2050, 512]⟩
abbrev S1x512 : Shape := ⟨2, ![1, 512]⟩
abbrev S1x1x512 : Shape := ⟨3, ![1, 1, 512]⟩
abbrev S32x2078x512 : Shape := ⟨3, ![32, 2078, 512]⟩
abbrev S32x2048 : Shape := ⟨2, ![32, 2048]⟩
abbrev S32x2048x1 : Shape := ⟨3, ![32, 2048, 1]⟩
abbrev S1x1x1024 : Shape := ⟨3, ![1, 1, 1024]⟩
abbrev S1024x128 : Shape := ⟨2, ![1024, 128]⟩
abbrev S32x2048x128 : Shape := ⟨3, ![32, 2048, 128]⟩

abbrev nBuf : Space → Nat
  | .hbm => 356
  | .vmem => 0
  | .smem => 0
  | _ => 0

abbrev hbmTy0_0 (i : Nat) : BufTy := match i % 128 with
  | 0 => ⟨S32x2048x1024, .f32⟩
  | 1 => ⟨S1024x2560, .f32⟩
  | 2 => ⟨S3x512, .f32⟩
  | 3 => ⟨S31x512, .f32⟩
  | 4 => ⟨S512, .f32⟩
  | 5 => ⟨S512, .f32⟩
  | 6 => ⟨S512, .f32⟩
  | 7 => ⟨S1024x1024, .f32⟩
  | 8 => ⟨S1024, .f32⟩
  | 9 => ⟨S1024, .f32⟩
  | 10 => ⟨S1024x256, .bf16⟩
  | 11 => ⟨S32x2048x1024, .bf16⟩
  | 12 => ⟨S1024x2560, .bf16⟩
  | 13 => ⟨S32x2048x2560, .f32⟩
  | 14 => ⟨S32x2048x512, .f32⟩
  | 15 => ⟨S32x2048x512, .f32⟩
  | 16 => ⟨S32x2048x512, .f32⟩
  | 17 => ⟨S32x2048x512, .f32⟩
  | 18 => ⟨S32x2048x512, .f32⟩
  | 19 => ⟨S32x2048x512, .f32⟩
  | 20 => ⟨S_, .i32⟩
  | 21 => ⟨S_, .f32⟩
  | 22 => ⟨S32x2050x512, .f32⟩
  | 23 => ⟨S1x512, .f32⟩
  | 24 => ⟨S512, .f32⟩
  | 25 => ⟨S32x2048x512, .f32⟩
  | 26 => ⟨S1x1x512, .f32⟩
  | 27 => ⟨S32x2048x512, .f32⟩
  | 28 => ⟨S32x2048x512, .f32⟩
  | 29 => ⟨S1x512, .f32⟩
  | 30 => ⟨S512, .f32⟩
  | 31 => ⟨S32x2048x512, .f32⟩
  | 32 => ⟨S1x1x512, .f32⟩
  | 33 => ⟨S32x2048x512, .f32⟩
  | 34 => ⟨S32x2048x512, .f32⟩
  | 35 => ⟨S32x2048x512, .f32⟩
  | 36 => ⟨S1x512, .f32⟩
  | 37 => ⟨S512, .f32⟩
  | 38 => ⟨S32x2048x512, .f32⟩
  | 39 => ⟨S1x1x512, .f32⟩
  | 40 => ⟨S32x2048x512, .f32⟩
  | 41 => ⟨S32x2048x512, .f32⟩
  | 42 => ⟨S32x2048x512, .f32⟩
  | 43 => ⟨S32x2048x512, .f32⟩
  | 44 => ⟨S32x2048x512, .f32⟩
  | 45 => ⟨S32x2048x512, .f32⟩
  | 46 => ⟨S_, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S32x2048x512, .f32⟩
  | 53 => ⟨S_, .i32⟩
  | 54 => ⟨S_, .f32⟩
  | 55 => ⟨S32x2078x512, .f32⟩
  | 56 => ⟨S1x512, .f32⟩
  | 57 => ⟨S512, .f32⟩
  | 58 => ⟨S32x2048x512, .f32⟩
  | 59 => ⟨S1x1x512, .f32⟩
  | 60 => ⟨S32x2048x512, .f32⟩
  | 61 => ⟨S32x2048x512, .f32⟩
  | 62 => ⟨S1x512, .f32⟩
  | 63 => ⟨S512, .f32⟩
  | 64 => ⟨S32x2048x512, .f32⟩
  | 65 => ⟨S1x1x512, .f32⟩
  | 66 => ⟨S32x2048x512, .f32⟩
  | 67 => ⟨S32x2048x512, .f32⟩
  | 68 => ⟨S32x2048x512, .f32⟩
  | 69 => ⟨S1x512, .f32⟩
  | 70 => ⟨S512, .f32⟩
  | 71 => ⟨S32x2048x512, .f32⟩
  | 72 => ⟨S1x1x512, .f32⟩
  | 73 => ⟨S32x2048x512, .f32⟩
  | 74 => ⟨S32x2048x512, .f32⟩
  | 75 => ⟨S32x2048x512, .f32⟩
  | 76 => ⟨S1x512, .f32⟩
  | 77 => ⟨S512, .f32⟩
  | 78 => ⟨S32x2048x512, .f32⟩
  | 79 => ⟨S1x1x512, .f32⟩
  | 80 => ⟨S32x2048x512, .f32⟩
  | 81 => ⟨S32x2048x512, .f32⟩
  | 82 => ⟨S32x2048x512, .f32⟩
  | 83 => ⟨S1x512, .f32⟩
  | 84 => ⟨S512, .f32⟩
  | 85 => ⟨S32x2048x512, .f32⟩
  | 86 => ⟨S1x1x512, .f32⟩
  | 87 => ⟨S32x2048x512, .f32⟩
  | 88 => ⟨S32x2048x512, .f32⟩
  | 89 => ⟨S32x2048x512, .f32⟩
  | 90 => ⟨S1x512, .f32⟩
  | 91 => ⟨S512, .f32⟩
  | 92 => ⟨S32x2048x512, .f32⟩
  | 93 => ⟨S1x1x512, .f32⟩
  | 94 => ⟨S32x2048x512, .f32⟩
  | 95 => ⟨S32x2048x512, .f32⟩
  | 96 => ⟨S32x2048x512, .f32⟩
  | 97 => ⟨S1x512, .f32⟩
  | 98 => ⟨S512, .f32⟩
  | 99 => ⟨S32x2048x512, .f32⟩
  | 100 => ⟨S1x1x512, .f32⟩
  | 101 => ⟨S32x2048x512, .f32⟩
  | 102 => ⟨S32x2048x512, .f32⟩
  | 103 => ⟨S32x2048x512, .f32⟩
  | 104 => ⟨S1x512, .f32⟩
  | 105 => ⟨S512, .f32⟩
  | 106 => ⟨S32x2048x512, .f32⟩
  | 107 => ⟨S1x1x512, .f32⟩
  | 108 => ⟨S32x2048x512, .f32⟩
  | 109 => ⟨S32x2048x512, .f32⟩
  | 110 => ⟨S32x2048x512, .f32⟩
  | 111 => ⟨S1x512, .f32⟩
  | 112 => ⟨S512, .f32⟩
  | 113 => ⟨S32x2048x512, .f32⟩
  | 114 => ⟨S1x1x512, .f32⟩
  | 115 => ⟨S32x2048x512, .f32⟩
  | 116 => ⟨S32x2048x512, .f32⟩
  | 117 => ⟨S32x2048x512, .f32⟩
  | 118 => ⟨S1x512, .f32⟩
  | 119 => ⟨S512, .f32⟩
  | 120 => ⟨S32x2048x512, .f32⟩
  | 121 => ⟨S1x1x512, .f32⟩
  | 122 => ⟨S32x2048x512, .f32⟩
  | 123 => ⟨S32x2048x512, .f32⟩
  | 124 => ⟨S32x2048x512, .f32⟩
  | 125 => ⟨S1x512, .f32⟩
  | 126 => ⟨S512, .f32⟩
  | 127 => ⟨S32x2048x512, .f32⟩
  | _ => ⟨S32x2048x1024, .f32⟩

abbrev hbmTy0_1 (i : Nat) : BufTy := match i % 128 with
  | 0 => ⟨S1x1x512, .f32⟩
  | 1 => ⟨S32x2048x512, .f32⟩
  | 2 => ⟨S32x2048x512, .f32⟩
  | 3 => ⟨S32x2048x512, .f32⟩
  | 4 => ⟨S1x512, .f32⟩
  | 5 => ⟨S512, .f32⟩
  | 6 => ⟨S32x2048x512, .f32⟩
  | 7 => ⟨S1x1x512, .f32⟩
  | 8 => ⟨S32x2048x512, .f32⟩
  | 9 => ⟨S32x2048x512, .f32⟩
  | 10 => ⟨S32x2048x512, .f32⟩
  | 11 => ⟨S1x512, .f32⟩
  | 12 => ⟨S512, .f32⟩
  | 13 => ⟨S32x2048x512, .f32⟩
  | 14 => ⟨S1x1x512, .f32⟩
  | 15 => ⟨S32x2048x512, .f32⟩
  | 16 => ⟨S32x2048x512, .f32⟩
  | 17 => ⟨S32x2048x512, .f32⟩
  | 18 => ⟨S1x512, .f32⟩
  | 19 => ⟨S512, .f32⟩
  | 20 => ⟨S32x2048x512, .f32⟩
  | 21 => ⟨S1x1x512, .f32⟩
  | 22 => ⟨S32x2048x512, .f32⟩
  | 23 => ⟨S32x2048x512, .f32⟩
  | 24 => ⟨S32x2048x512, .f32⟩
  | 25 => ⟨S1x512, .f32⟩
  | 26 => ⟨S512, .f32⟩
  | 27 => ⟨S32x2048x512, .f32⟩
  | 28 => ⟨S1x1x512, .f32⟩
  | 29 => ⟨S32x2048x512, .f32⟩
  | 30 => ⟨S32x2048x512, .f32⟩
  | 31 => ⟨S32x2048x512, .f32⟩
  | 32 => ⟨S1x512, .f32⟩
  | 33 => ⟨S512, .f32⟩
  | 34 => ⟨S32x2048x512, .f32⟩
  | 35 => ⟨S1x1x512, .f32⟩
  | 36 => ⟨S32x2048x512, .f32⟩
  | 37 => ⟨S32x2048x512, .f32⟩
  | 38 => ⟨S32x2048x512, .f32⟩
  | 39 => ⟨S1x512, .f32⟩
  | 40 => ⟨S512, .f32⟩
  | 41 => ⟨S32x2048x512, .f32⟩
  | 42 => ⟨S1x1x512, .f32⟩
  | 43 => ⟨S32x2048x512, .f32⟩
  | 44 => ⟨S32x2048x512, .f32⟩
  | 45 => ⟨S32x2048x512, .f32⟩
  | 46 => ⟨S1x512, .f32⟩
  | 47 => ⟨S512, .f32⟩
  | 48 => ⟨S32x2048x512, .f32⟩
  | 49 => ⟨S1x1x512, .f32⟩
  | 50 => ⟨S32x2048x512, .f32⟩
  | 51 => ⟨S32x2048x512, .f32⟩
  | 52 => ⟨S32x2048x512, .f32⟩
  | 53 => ⟨S1x512, .f32⟩
  | 54 => ⟨S512, .f32⟩
  | 55 => ⟨S32x2048x512, .f32⟩
  | 56 => ⟨S1x1x512, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S32x2048x512, .f32⟩
  | 63 => ⟨S1x1x512, .f32⟩
  | 64 => ⟨S32x2048x512, .f32⟩
  | 65 => ⟨S32x2048x512, .f32⟩
  | 66 => ⟨S32x2048x512, .f32⟩
  | 67 => ⟨S1x512, .f32⟩
  | 68 => ⟨S512, .f32⟩
  | 69 => ⟨S32x2048x512, .f32⟩
  | 70 => ⟨S1x1x512, .f32⟩
  | 71 => ⟨S32x2048x512, .f32⟩
  | 72 => ⟨S32x2048x512, .f32⟩
  | 73 => ⟨S32x2048x512, .f32⟩
  | 74 => ⟨S1x512, .f32⟩
  | 75 => ⟨S512, .f32⟩
  | 76 => ⟨S32x2048x512, .f32⟩
  | 77 => ⟨S1x1x512, .f32⟩
  | 78 => ⟨S32x2048x512, .f32⟩
  | 79 => ⟨S32x2048x512, .f32⟩
  | 80 => ⟨S32x2048x512, .f32⟩
  | 81 => ⟨S1x512, .f32⟩
  | 82 => ⟨S512, .f32⟩
  | 83 => ⟨S32x2048x512, .f32⟩
  | 84 => ⟨S1x1x512, .f32⟩
  | 85 => ⟨S32x2048x512, .f32⟩
  | 86 => ⟨S32x2048x512, .f32⟩
  | 87 => ⟨S32x2048x512, .f32⟩
  | 88 => ⟨S1x512, .f32⟩
  | 89 => ⟨S512, .f32⟩
  | 90 => ⟨S32x2048x512, .f32⟩
  | 91 => ⟨S1x1x512, .f32⟩
  | 92 => ⟨S32x2048x512, .f32⟩
  | 93 => ⟨S32x2048x512, .f32⟩
  | 94 => ⟨S32x2048x512, .f32⟩
  | 95 => ⟨S1x512, .f32⟩
  | 96 => ⟨S512, .f32⟩
  | 97 => ⟨S32x2048x512, .f32⟩
  | 98 => ⟨S1x1x512, .f32⟩
  | 99 => ⟨S32x2048x512, .f32⟩
  | 100 => ⟨S32x2048x512, .f32⟩
  | 101 => ⟨S32x2048x512, .f32⟩
  | 102 => ⟨S1x512, .f32⟩
  | 103 => ⟨S512, .f32⟩
  | 104 => ⟨S32x2048x512, .f32⟩
  | 105 => ⟨S1x1x512, .f32⟩
  | 106 => ⟨S32x2048x512, .f32⟩
  | 107 => ⟨S32x2048x512, .f32⟩
  | 108 => ⟨S32x2048x512, .f32⟩
  | 109 => ⟨S1x512, .f32⟩
  | 110 => ⟨S512, .f32⟩
  | 111 => ⟨S32x2048x512, .f32⟩
  | 112 => ⟨S1x1x512, .f32⟩
  | 113 => ⟨S32x2048x512, .f32⟩
  | 114 => ⟨S32x2048x512, .f32⟩
  | 115 => ⟨S32x2048x512, .f32⟩
  | 116 => ⟨S1x512, .f32⟩
  | 117 => ⟨S512, .f32⟩
  | 118 => ⟨S32x2048x512, .f32⟩
  | 119 => ⟨S1x1x512, .f32⟩
  | 120 => ⟨S32x2048x512, .f32⟩
  | 121 => ⟨S32x2048x512, .f32⟩
  | 122 => ⟨S32x2048x512, .f32⟩
  | 123 => ⟨S1x512, .f32⟩
  | 124 => ⟨S512, .f32⟩
  | 125 => ⟨S32x2048x512, .f32⟩
  | 126 => ⟨S1x1x512, .f32⟩
  | 127 => ⟨S32x2048x512, .f32⟩
  | _ => ⟨S32x2048x1024, .f32⟩

abbrev hbmTy0_2 (i : Nat) : BufTy := match i % 128 with
  | 0 => ⟨S32x2048x512, .f32⟩
  | 1 => ⟨S32x2048x512, .f32⟩
  | 2 => ⟨S1x512, .f32⟩
  | 3 => ⟨S512, .f32⟩
  | 4 => ⟨S32x2048x512, .f32⟩
  | 5 => ⟨S1x1x512, .f32⟩
  | 6 => ⟨S32x2048x512, .f32⟩
  | 7 => ⟨S32x2048x512, .f32⟩
  | 8 => ⟨S32x2048x512, .f32⟩
  | 9 => ⟨S1x512, .f32⟩
  | 10 => ⟨S512, .f32⟩
  | 11 => ⟨S32x2048x512, .f32⟩
  | 12 => ⟨S1x1x512, .f32⟩
  | 13 => ⟨S32x2048x512, .f32⟩
  | 14 => ⟨S32x2048x512, .f32⟩
  | 15 => ⟨S32x2048x512, .f32⟩
  | 16 => ⟨S1x1x512, .f32⟩
  | 17 => ⟨S32x2048x512, .f32⟩
  | 18 => ⟨S32x2048x512, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S32x2048x512, .f32⟩
  | 26 => ⟨S32x2048x512, .f32⟩
  | 27 => ⟨S32x2048x512, .f32⟩
  | 28 => ⟨S_, .f32⟩
  | 29 => ⟨S32x2048, .f32⟩
  | 30 => ⟨S32x2048x1, .f32⟩
  | 31 => ⟨S_, .f32⟩
  | 32 => ⟨S32x2048x1, .f32⟩
  | 33 => ⟨S32x2048x1, .f32⟩
  | 34 => ⟨S32x2048x512, .f32⟩
  | 35 => ⟨S32x2048x512, .f32⟩
  | 36 => ⟨S_, .f32⟩
  | 37 => ⟨S32x2048x1, .f32⟩
  | 38 => ⟨S32x2048x1, .f32⟩
  | 39 => ⟨S32x2048x1, .f32⟩
  | 40 => ⟨S32x2048x512, .f32⟩
  | 41 => ⟨S32x2048x512, .f32⟩
  | 42 => ⟨S1x1x512, .f32⟩
  | 43 => ⟨S32x2048x512, .f32⟩
  | 44 => ⟨S32x2048x512, .f32⟩
  | 45 => ⟨S1x1x512, .f32⟩
  | 46 => ⟨S32x2048x512, .f32⟩
  | 47 => ⟨S32x2048x512, .f32⟩
  | 48 => ⟨S32x2048x512, .f32⟩
  | 49 => ⟨S32x2048x512, .f32⟩
  | 50 => ⟨S_, .f32⟩
  | 51 => ⟨S32x2048x512, .f32⟩
  | 52 => ⟨S32x2048x512, .f32⟩
  | 53 => ⟨S_, .f32⟩
  | 54 => ⟨S32x2048x512, .f32⟩
  | 55 => ⟨S32x2048x512, .f32⟩
  | 56 => ⟨S32x2048x512, .f32⟩
  | 57 => ⟨S32x2048x1024, .f32⟩
  | 58 => ⟨S32x2048x1024, .bf16⟩
  | 59 => ⟨S1024x1024, .bf16⟩
  | 60 => ⟨S32x2048x1024, .f32⟩
  | 61 => ⟨S_, .f32⟩
  | 62 => ⟨S32x2048x1024, .f32⟩
  | 63 => ⟨S32x2048x1024, .f32⟩
  | 64 => ⟨S32x2048x1024, .f32⟩
  | 65 => ⟨S_, .f32⟩
  | 66 => ⟨S32x2048, .f32⟩
  | 67 => ⟨S32x2048x1, .f32⟩
  | 68 => ⟨S_, .f32⟩
  | 69 => ⟨S32x2048x1, .f32⟩
  | 70 => ⟨S32x2048x1, .f32⟩
  | 71 => ⟨S32x2048x1024, .f32⟩
  | 72 => ⟨S32x2048x1024, .f32⟩
  | 73 => ⟨S32x2048x1024, .f32⟩
  | 74 => ⟨S_, .f32⟩
  | 75 => ⟨S32x2048, .f32⟩
  | 76 => ⟨S32x2048x1, .f32⟩
  | 77 => ⟨S_, .f32⟩
  | 78 => ⟨S32x2048x1, .f32⟩
  | 79 => ⟨S32x2048x1, .f32⟩
  | 80 => ⟨S32x2048x1024, .f32⟩
  | 81 => ⟨S32x2048x1024, .f32⟩
  | 82 => ⟨S_, .f32⟩
  | 83 => ⟨S32x2048x1, .f32⟩
  | 84 => ⟨S32x2048x1, .f32⟩
  | 85 => ⟨S32x2048x1, .f32⟩
  | 86 => ⟨S32x2048x1024, .f32⟩
  | 87 => ⟨S32x2048x1024, .f32⟩
  | 88 => ⟨S1x1x1024, .f32⟩
  | 89 => ⟨S32x2048x1024, .f32⟩
  | 90 => ⟨S32x2048x1024, .f32⟩
  | 91 => ⟨S1x1x1024, .f32⟩
  | 92 => ⟨S32x2048x1024, .f32⟩
  | 93 => ⟨S32x2048x1024, .f32⟩
  | 94 => ⟨S1024x128, .bf16⟩
  | 95 => ⟨S1024x128, .f32⟩
  | 96 => ⟨S1024x128, .bf16⟩
  | 97 => ⟨S1024x128, .f32⟩
  | 98 => ⟨S1024x128, .f32⟩
  | 99 => ⟨S32x2048x128, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_2 : Ref sig .tc := ⟨.hbm, 275, rfl⟩
abbrev main_v258 : Ref sig .tc := ⟨.hbm, 276, rfl⟩
abbrev main_v259 : Ref sig .tc := ⟨.hbm, 277, rfl⟩
abbrev main_cst_3 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_cst_4 : Ref sig .tc := ⟨.hbm, 284, rfl⟩
abbrev main_v265 : Ref sig .tc := ⟨.hbm, 285, rfl⟩
abbrev main_v266 : Ref sig .tc := ⟨.hbm, 286, rfl⟩
abbrev main_cst_5 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_cst_6 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_call2_v0 : Ref sig .tc := ⟨.hbm, 304, rfl⟩
abbrev main_call2_v1 : Ref sig .tc := ⟨.hbm, 305, rfl⟩
abbrev main_call2_cst : Ref sig .tc := ⟨.hbm, 306, rfl⟩
abbrev main_call2_v2 : Ref sig .tc := ⟨.hbm, 307, rfl⟩
abbrev main_call2_v3 : Ref sig .tc := ⟨.hbm, 308, rfl⟩
abbrev main_call2_cst_0 : Ref sig .tc := ⟨.hbm, 309, rfl⟩
abbrev main_call2_v4 : Ref sig .tc := ⟨.hbm, 310, rfl⟩
abbrev main_call2_v5 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_cst_7 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_cst_8 : Ref sig .tc := ⟨.hbm, 321, rfl⟩
abbrev main_v290 : Ref sig .tc := ⟨.hbm, 322, rfl⟩
abbrev main_v291 : Ref sig .tc := ⟨.hbm, 323, rfl⟩
abbrev main_cst_9 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_cst_10 : Ref sig .tc := ⟨.hbm, 330, rfl⟩
abbrev main_v297 : Ref sig .tc := ⟨.hbm, 331, rfl⟩
abbrev main_v298 : Ref sig .tc := ⟨.hbm, 332, rfl⟩
abbrev main_cst_11 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_12 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩

abbrev nD : Nat := 1
abbrev τ : Topo := Topo.v7x

variable {F : FTy → Type} [FloatOps F]
-- ==== Proof.Steps.lean ====
/-
  The attention kernel's stores, as a chain of uniform steps: one head, one block of queries, one block of keys. -/
module

public import proofs.«01_k».proof.Proof.Gen.KernelIdeal.Value
import all proofs.«01_k».proof.Proof.Gen.KernelIdeal.Frame.RunA
import all proofs.«01_k».proof.Proof.Gen.KernelIdeal.Loops

@[expose] public section

set_option maxRecDepth 65536

namespace Cert.Attn

open Idealize.ShloMosaic Idealize.ShloMosaic.TcCoe Idealize.SL.Sem
open Cert.KernelIdeal Cert.KernelIdeal.Gen

noncomputable section

variable {F : FTy → Type} [FloatOps F]

/-- The number of the half of a tile of 128 lanes a lane lies in: the lane number divided by 64. -/
def half : IVec S1x128 32 :=
  have n : IVec S1x128 32 := iota .tc S1x128 32 [1] iota_S1x128_d1_w32
  have q : IVec S1x128 32 := divsi n (broadcast S1x128 64#32)
  have sn : IVec S1x128 32 := subi (extui 32 (cmpi .sgt n (broadcast S1x128 0#32)) natLt_1_32)
    (extui 32 (cmpi .slt n (broadcast S1x128 0#32)) natLt_1_32)
  have sd : BitVec 32 := Scalar.subi (Scalar.extui (Scalar.cmpi .sgt 64#32 0#32)) (Scalar.extui (Scalar.cmpi .slt 64#32 0#32))
  have low : IVec S1x128 1 := andi (cmpi .ne sn (broadcast S1x128 sd))
    (cmpi .ne (remsi n (broadcast S1x128 64#32)) (broadcast S1x128 0#32))
  select low (subi q (broadcast S1x128 1#32)) q

/-- The lanes of half `p`, in every row of a block. -/
def lanesOf (p : BitVec 32) : IVec S256x128 1 :=
  broadcastTo S256x128 (shapeCast S1x128 (cmpi .eq half (broadcast S1x128 p)) shapeCasts_S1x128_S1x128)
    broadcasts_S1x128_S256x128

/-- The queries of one head: the lanes of the other head of the tile are zero. -/
def headQ (p : BitVec 32) (x : Vec F S1x256x128 .bf16) : FVec F S256x128 .bf16 :=
  select (lanesOf p) (shapeCast S256x128 x shapeCasts_S1x256x128_S256x128)
    (broadcast S256x128 (Scalar.ofBits .bf16 0x0000#16))

def zeros : FVec F S256x256 .f32 := broadcast S256x256 (Scalar.ofBits .f32 0x00000000#32)

/-- Row `s`, column `j`: one where `j ≤ s`. -/
def tri : FVec F S256x256 .bf16 :=
  truncf .bf16 (sitofp .f32 (extui 32 (cmpi .sge (iota .tc S256x256 32 [0] iota_S256x256_d0_w32)
    (iota .tc S256x256 32 [1] iota_S256x256_d1_w32)) natLt_1_32)) bitsLt_bf16_f32

/-- Row `r`, column `s`: whether `s < r`. -/
def causal : IVec S256x256 1 :=
  cmpi .slt (iota .tc S256x256 32 [1] iota_S256x256_d1_w32) (iota .tc S256x256 32 [0] iota_S256x256_d0_w32)

/-- On the diagonal block, zero where `s < r` does not hold. -/
def masked (d : Bool) (x : FVec F S256x256 .f32) : FVec F S256x256 .f32 :=
  match d with
  | true => select causal x zeros
  | false => x

def scores (q : FVec F S256x128 .bf16) (k : Vec F S1x256x128 .bf16) : FVec F S256x256 .f32 :=
  matmul dot_S256x128_S256x128_S256x256_1_1_0_0_n_n none q
    (shapeCast S256x128 k shapeCasts_S1x256x128_S256x128) (constant S256x256 .f32 0x00000000#32)

def softplus (z : FVec F S256x256 .f32) : FVec F S256x256 .f32 :=
  addf (maximumf z zeros)
    (log (addf (broadcast S256x256 (Scalar.ofBits .f32 0x3F800000#32)) (exp (subf zeros (absf z)))))

/-- Column `j`: the sum over the columns from `j` on. -/
def sums (d : Bool) (z : FVec F S256x256 .f32) : FVec F S256x256 .f32 :=
  matmul dot_S256x256_S256x256_S256x256_1_0_0_1_n_n none (truncf .bf16 (masked d (softplus z)) bitsLt_bf16_f32)
    tri (constant S256x256 .f32 0x00000000#32)

def weights (d : Bool) (z : FVec F S256x256 .f32) (car : Vec F S1x256x128 .f32) : FVec F S256x256 .f32 :=
  have w : FVec F S256x128 .f32 := shapeCast S256x128 car shapeCasts_S1x256x128_S256x128
  masked d (exp (subf (subf z (sums d z))
    (concatenate S256x256 1 [⟨S256x128, w⟩, ⟨S256x128, w⟩] concatenates_S256x128_S256x128_S256x256_d1)))

/-- What a block adds to a head's output. -/
def accPay (d : Bool) (q : FVec F S256x128 .bf16) (k v : Vec F S1x256x128 .bf16)
    (car acc : Vec F S1x256x128 .f32) : FVec F S1x256x128 .f32 :=
  shapeCast S1x256x128 (addf (shapeCast S256x128 acc shapeCasts_S1x256x128_S256x128)
    (matmul dot_S256x256_S256x128_S256x128_1_0_0_1_n_n none (truncf .bf16 (weights d (scores q k) car) bitsLt_bf16_f32)
      (shapeCast S256x128 v shapeCasts_S1x256x128_S256x128) (constant S256x128 .f32 0x00000000#32)))
    shapeCasts_S256x128_S1x256x128

/-- What a block adds to a head's running sum. -/
def carPay (d : Bool) (q : FVec F S256x128 .bf16) (k : Vec F S1x256x128 .bf16)
    (car : Vec F S1x256x128 .f32) : FVec F S1x256x128 .f32 :=
  shapeCast S1x256x128 (addf (shapeCast S256x128 car shapeCasts_S1x256x128_S256x128)
    (broadcastTo S256x128 (shapeCast S256x1
      (extractStridedSlice S256x1 ![0, 0] (sums d (scores q k)) slices_S256x256_o0_0_S256x1)
      shapeCasts_S256x1_S256x1) broadcasts_S256x1_S256x128)) shapeCasts_S256x128_S1x256x128

/-- The block of output rows of a tile: lanes of half 1 from the second head, the others from the first. -/
def selPay (a b : Vec F S1x256x128 .f32) : FVec F S1x256x128 .bf16 :=
  shapeCast S1x256x128 (truncf .bf16 (select (lanesOf 1#32) (shapeCast S256x128 b shapeCasts_S1x256x128_S256x128)
    (shapeCast S256x128 a shapeCasts_S1x256x128_S256x128)) bitsLt_bf16_f32) shapeCasts_S256x128_S1x256x128

def zeroPay : FVec F S4x256x128 .f32 :=
  shapeCast S4x256x128 (broadcast S4x256x128 (Scalar.ofBits .f32 0x00000000#32)) shapeCasts_S4x256x128_S4x256x128

theorem inbH (h : Fin 4) : ∀ a, (![h.val, 0, 0] : Fin 3 → Nat) a + S1x256x128.size a ≤ S4x256x128.size a := by
  revert h; decide

theorem inbB (b : Fin 8) (t : Fin 2) :
    ∀ a, (![0, 256 * b.val, 128 * t.val] : Fin 3 → Nat) a + S1x256x128.size a ≤ S1x2048x256.size a := by
  revert b t; decide

/-- The rows of head `h` in a scratch. -/
abbrev hr (h : Fin 4) : Rect S4x256x128 := Rect.unit ![h.val, 0, 0] S1x256x128.size (inbH h)

/-- Block `b` of the rows, lanes of tile `t`. -/
abbrev br (b : Fin 8) (t : Fin 2) : Rect S1x2048x256 := Rect.unit ![0, 256 * b.val, 128 * t.val] S1x256x128.size (inbB b t)

abbrev Pcs (F : FTy → Type) := List (View.Piece (Elt F) S4x256x128 .f32)

section chain

variable (k v : Fin 8 → Fin 2 → Vec F S1x256x128 .bf16) (q : Fin 8 → Fin 2 → Vec F S1x256x128 .bf16)
  (a6 a7 : View sig .tc .vmem S4x256x128 .f32)

/-- The tile of head `h`. -/
def tile (h : Fin 4) : Fin 2 := ⟨h.val / 2, by omega⟩

/-- The half of its tile head `h` takes. -/
def par (h : Fin 4) : BitVec 32 := if h.val % 2 = 0 then 0#32 else 1#32

/-- One head's step of block `n` of the keys, for block `b` of the queries, from what the two scratches hold. -/
def accPc (d : Bool) (b n : Fin 8) (h : Fin 4) (f6 : a6.ty.Contents (Elt F)) (f7 : a7.ty.Contents (Elt F)) :
    View.Piece (Elt F) S4x256x128 .f32 :=
  ⟨hr h, accPay d (headQ (par h) (q b (tile h))) (k n (tile h)) (v n (tile h))
    (View.readAt (Elt F) a7 (hr h).toLoadRect f7) (View.readAt (Elt F) a6 (hr h).toLoadRect f6)⟩

def carPc (d : Bool) (b n : Fin 8) (h : Fin 4) (f7 : a7.ty.Contents (Elt F)) : View.Piece (Elt F) S4x256x128 .f32 :=
  ⟨hr h, carPay d (headQ (par h) (q b (tile h))) (k n (tile h)) (View.readAt (Elt F) a7 (hr h).toLoadRect f7)⟩

def stepH (d : Bool) (b n : Fin 8) (h : Fin 4) (st : Pcs F × Pcs F) : Pcs F × Pcs F :=
  (accPc k v q a6 a7 d b n h (a6.writes (Elt F) a6.junk st.1) (a7.writes (Elt F) a7.junk st.2) :: st.1,
    carPc k q a7 d b n h (a7.writes (Elt F) a7.junk st.2) :: st.2)

/-- All four heads' steps, one after the other. -/
def step4 (d : Bool) (b n : Fin 8) (st : Pcs F × Pcs F) : Pcs F × Pcs F :=
  stepH k v q a6 a7 d b n 3 (stepH k v q a6 a7 d b n 2 (stepH k v q a6 a7 d b n 1 (stepH k v q a6 a7 d b n 0 st)))

/-- All four heads' steps from the scratches of the start. -/
def trip4 (b n : Fin 8) (f6 : a6.ty.Contents (Elt F)) (f7 : a7.ty.Contents (Elt F)) : Pcs F × Pcs F :=
  ([accPc k v q a6 a7 false b n 3 f6 f7, accPc k v q a6 a7 false b n 2 f6 f7, accPc k v q a6 a7 false b n 1 f6 f7,
      accPc k v q a6 a7 false b n 0 f6 f7],
    [carPc k q a7 false b n 3 f7, carPc k q a7 false b n 2 f7, carPc k q a7 false b n 1 f7, carPc k q a7 false b n 0 f7])

/-- The first `n` of the blocks before block `b`, from the nearest to the farthest. -/
def loop4 (b : Fin 8) (f6 : a6.ty.Contents (Elt F)) (f7 : a7.ty.Contents (Elt F)) : Nat → Pcs F × Pcs F
  | 0 => ([], [])
  | n + 1 =>
    ((trip4 k v q a6 a7 b ⟨b.val - 1 - n, by omega⟩ (a6.writes (Elt F) f6 (loop4 b f6 f7 n).1)
        (a7.writes (Elt F) f7 (loop4 b f6 f7 n).2)).1 ++ (loop4 b f6 f7 n).1,
      (trip4 k v q a6 a7 b ⟨b.val - 1 - n, by omega⟩ (a6.writes (Elt F) f6 (loop4 b f6 f7 n).1)
        (a7.writes (Elt F) f7 (loop4 b f6 f7 n).2)).2 ++ (loop4 b f6 f7 n).2)

def whole : Rect S4x256x128 := Rect.unit ![0, 0, 0] S4x256x128.size (by decide)

/-- The diagonal block, after the scratches are cleared. -/
def diag (b : Fin 8) (st : Pcs F × Pcs F) : Pcs F × Pcs F :=
  step4 k v q a6 a7 true b b (⟨whole, zeroPay⟩ :: st.1, ⟨whole, zeroPay⟩ :: st.2)

def block0 : Pcs F × Pcs F := diag k v q a6 a7 0 ([], [])

def block1 : Pcs F × Pcs F := step4 k v q a6 a7 false 1 0 (diag k v q a6 a7 1 (block0 k v q a6 a7))

def blockL (b : Fin 8) (st : Pcs F × Pcs F) : Pcs F × Pcs F :=
  let D := diag k v q a6 a7 b st
  let L := loop4 k v q a6 a7 b (a6.writes (Elt F) a6.junk D.1) (a7.writes (Elt F) a7.junk D.2) b.val
  (L.1 ++ D.1, L.2 ++ D.2)

/-- The scratches' stores up to the end of block `b`, newest first. -/
def blocks : Nat → Pcs F × Pcs F
  | 0 => block0 k v q a6 a7
  | 1 => block1 k v q a6 a7
  | n + 2 => blockL k v q a6 a7 ⟨(n + 2) % 8, by omega⟩ (blocks (n + 1))

def outPc (b : Fin 8) (t : Fin 2) (h h' : Fin 4) (st : Pcs F × Pcs F) : View.Piece (Elt F) S1x2048x256 .bf16 :=
  ⟨br b t, selPay (View.readAt (Elt F) a6 (hr h).toLoadRect (a6.writes (Elt F) a6.junk st.1))
    (View.readAt (Elt F) a6 (hr h').toLoadRect (a6.writes (Elt F) a6.junk st.1))⟩

end chain

section run

variable (c : Dev nD) (i : grid0.Coords) (arg2 : Memref sig .tc .vmem S1x2048x256 .bf16) (harg2 : arg2.IsWhole)
  (arg3 : Memref sig .tc .vmem S1x2048x256 .bf16) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S4x256x128 .f32) (harg6 : arg6.IsWhole)
  (arg7 : Memref sig .tc .vmem S4x256x128 .f32) (harg7 : arg7.IsWhole) (x0 x1 x2 : Vec F S1x2048x256 .bf16)

def rd (arg : Memref sig .tc .vmem S1x2048x256 .bf16) (h : arg.IsWhole) (x : Vec F S1x2048x256 .bf16) (b : Fin 8) (t : Fin 2) :
    Vec F S1x256x128 .bf16 := View.readAt (Elt F) arg.view (br b t).toLoadRect (h.unread x)

/-- The stores of the kernel's body into its output block. -/
theorem pieces_eq : (kernelRun0_A c i arg2 harg2 arg3 harg3 arg4 harg4 arg5 harg5 arg6 harg6 arg7 harg7 x0 x1 x2).1
    = let B := blocks (rd arg3 harg3 x1) (rd arg4 harg4 x2) (rd arg2 harg2 x0) arg6.view arg7.view
      [outPc arg6.view 7 1 2 3 (B 7),
      outPc arg6.view 7 0 0 1 (B 7),
      outPc arg6.view 6 1 2 3 (B 6),
      outPc arg6.view 6 0 0 1 (B 6),
      outPc arg6.view 5 1 2 3 (B 5),
      outPc arg6.view 5 0 0 1 (B 5),
      outPc arg6.view 4 1 2 3 (B 4),
      outPc arg6.view 4 0 0 1 (B 4),
      outPc arg6.view 3 1 2 3 (B 3),
      outPc arg6.view 3 0 0 1 (B 3),
      outPc arg6.view 2 1 2 3 (B 2),
      outPc arg6.view 2 0 0 1 (B 2),
      outPc arg6.view 1 1 2 3 (B 1),
      outPc arg6.view 1 0 0 1 (B 1),
      outPc arg6.view 0 1 2 3 (B 0),
      outPc arg6.view 0 0 0 1 (B 0)] := by
  sl_kernel_rfl

end run

end

end Cert.Attn
-- ==== Proof.Scalar.lean ====
/-
  The weights of stick-breaking attention over the extended reals: the logarithm's sum form, and sums over ranges. -/
module

public import Idealize.ShloMosaic.PureOps.Ideal

@[expose] public section

noncomputable section

namespace Cert.Attn

open Idealize.ShloMosaic

/-- The logarithm of 1 + exp z, as a maximum and a logarithm of a bounded number. -/
def sp (z : EReal) : EReal := max z 0 + Ideal.log (1 + Ideal.exp (0 - max z (-z)))

theorem exp_coe (x : ℝ) : Ideal.exp (x : EReal) = (Real.exp x : EReal) := rfl

theorem log_coe (x : ℝ) (h : 0 < x) : Ideal.log (x : EReal) = (Real.log x : EReal) := if_neg (not_le.mpr h)

theorem coe_max' (a b : ℝ) : ((max a b : ℝ) : EReal) = max (a : EReal) b := EReal.coe_strictMono.monotone.map_max

theorem sp_coe (x : ℝ) : sp x = ((max x 0 + Real.log (1 + Real.exp (-|x|)) : ℝ) : EReal) := by
  have h1 : (0 : EReal) - max (x : EReal) (-(x : EReal)) = ((-|x| : ℝ) : EReal) := by
    rw [zero_sub, ← EReal.coe_neg, ← coe_max']; rfl
  have h2 : (1 : EReal) + Ideal.exp ((-|x| : ℝ) : EReal) = ((1 + Real.exp (-|x|) : ℝ) : EReal) := by
    rw [exp_coe, EReal.coe_add]; rfl
  unfold sp
  rw [h1, h2, log_coe _ (by positivity), EReal.coe_add, coe_max', EReal.coe_zero]

theorem sp_top : sp ⊤ = ⊤ := by
  have h : (0 : EReal) - max ⊤ (-⊤) = ⊥ := by simp
  have h2 : Ideal.log (1 + Ideal.exp ⊥) = 0 := by
    show Ideal.log (1 + 0) = 0
    rw [add_zero]
    exact (log_coe 1 one_pos).trans (by rw [Real.log_one]; rfl)
  unfold sp
  rw [h, h2]; simp

theorem sp_bot : sp ⊥ = 0 := by
  have h : (0 : EReal) - max ⊥ (-⊥) = ⊥ := by simp
  have h2 : Ideal.log (1 + Ideal.exp ⊥) = 0 := by
    show Ideal.log (1 + 0) = 0
    rw [add_zero]
    exact (log_coe 1 one_pos).trans (by rw [Real.log_one]; rfl)
  unfold sp
  rw [h, h2]; simp

theorem sp_nonneg (z : EReal) : 0 ≤ sp z := by
  induction z with
  | bot => rw [sp_bot]
  | top => rw [sp_top]; exact le_top
  | coe x =>
    rw [sp_coe]
    have := Real.log_nonneg (le_add_of_nonneg_right (Real.exp_nonneg (-|x|)) : (1:ℝ) ≤ 1 + Real.exp (-|x|))
    exact_mod_cast add_nonneg (le_max_right x 0) this

theorem sp_neg (x : ℝ) : -sp (-(x : EReal)) = (x : EReal) - sp x := by
  rw [← EReal.coe_neg, sp_coe, sp_coe, ← EReal.coe_neg, ← EReal.coe_sub]
  congr 1
  rw [abs_neg]
  rcases le_total x 0 with h | h
  · rw [max_eq_left (neg_nonneg.mpr h), max_eq_right h]; ring
  · rw [max_eq_right (neg_nonpos.mpr h), max_eq_left h]; ring

theorem ne_bot_of_nonneg {a : EReal} (h : 0 ≤ a) : a ≠ ⊥ := fun e => by simp [e] at h

theorem sub_sub_nonneg (z : EReal) {c d : EReal} (hc : 0 ≤ c) (hd : 0 ≤ d) : z - c - d = z - (c + d) := by
  rw [sub_eq_add_neg, sub_eq_add_neg, sub_eq_add_neg,
    EReal.neg_add (.inl (ne_bot_of_nonneg hc)) (.inr (ne_bot_of_nonneg hd)), add_assoc]
  rfl

/-- The exponent as the logarithm of the sigmoid plus the later terms is the difference the kernel forms. -/
theorem exp_eq (z : EReal) {T : EReal} (hT : 0 ≤ T) :
    Ideal.exp (-sp (-z) + (-(sp z + T) - -sp z)) = Ideal.exp (z - (sp z + T)) := by
  induction z with
  | bot => rw [sp_bot, EReal.neg_bot, sp_top, EReal.neg_top, EReal.bot_add, sub_eq_add_neg, EReal.bot_add]
  | top =>
    rw [sp_top, EReal.top_add_of_ne_bot (ne_bot_of_nonneg hT), EReal.neg_top, sub_eq_add_neg ⊥, EReal.bot_add, EReal.add_bot]
    rfl
  | coe x =>
    rw [sp_neg, sp_coe]
    induction T with
    | bot => simp at hT
    | top => simp [EReal.coe_add_top]
    | coe y =>
      norm_cast
      congr 1
      congr 1
      ring

variable (z : ℕ → ℕ → EReal) (t : ℕ)

/-- What column `s` takes away from the columns before it, in row `t`. -/
def g (s : ℕ) : EReal := if s < t then sp (z t s) else 0

def G (lo hi : ℕ) : EReal := ∑ s ∈ Finset.Ico lo hi, g z t s

/-- The weight of column `s` in row `t`. -/
def wt (s : ℕ) : EReal := if s < t then Ideal.exp (z t s - G z t s 2048) else 0

theorem g_nonneg (s : ℕ) : 0 ≤ g z t s := by
  unfold g; split
  · exact sp_nonneg _
  · exact le_rfl

theorem G_nonneg (lo hi : ℕ) : 0 ≤ G z t lo hi := Finset.sum_nonneg fun s _ => g_nonneg z t s

theorem G_add {a b c : ℕ} (h : a ≤ b) (h' : b ≤ c) : G z t a b + G z t b c = G z t a c :=
  Finset.sum_Ico_consecutive _ h h'

theorem G_self (a : ℕ) : G z t a a = 0 := by simp [G]

theorem G_top {a b : ℕ} (h : a ≤ b) (hb : t ≤ b) (hb' : b ≤ 2048) : G z t a 2048 = G z t a b := by
  rw [← G_add z t h hb']
  have : G z t b 2048 = 0 := Finset.sum_eq_zero fun s hs => if_neg (by
    have := (Finset.mem_Ico.mp hs).1; omega)
  rw [this, add_zero]

/-- The sum of a block's columns from `j` on, as a product with a table of ones and zeros. -/
theorem G_block (n : ℕ) (j : ℕ) (hj : j < 256) :
    (∑ s : Fin 256, g z t (256 * n + s.val) * (if j ≤ s.val then 1 else 0)) = G z t (256 * n + j) (256 * (n + 1)) := by
  have e : ∀ s : Fin 256, g z t (256 * n + s.val) * (if j ≤ s.val then 1 else 0)
      = (fun i => if j ≤ i then g z t (256 * n + i) else 0) s.val := fun s => by
    show _ = if j ≤ s.val then _ else _
    split
    · exact mul_one _
    · exact mul_zero _
  rw [Finset.sum_congr rfl fun s _ => e s, Fin.sum_univ_eq_sum_range (fun i => if j ≤ i then g z t (256 * n + i) else 0) 256,
    ← Finset.sum_filter, G, Finset.sum_Ico_eq_sum_range]
  refine Finset.sum_bij' (fun i _ => i - j) (fun i _ => j + i) ?_ ?_ ?_ ?_ ?_
  · intro i hi; simp only [Finset.mem_filter, Finset.mem_range] at *; omega
  · intro i hi; simp only [Finset.mem_filter, Finset.mem_range] at *; omega
  · intro i hi; simp only [Finset.mem_filter, Finset.mem_range] at *; omega
  · intro i hi; omega
  · intro i hi
    simp only [Finset.mem_filter, Finset.mem_range] at hi
    congr 1; omega

/-- A block's own columns. -/
theorem sum_block (f : ℕ → EReal) (n : ℕ) : (∑ j : Fin 256, f (256 * n + j.val)) = ∑ s ∈ Finset.Ico (256 * n) (256 * (n + 1)), f s := by
  rw [Fin.sum_univ_eq_sum_range (fun i => f (256 * n + i)) 256, Finset.sum_Ico_eq_sum_range]
  congr 2; omega

/-- The weight a block gives to its column `j`. -/
theorem wt_block (b n : ℕ) (hn : n ≤ b) (hb : b < 8) (ht : t < 256 * (b + 1)) (j : ℕ) (hj : j < 256) (h : 256 * n + j < t) :
    Ideal.exp (z t (256 * n + j) - G z t (256 * n + j) (256 * (n + 1)) - G z t (256 * (n + 1)) (256 * (b + 1)))
      = wt z t (256 * n + j) := by
  rw [wt, if_pos h, sub_sub_nonneg _ (G_nonneg ..) (G_nonneg ..), G_add z t (by omega) (by omega),
    ← G_top z t (by omega) (by omega) (by omega)]

end Cert.Attn
-- ==== Proof.Vals.lean ====
/-
  What the steps' operations hold at an index, over the extended reals. -/
module

public import proofs.«01_k».proof.Proof.Steps
public import proofs.«01_k».proof.Proof.Scalar
public import proofs.«01_k».proof.Proof.Gen.ReferenceIdeal.Run
public import proofs.«01_k».proof.Defs
public import Idealize.ShloMosaic.Lib.Claim
public import Idealize.ShloMosaic.Lib.Pointwise
public import Idealize.ShloMosaic.Lib.Pipeline.ValueKit
public import Idealize.ShloMosaic.Lib.Tactic.CleanTypes
public import Idealize.ShloMosaic.Lib.Pipeline.ReadBack
public import Idealize.ShloMosaic.Lib.WordCmp
public import Idealize.ShloMosaic.Lib.WritesUnit
public import Idealize.ShloMosaic.Lib.VecWindow

@[expose] public section

set_option maxRecDepth 16384

noncomputable section

namespace Cert.Attn

open Idealize.ShloMosaic Idealize.ShloMosaic.TcCoe Idealize.SL.Sem Cert.KernelIdeal Cert.KernelIdeal.Gen

theorem half_apply (l : Fin 128) : half (ix2 0 l) = BitVec.ofNat 32 (l.val / 64) := by
  pointwise [half]
  revert l
  decide +kernel

theorem lanesOf_apply (p : BitVec 32) (r : Fin 256) (l : Fin 128) :
    lanesOf p (ix2 r l) = if BitVec.ofNat 32 (l.val / 64) = p then 1#1 else 0#1 := by
  pointwise [lanesOf, half_apply]
  rw [IntOp.cmpi]
  by_cases h : BitVec.ofNat 32 (l.val / 64) = p
  · simp [h]
  · rw [if_neg h, beq_eq_false_iff_ne.mpr h]; rfl

theorem scores_apply (q : FVec Ideal S256x128 .bf16) (k : Vec Ideal S1x256x128 .bf16) (r s : Fin 256) :
    scores q k (ix2 r s) = ∑ l : Fin 128, q (ix2 r l) * k (ix3 0 s l) := by
  pointwise [scores]

theorem headQ_apply (p : BitVec 32) (x : Vec Ideal S1x256x128 .bf16) (r : Fin 256) (l : Fin 128) :
    headQ p x (ix2 r l) = if BitVec.ofNat 32 (l.val / 64) = p then x (ix3 0 r l) else 0 := by
  pointwise [headQ, lanesOf_apply]
  split <;> rfl

theorem tri_apply (s j : Fin 256) : tri (F := Ideal) (ix2 s j) = if j.val ≤ s.val then 1 else 0 := by
  pointwise [tri]
  rw [WordCmp.cmpi_sge_ofNat (by omega) (by omega)]
  by_cases h : j.val ≤ s.val
  · rw [decide_eq_true h, if_pos h]
    show ((((BitVec.setWidth 32 (BitVec.ofBool true)).toInt : ℝ)) : EReal) = 1
    rw [show (BitVec.setWidth 32 (BitVec.ofBool true)).toInt = 1 from by decide]
    norm_num
  · rw [decide_eq_false h, if_neg h]
    show ((((BitVec.setWidth 32 (BitVec.ofBool false)).toInt : ℝ)) : EReal) = 0
    rw [show (BitVec.setWidth 32 (BitVec.ofBool false)).toInt = 0 from by decide]
    norm_num

theorem softplus_apply (z : FVec Ideal S256x256 .f32) (r s : Fin 256) : softplus z (ix2 r s) = sp (z (ix2 r s)) := by
  pointwise [softplus, zeros]
  rfl

theorem masked_apply (d : Bool) (z : FVec Ideal S256x256 .f32) (r s : Fin 256) :
    masked d z (ix2 r s) = if d = true ∧ ¬ s.val < r.val then 0 else z (ix2 r s) := by
  cases d
  · simp [masked]
  · pointwise [masked, causal, zeros]
    rw [WordCmp.cmpi_slt_ofNat (by omega) (by omega)]
    by_cases h : s.val < r.val <;> simp [h] <;> rfl

theorem sums_apply (d : Bool) (z : FVec Ideal S256x256 .f32) (r j : Fin 256) :
    sums d z (ix2 r j) = ∑ s : Fin 256, masked d (softplus z) (ix2 r s) * tri (F := Ideal) (ix2 s j) := by
  pointwise [sums]

theorem weights_apply (d : Bool) (z : FVec Ideal S256x256 .f32) (car : Vec Ideal S1x256x128 .f32) (r j : Fin 256) (C : EReal)
    (hC : ∀ l : Fin 128, car (ix3 0 r l) = C) :
    weights d z car (ix2 r j) = if d = true ∧ ¬ j.val < r.val then 0 else Ideal.exp (z (ix2 r j) - sums d z (ix2 r j) - C) := by
  unfold weights
  rw [masked_apply]
  pointwise [hC]
  simp only [hC, dite_eq_ite, ite_self]

theorem accPay_apply (d : Bool) (q : FVec Ideal S256x128 .bf16) (k v : Vec Ideal S1x256x128 .bf16)
    (car acc : Vec Ideal S1x256x128 .f32) (r : Fin 256) (l : Fin 128) :
    accPay d q k v car acc (ix3 0 r l) = acc (ix3 0 r l) + ∑ j : Fin 256, weights d (scores q k) car (ix2 r j) * v (ix3 0 j l) := by
  pointwise [accPay]

theorem carPay_apply (d : Bool) (q : FVec Ideal S256x128 .bf16) (k : Vec Ideal S1x256x128 .bf16)
    (car : Vec Ideal S1x256x128 .f32) (r : Fin 256) (l : Fin 128) :
    carPay d q k car (ix3 0 r l) = car (ix3 0 r l) + sums d (scores q k) (ix2 r 0) := by
  pointwise [carPay]

theorem selPay_apply (a b : Vec Ideal S1x256x128 .f32) (r : Fin 256) (l : Fin 128) :
    selPay a b (ix3 0 r l) = if BitVec.ofNat 32 (l.val / 64) = 1#32 then b (ix3 0 r l) else a (ix3 0 r l) := by
  pointwise [selPay, lanesOf_apply]
  split <;> rfl

section reads

variable (a : View sig .tc .vmem S4x256x128 .f32) (f : a.ty.Contents (Elt Ideal))

/-- A head's rows of a scratch. -/
def row (h : Fin 4) : Vec Ideal S1x256x128 .f32 := View.readAt (Elt Ideal) a (hr h).toLoadRect f

theorem row_same (h : Fin 4) (Z : FVec Ideal S1x256x128 .f32) (L : Pcs Ideal) : row a (a.writes (Elt Ideal) f (⟨hr h, Z⟩ :: L)) h = Z :=
  funext fun x => View.read_writes_cons_emb a f (hr h) Z L x

theorem row_other (h h' : Fin 4) (hh : h ≠ h') (Z : FVec Ideal S1x256x128 .f32) (L : Pcs Ideal) :
    row a (a.writes (Elt Ideal) f (⟨hr h', Z⟩ :: L)) h = row a (a.writes (Elt Ideal) f L) h :=
  funext fun x => View.read_writes_cons_unit_of_not_mem a f (inbH h') Z L _ rfl (0 : Fin 3) (by
    have e : (((hr h).toLoadRect.idx x) (0 : Fin 3)).val = h.val + 1 * (x (0 : Fin 3)).val := rfl
    have hx : (x (0 : Fin 3)).val < 1 := (x (0 : Fin 3)).isLt
    have : h.val ≠ h'.val := fun e => hh (Fin.ext e)
    rw [e]
    show _ < h'.val ∨ h'.val + 1 ≤ _
    omega)

theorem row_zero (h : Fin 4) (L : Pcs Ideal) (x : S1x256x128.Idx) : row a (a.writes (Elt Ideal) f ((⟨whole, zeroPay (F := Ideal)⟩ : View.Piece (Elt Ideal) S4x256x128 .f32) :: L)) h x = 0 := by
  have e := congrFun (View.read_writes_full a f (by decide : ∀ i, (![0, 0, 0] : Fin 3 → Nat) i + S4x256x128.size i ≤ S4x256x128.size i) (zeroPay (F := Ideal)) L)
    ((hr h).toLoadRect.idx x)
  refine e.trans ?_
  generalize (hr h).toLoadRect.idx x = y
  change S4x256x128.Idx at y
  idx_vars y
  pointwise [zeroPay]

end reads

end Cert.Attn
-- ==== Proof.Chain.lean ====
/-
  The scratches after each step: every head's running sum and output over the key columns already done. -/
module

public import proofs.«01_k».proof.Proof.Vals

@[expose] public section

set_option maxRecDepth 16384

noncomputable section

namespace Cert.Attn

open Idealize.ShloMosaic Idealize.ShloMosaic.TcCoe Idealize.SL.Sem
open Cert.KernelIdeal Cert.KernelIdeal.Gen

variable (z : Fin 4 → ℕ → ℕ → EReal) (vv : Fin 4 → ℕ → Fin 128 → EReal)

/-- Head `h`'s output `A` and running sum `C` of query block `b` when the key columns from block `lo` on are done. -/
def Inv (b lo : ℕ) (h : Fin 4) (A C : Vec Ideal S1x256x128 .f32) : Prop :=
  ∀ (r : Fin 256) (l : Fin 128), C (ix3 0 r l) = G (z h) (256 * b + r.val) (256 * lo) (256 * (b + 1))
    ∧ A (ix3 0 r l) = ∑ s ∈ Finset.Ico (256 * lo) (256 * (b + 1)), wt (z h) (256 * b + r.val) s * vv h s l

variable (k v q : Fin 8 → Fin 2 → Vec Ideal S1x256x128 .bf16)

/-- The scores and values the blocks hold. -/
structure Data : Prop where
  hz : ∀ (b n : Fin 8) (h : Fin 4) (r s : Fin 256),
    scores (headQ (par h) (q b (tile h))) (k n (tile h)) (ix2 r s) = z h (256 * b.val + r.val) (256 * n.val + s.val)
  hv : ∀ (n : Fin 8) (h : Fin 4) (s : Fin 256) (l : Fin 128), v n (tile h) (ix3 0 s l) = vv h (256 * n.val + s.val) l

variable {z vv k v q} (D : Data z vv k v q)
include D

theorem masked_soft (d : Bool) (b n : Fin 8) (hn : n.val ≤ b.val) (hd : d = true ↔ n = b) (h : Fin 4) (r s : Fin 256) :
    masked d (softplus (scores (headQ (par h) (q b (tile h))) (k n (tile h)))) (ix2 r s)
      = g (z h) (256 * b.val + r.val) (256 * n.val + s.val) := by
  rw [masked_apply, softplus_apply, D.hz, g]
  cases d
  · have hne : n ≠ b := fun e => Bool.noConfusion (hd.mpr e)
    have : n.val ≠ b.val := fun e => hne (Fin.ext e)
    rw [if_neg (by simp), if_pos (by omega)]
  · have e : n.val = b.val := congrArg Fin.val (hd.mp rfl)
    by_cases hs : s.val < r.val
    · rw [if_neg (by simp [hs]), if_pos (by omega)]
    · rw [if_pos (by simp [hs]), if_neg (by omega)]

theorem sums_val (d : Bool) (b n : Fin 8) (hn : n.val ≤ b.val) (hd : d = true ↔ n = b) (h : Fin 4) (r j : Fin 256) :
    sums d (scores (headQ (par h) (q b (tile h))) (k n (tile h))) (ix2 r j)
      = G (z h) (256 * b.val + r.val) (256 * n.val + j.val) (256 * (n.val + 1)) := by
  rw [sums_apply, ← G_block _ _ _ _ j.isLt]
  exact Finset.sum_congr rfl fun s _ => by rw [masked_soft D d b n hn hd, tri_apply]

theorem weights_val (d : Bool) (b n : Fin 8) (hn : n.val ≤ b.val) (hd : d = true ↔ n = b) (h : Fin 4)
    (C : Vec Ideal S1x256x128 .f32) (r j : Fin 256)
    (hC : ∀ l : Fin 128, C (ix3 0 r l) = G (z h) (256 * b.val + r.val) (256 * (n.val + 1)) (256 * (b.val + 1))) :
    weights d (scores (headQ (par h) (q b (tile h))) (k n (tile h))) C (ix2 r j)
      = wt (z h) (256 * b.val + r.val) (256 * n.val + j.val) := by
  rw [weights_apply _ _ _ _ _ _ hC, sums_val D d b n hn hd, D.hz]
  by_cases hlt : 256 * n.val + j.val < 256 * b.val + r.val
  · rw [if_neg, wt_block _ _ _ _ hn b.isLt (by omega) _ j.isLt hlt]
    rintro ⟨e, h'⟩
    have := congrArg Fin.val (hd.mp e)
    omega
  · rw [if_pos, wt, if_neg hlt]
    have e : n = b := Fin.ext (by omega)
    have : n.val = b.val := by omega
    exact ⟨hd.mpr e, by omega⟩

/-- One head's step. -/
theorem step_inv (d : Bool) (b n : Fin 8) (hn : n.val ≤ b.val) (hd : d = true ↔ n = b) (h : Fin 4)
    (A C : Vec Ideal S1x256x128 .f32) (hI : Inv z vv b.val (n.val + 1) h A C) :
    Inv z vv b.val n.val h (accPay d (headQ (par h) (q b (tile h))) (k n (tile h)) (v n (tile h)) C A)
      (carPay d (headQ (par h) (q b (tile h))) (k n (tile h)) C) := by
  intro r l
  constructor
  · rw [carPay_apply, sums_val D d b n hn hd, (hI r l).1, add_comm]
    exact G_add _ _ (by simp) (by omega)
  · rw [accPay_apply, (hI r l).2, add_comm, ← Finset.sum_Ico_consecutive _ (by omega : 256 * n.val ≤ 256 * (n.val + 1)) (by omega),
      ← sum_block]
    refine congrArg (· + _) (Finset.sum_congr rfl fun j _ => ?_)
    rw [weights_val D d b n hn hd h C r j fun l => (hI r l).1, D.hv]

variable (a6 a7 : View sig .tc .vmem S4x256x128 .f32)

omit D in
theorem row_cons (a : View sig .tc .vmem S4x256x128 .f32) (f : a.ty.Contents (Elt Ideal)) (h h' : Fin 4)
    (Z : FVec Ideal S1x256x128 .f32) (L : Pcs Ideal) :
    row a (a.writes (Elt Ideal) f (⟨hr h', Z⟩ :: L)) h = if h = h' then Z else row a (a.writes (Elt Ideal) f L) h := by
  split
  · rename_i e; subst e; exact row_same a f h Z L
  · rename_i e; exact row_other a f h h' e Z L

/-- One head's step on the scratches: that head goes on by one block, the others stay. -/
theorem stepH_inv (d : Bool) (b n : Fin 8) (hn : n.val ≤ b.val) (hd : d = true ↔ n = b) (h₀ : Fin 4) (st : Pcs Ideal × Pcs Ideal)
    (L : Fin 4 → ℕ) (h0 : L h₀ = n.val + 1)
    (hI : ∀ h, Inv z vv b.val (L h) h (row a6 (a6.writes (Elt Ideal) a6.junk st.1) h) (row a7 (a7.writes (Elt Ideal) a7.junk st.2) h)) :
    ∀ h, Inv z vv b.val (if h = h₀ then n.val else L h) h
      (row a6 (a6.writes (Elt Ideal) a6.junk (stepH k v q a6 a7 d b n h₀ st).1) h)
      (row a7 (a7.writes (Elt Ideal) a7.junk (stepH k v q a6 a7 d b n h₀ st).2) h) := by
  intro h
  rw [stepH, accPc, carPc, row_cons, row_cons]
  by_cases e : h = h₀
  · subst e
    rw [if_pos rfl, if_pos rfl, if_pos rfl]
    exact step_inv D d b n hn hd h _ _ (h0 ▸ hI h)
  · rw [if_neg e, if_neg e, if_neg e]
    exact hI h

theorem step4_inv (d : Bool) (b n : Fin 8) (hn : n.val ≤ b.val) (hd : d = true ↔ n = b) (st : Pcs Ideal × Pcs Ideal)
    (hI : ∀ h, Inv z vv b.val (n.val + 1) h (row a6 (a6.writes (Elt Ideal) a6.junk st.1) h) (row a7 (a7.writes (Elt Ideal) a7.junk st.2) h)) :
    ∀ h, Inv z vv b.val n.val h
      (row a6 (a6.writes (Elt Ideal) a6.junk (step4 k v q a6 a7 d b n st).1) h)
      (row a7 (a7.writes (Elt Ideal) a7.junk (step4 k v q a6 a7 d b n st).2) h) := by
  have e0 := stepH_inv D a6 a7 d b n hn hd 0 st (fun _ => n.val + 1) rfl hI
  have e1 := stepH_inv D a6 a7 d b n hn hd 1 _ _ (by simp) e0
  have e2 := stepH_inv D a6 a7 d b n hn hd 2 _ _ (by simp) e1
  have e3 := stepH_inv D a6 a7 d b n hn hd 3 _ _ (by simp) e2
  intro h
  have := e3 h
  have e : (if h = 3 then n.val else if h = 2 then n.val else if h = 1 then n.val else if h = 0 then n.val else n.val + 1) = n.val := by
    fin_cases h <;> rfl
  rw [e] at this
  exact this

/-- One pass of the loop. -/
theorem trip4_inv (b n : Fin 8) (hn : n.val < b.val) (f6 : a6.ty.Contents (Elt Ideal)) (f7 : a7.ty.Contents (Elt Ideal)) (L6 L7 : Pcs Ideal)
    (hI : ∀ h, Inv z vv b.val (n.val + 1) h (row a6 (a6.writes (Elt Ideal) f6 L6) h) (row a7 (a7.writes (Elt Ideal) f7 L7) h)) :
    ∀ h, Inv z vv b.val n.val h
      (row a6 (a6.writes (Elt Ideal) f6 ((trip4 k v q a6 a7 b n (a6.writes (Elt Ideal) f6 L6) (a7.writes (Elt Ideal) f7 L7)).1 ++ L6)) h)
      (row a7 (a7.writes (Elt Ideal) f7 ((trip4 k v q a6 a7 b n (a6.writes (Elt Ideal) f6 L6) (a7.writes (Elt Ideal) f7 L7)).2 ++ L7)) h) := by
  have hd : false = true ↔ n = b := ⟨fun e => by simp at e, fun e => absurd (congrArg Fin.val e) (by omega)⟩
  have key := fun h => step_inv D false b n hn.le hd h _ _ (hI h)
  intro h
  simp only [trip4, accPc, carPc, List.cons_append, List.nil_append, row_cons]
  fin_cases h
  · exact key 0
  · exact key 1
  · exact key 2
  · exact key 3

theorem loop4_inv (b : Fin 8) (f6 : a6.ty.Contents (Elt Ideal)) (f7 : a7.ty.Contents (Elt Ideal))
    (hI : ∀ h, Inv z vv b.val b.val h (row a6 f6 h) (row a7 f7 h)) (n : ℕ) (hn : n ≤ b.val) :
    ∀ h, Inv z vv b.val (b.val - n) h (row a6 (a6.writes (Elt Ideal) f6 (loop4 k v q a6 a7 b f6 f7 n).1) h)
      (row a7 (a7.writes (Elt Ideal) f7 (loop4 k v q a6 a7 b f6 f7 n).2) h) := by
  induction n with
  | zero => exact hI
  | succ n ih =>
    have e := trip4_inv D a6 a7 b ⟨b.val - 1 - n, by omega⟩ (show b.val - 1 - n < b.val by omega) f6 f7 _ _
      (by have := ih (by omega); rwa [show b.val - n = b.val - 1 - n + 1 by omega] at this)
    rw [show b.val - (n + 1) = b.val - 1 - n by omega]
    exact e

theorem diag_inv (b : Fin 8) (st : Pcs Ideal × Pcs Ideal) :
    ∀ h, Inv z vv b.val b.val h (row a6 (a6.writes (Elt Ideal) a6.junk (diag k v q a6 a7 b st).1) h)
      (row a7 (a7.writes (Elt Ideal) a7.junk (diag k v q a6 a7 b st).2) h) :=
  step4_inv D a6 a7 true b b le_rfl (by simp) _ fun h r l => by
    constructor
    · exact (row_zero a7 _ h _ _).trans (G_self _ _ _).symm
    · exact (row_zero a6 _ h _ _).trans (by simp)

/-- The scratches at the end of query block `b`. -/
theorem blocks_inv (b : Fin 8) :
    ∀ h, Inv z vv b.val 0 h (row a6 (a6.writes (Elt Ideal) a6.junk (blocks k v q a6 a7 b.val).1) h)
      (row a7 (a7.writes (Elt Ideal) a7.junk (blocks k v q a6 a7 b.val).2) h) := by
  obtain ⟨b, hb⟩ := b
  match b, hb with
  | 0, _ => exact diag_inv D a6 a7 0 _
  | 1, _ => exact step4_inv D a6 a7 false 1 0 (by decide) (by decide) _ (diag_inv D a6 a7 1 _)
  | n + 2, hb =>
    have e := loop4_inv D a6 a7 ⟨(n + 2) % 8, by omega⟩ _ _ (diag_inv D a6 a7 ⟨(n + 2) % 8, by omega⟩ (blocks k v q a6 a7 (n + 1))) ((n + 2) % 8) le_rfl
    simp only [Nat.mod_eq_of_lt hb, Nat.sub_self, ← View.writes_append] at e
    intro h
    have e' := e h
    show Inv z vv (n + 2) 0 h (row a6 (a6.writes (Elt Ideal) a6.junk (blockL k v q a6 a7 ⟨(n + 2) % 8, by omega⟩ (blocks k v q a6 a7 (n + 1))).1) h)
      (row a7 (a7.writes (Elt Ideal) a7.junk (blockL k v q a6 a7 ⟨(n + 2) % 8, by omega⟩ (blocks k v q a6 a7 (n + 1))).2) h)
    simp only [Nat.mod_eq_of_lt hb, blockL]
    exact e'

end Cert.Attn
-- ==== Proof.Ref.lean ====
/-
  The reference of the attention, read at an index: weights times values, head by head. -/
module

public import proofs.«01_k».proof.Proof.Scalar
public import proofs.«01_k».proof.Proof.Gen.ReferenceIdeal.Run
public import Idealize.ShloMosaic.Lib.Claim
public import Idealize.ShloMosaic.Lib.WordCmp
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Attn

open Idealize.ShloMosaic Idealize.ShloMosaic.TcCoe Idealize.SL.Sem Cert.ReferenceIdeal Cert.ReferenceIdeal.Gen

/-- A fold of additions is a sum. -/
theorem foldl_add {ι : Type} (L : List ι) (f : ι → EReal) (a : EReal) : L.foldl (fun r n => r + f n) a = a + (L.map f).sum := by
  induction L generalizing a with
  | nil => simp
  | cons x L ih => rw [List.foldl_cons, ih, List.map_cons, List.sum_cons, add_assoc]

/-- The running sum from the end: the columns from `s` on. -/
theorem suffix_sum (x : FVec Ideal S32x16x2048x2048 .f32) (v : FVec Ideal S_ .f32) (hv : ∀ i, v i = 0) (H hu) (b : Fin 32) (h : Fin 16) (t s : Fin 2048) :
    Host.reduceWindowAdd ![1, 1, 1, 2048] ![1, 1, 1, 1] ![0, 0, 0, 0] ![0, 0, 0, 2047] x v H hu (ix4 b h t s)
      = ∑ i : Fin 2048, if hi : s.val + i.val < 2048 then x (ix4 b h t ⟨s.val + i.val, hi⟩) else 0 := by
  unfold Host.reduceWindowAdd
  show Ideal.hostReduceWindowAdd _ _ _ _ _ _ _ _ = _
  unfold Ideal.hostReduceWindowAdd Host.reduceWindow
  rw [hv]
  dsimp only
  rw [foldl_add, zero_add, ← Fin.sum_univ_def]
  let f : (⟨4, ![1, 1, 1, 2048]⟩ : Shape).Idx → EReal := fun w =>
    if hi : s.val + (w 3).val < 2048 then x (ix4 b h t ⟨s.val + (w 3).val, hi⟩) else 0
  refine Eq.trans (Finset.sum_congr rfl fun i _ => (?_ : _ = f ((Shape.rowMajor ⟨4, ![1, 1, 1, 2048]⟩).symm i))) ?_
  · let w : (⟨4, ![1, 1, 1, 2048]⟩ : Shape).Idx := (Shape.rowMajor ⟨4, ![1, 1, 1, 2048]⟩).symm i
    show _ = if hi : s.val + (w 3).val < 2048 then x (ix4 b h t ⟨s.val + (w 3).val, hi⟩) else 0
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    split
    · rename_i hin
      have h3 : 0 ≤ s.val * 1 + (w 3).val ∧ s.val * 1 + (w 3).val - 0 < 2048 := hin 3
      rw [dif_pos (by omega)]
      refine congrArg x (funext fun a => Fin.ext ?_)
      fin_cases a
      · show b.val * 1 + (w 0).val - 0 = b.val; omega
      · show h.val * 1 + (w 1).val - 0 = h.val; omega
      · show t.val * 1 + (w 2).val - 0 = t.val; omega
      · show s.val * 1 + (w 3).val - 0 = s.val + (w 3).val; omega
    · rename_i hin
      rw [dif_neg]
      refine fun hi => hin fun a => ?_
      fin_cases a
      · show 0 ≤ b.val * 1 + (w 0).val ∧ b.val * 1 + (w 0).val - 0 < 32; omega
      · show 0 ≤ h.val * 1 + (w 1).val ∧ h.val * 1 + (w 1).val - 0 < 16; omega
      · show 0 ≤ t.val * 1 + (w 2).val ∧ t.val * 1 + (w 2).val - 0 < 2048; omega
      · show 0 ≤ s.val * 1 + (w 3).val ∧ s.val * 1 + (w 3).val - 0 < 2048; omega
  · rw [Equiv.sum_comp (Shape.rowMajor ⟨4, ![1, 1, 1, 2048]⟩).symm f, sum_idx4]
    show ∑ _ : Fin 1, ∑ _ : Fin 1, ∑ _ : Fin 1, _ = _
    simp only [Fin.sum_univ_one]
    rfl

variable (x : Vec Ideal S32x2048x3072 .bf16)

/-- The queries, head by head. -/
def qs : FVec Ideal S32x16x2048x64 .bf16 :=
  transpose S32x16x2048x64 [0, 2, 1, 3] (shapeCast _ (extractStridedSlice S32x2048x1x16x64 ![0, 0, 0, 0, 0] (shapeCast _ x shapeCasts_S32x2048x3072_S32x2048x3x16x64) slices_S32x2048x3x16x64_S32x2048x1x16x64_0_0_0_0_0) shapeCasts_S32x2048x1x16x64_S32x2048x16x64) transposes_S32x2048x16x64_S32x16x2048x64_0_2_1_3

/-- The keys, head by head. -/
def ks : FVec Ideal S32x16x2048x64 .bf16 :=
  transpose S32x16x2048x64 [0, 2, 1, 3] (shapeCast _ (extractStridedSlice S32x2048x1x16x64 ![0, 0, 1, 0, 0] (shapeCast _ x shapeCasts_S32x2048x3072_S32x2048x3x16x64) slices_S32x2048x3x16x64_S32x2048x1x16x64_0_0_1_0_0) shapeCasts_S32x2048x1x16x64_S32x2048x16x64) transposes_S32x2048x16x64_S32x16x2048x64_0_2_1_3

/-- The values, head by head. -/
def vs : FVec Ideal S32x16x2048x64 .bf16 :=
  transpose S32x16x2048x64 [0, 2, 1, 3] (shapeCast _ (extractStridedSlice S32x2048x1x16x64 ![0, 0, 2, 0, 0] (shapeCast _ x shapeCasts_S32x2048x3072_S32x2048x3x16x64) slices_S32x2048x3x16x64_S32x2048x1x16x64_0_0_2_0_0) shapeCasts_S32x2048x1x16x64_S32x2048x16x64) transposes_S32x2048x16x64_S32x16x2048x64_0_2_1_3

/-- The scores. -/
def zs : FVec Ideal S32x16x2048x2048 .f32 :=
  Host.dotGeneral dot_S32x16x2048x64_S32x16x2048x64_S32x16x2048x2048_3_3_2_2_01_01 none (qs x) (ks x)

/-- Zeros. -/
def zeros4 : FVec Ideal S32x16x2048x2048 .f32 := broadcastInDim S32x16x2048x2048 ![] bcast_S_S32x16x2048x2048 (constant S_ .f32 0x00000000#32)

/-- `log (1 + exp w)`, in the stable form. -/
def soft4 (w : FVec Ideal S32x16x2048x2048 .f32) : FVec Ideal S32x16x2048x2048 .f32 :=
  select (cmpf .une (subf w zeros4) (subf w zeros4)) (addf w zeros4) (addf (maximumf w zeros4) (Host.log1p (Host.exp (Host.negf (Host.absf (subf w zeros4))))))

/-- Key before query. -/
def before : Vec Ideal S32x16x2048x2048 .i1 :=
  broadcastInDim S32x16x2048x2048 ![2, 3] bcast_S2048x2048_S32x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- Zero where the key is not before the query. -/
def cut (w : FVec Ideal S32x16x2048x2048 .f32) : FVec Ideal S32x16x2048x2048 .f32 :=
  select before w (broadcastInDim S32x16x2048x2048 ![] bcast_S_S32x16x2048x2048 (id (constant S_ .f32 0x00000000#32)))

/-- The logarithm of one minus the break probability. -/
def keep : FVec Ideal S32x16x2048x2048 .f32 := cut (Host.negf (soft4 (Host.negf (Host.negf (zs x)))))

/-- The sums over the columns from each one on. -/
def fromEnd (w : FVec Ideal S32x16x2048x2048 .f32) : FVec Ideal S32x16x2048x2048 .f32 :=
  Host.reduceWindowAdd ![1, 1, 1, 2048] ![1, 1, 1, 1] ![0, 0, 0, 0] ![0, 0, 0, 2047] w (broadcastInDim S_ ![] bcast_S_S_ (constant S_ .f32 0x00000000#32)) reduceWindows_S32x16x2048x2048_S32x16x2048x2048_w1s1p0_0_w1s1p0_0_w1s1p0_0_w2048s1p0_2047 h_S_

/-- The weights. -/
def aw : FVec Ideal S32x16x2048x2048 .f32 :=
  cut (Host.exp (addf (Host.negf (soft4 (Host.negf (zs x)))) (subf (fromEnd (keep x)) (keep x))))

/-- The reference's array. -/
def ref : FVec Ideal S32x2048x1024 .bf16 :=
  shapeCast _ (transpose S32x2048x16x64 [0, 2, 1, 3] (truncf .bf16 (Host.dotGeneral dot_S32x16x2048x2048_S32x16x2048x64_S32x16x2048x64_3_2_2_3_01_01 none (truncf .bf16 (aw x) bitsLt_bf16_f32) (vs x)) bitsLt_bf16_f32) transposes_S32x16x2048x64_S32x2048x16x64_0_2_1_3) shapeCasts_S32x2048x16x64_S32x2048x1024

/-- The reference's run ends with it. -/
theorem res_eq (m : (ℓ : Loc nD τ sig) → Buf (Elt Ideal) ℓ) (c : Dev nD) :
    Cert.ReferenceIdeal.Value.res_main_v31 m c = ref (m ((c : Thread nD τ).loc main_arg0)) := by
  rfl

theorem qs_apply (b : Fin 32) (h : Fin 16) (t : Fin 2048) (d : Fin 64) : qs x (ix4 b h t d) = x (ix3 b t ⟨64 * h.val + d.val, by omega⟩) := by
  pointwise [qs]
  exact congrArg (fun e => x (ix3 b t e)) (Fin.ext (by dsimp only; omega))

theorem ks_apply (b : Fin 32) (h : Fin 16) (t : Fin 2048) (d : Fin 64) : ks x (ix4 b h t d) = x (ix3 b t ⟨1024 + (64 * h.val + d.val), by omega⟩) := by
  pointwise [ks]
  exact congrArg (fun e => x (ix3 b t e)) (Fin.ext (by dsimp only; omega))

theorem vs_apply (b : Fin 32) (h : Fin 16) (t : Fin 2048) (d : Fin 64) : vs x (ix4 b h t d) = x (ix3 b t ⟨2048 + (64 * h.val + d.val), by omega⟩) := by
  pointwise [vs]
  exact congrArg (fun e => x (ix3 b t e)) (Fin.ext (by dsimp only; omega))

theorem zs_apply (b : Fin 32) (h : Fin 16) (t s : Fin 2048) : zs x (ix4 b h t s) = ∑ d : Fin 64, qs x (ix4 b h t d) * ks x (ix4 b h s d) := by
  pointwise [zs]

theorem soft4_apply (w : FVec Ideal S32x16x2048x2048 .f32) (b : Fin 32) (h : Fin 16) (t s : Fin 2048) : soft4 w (ix4 b h t s) = sp (w (ix4 b h t s)) := by
  pointwise [soft4, zeros4]
  rw [if_neg (not_not.mpr rfl), sp, zero_sub]
  rfl

theorem cut_apply (w : FVec Ideal S32x16x2048x2048 .f32) (b : Fin 32) (h : Fin 16) (t s : Fin 2048) : cut w (ix4 b h t s) = if s.val < t.val then w (ix4 b h t s) else 0 := by
  pointwise [cut, before]
  rw [WordCmp.cmpi_slt_ofNat (by omega) (by omega)]
  by_cases h : s.val < t.val
  · simp only [h, decide_true, if_true]; rfl
  · simp only [h, decide_false, if_false]
    show (constant S_ .f32 0x00000000#32 : FVec Ideal S_ .f32) ix0 = 0
    pointwise []

theorem fromEnd_apply (w : FVec Ideal S32x16x2048x2048 .f32) (b : Fin 32) (h : Fin 16) (t s : Fin 2048) : fromEnd w (ix4 b h t s)
      = ∑ i : Fin 2048, if hi : s.val + i.val < 2048 then w (ix4 b h t ⟨s.val + i.val, hi⟩) else 0 :=
  suffix_sum w _ (fun i => by pointwise []) _ _ b h t s

theorem ref_apply (b : Fin 32) (t : Fin 2048) (l : Fin 1024) :
    ref x (ix3 b t l) = ∑ s : Fin 2048, aw x (ix4 b ⟨l.val / 64, by omega⟩ t s) * vs x (ix4 b ⟨l.val / 64, by omega⟩ s ⟨l.val % 64, by omega⟩) := by
  pointwise [ref]

/-- The scores of one head, by the places of query and key. -/
def zr (b : Fin 32) (h : Fin 16) (t s : ℕ) : EReal :=
  if ht : t < 2048 then if hs : s < 2048 then zs x (ix4 b h ⟨t, ht⟩ ⟨s, hs⟩) else 0 else 0

theorem zr_val (b : Fin 32) (h : Fin 16) (t s : Fin 2048) : zr x b h t.val s.val = zs x (ix4 b h t s) := by
  rw [zr, dif_pos t.isLt, dif_pos s.isLt]

theorem keep_apply (b : Fin 32) (h : Fin 16) (t s : Fin 2048) : keep x (ix4 b h t s) = - g (zr x b h) t.val s.val := by
  rw [keep, cut_apply, g, zr_val]
  split
  · show - soft4 _ _ = _
    rw [soft4_apply]
    show - sp (- - zs x (ix4 b h t s)) = _
    rw [neg_neg]
  · rw [neg_zero]

theorem sum_neg {ι : Type} (S : Finset ι) (f : ι → EReal) (hf : ∀ i, 0 ≤ f i) : (∑ i ∈ S, - f i) = - ∑ i ∈ S, f i := by
  classical
  induction S using Finset.induction_on with
  | empty => simp
  | insert a S ha ih =>
    rw [Finset.sum_insert ha, Finset.sum_insert ha, ih,
      EReal.neg_add (.inl (ne_bot_of_nonneg (hf a))) (.inr (ne_bot_of_nonneg (Finset.sum_nonneg fun i _ => hf i))), sub_eq_add_neg]

theorem later_apply (b : Fin 32) (h : Fin 16) (t s : Fin 2048) : fromEnd (keep x) (ix4 b h t s) = - G (zr x b h) t.val s.val 2048 := by
  rw [fromEnd_apply, G, ← sum_neg _ _ (g_nonneg _ _), Finset.sum_Ico_eq_sum_range]
  have e : ∀ i : Fin 2048, (if hi : s.val + i.val < 2048 then keep x (ix4 b h t ⟨s.val + i.val, hi⟩) else 0)
      = (fun i => if s.val + i < 2048 then - g (zr x b h) t.val (s.val + i) else 0) i.val := fun i => by
    dsimp only
    split
    · exact keep_apply x b h t _
    · rfl
  rw [Finset.sum_congr rfl fun i _ => e i,
    Fin.sum_univ_eq_sum_range (fun i => if s.val + i < 2048 then - g (zr x b h) t.val (s.val + i) else 0) 2048, ← Finset.sum_filter]
  refine Finset.sum_congr (Finset.ext fun i => ?_) fun i _ => rfl
  simp only [Finset.mem_filter, Finset.mem_range]
  omega

/-- The reference's weight. -/
theorem aw_apply (b : Fin 32) (h : Fin 16) (t s : Fin 2048) : aw x (ix4 b h t s) = wt (zr x b h) t.val s.val := by
  rw [aw, cut_apply, wt]
  by_cases hs : s.val < t.val
  · rw [if_pos hs, if_pos hs]
    have e1 : G (zr x b h) t.val s.val 2048 = sp (zs x (ix4 b h t s)) + G (zr x b h) t.val (s.val + 1) 2048 := by
      rw [← G_add _ _ (Nat.le_succ s.val) (by omega : s.val + 1 ≤ 2048)]
      refine congrArg (· + _) ?_
      rw [G, Nat.Ico_succ_singleton, Finset.sum_singleton, g, if_pos hs, zr_val]
    show Ideal.exp (- soft4 (Host.negf (zs x)) (ix4 b h t s) + (fromEnd (keep x) (ix4 b h t s) - keep x (ix4 b h t s))) = _
    rw [soft4_apply, later_apply, keep_apply, e1, g, if_pos hs, zr_val]
    exact exp_eq _ (G_nonneg ..)
  · rw [if_neg hs, if_neg hs]

/-- The reference, by head. -/
theorem ref_val (b : Fin 32) (t : Fin 2048) (l : Fin 1024) :
    ref x (ix3 b t l) = ∑ s : Fin 2048, wt (zr x b ⟨l.val / 64, by omega⟩) t.val s.val * x (ix3 b s ⟨2048 + l.val, by omega⟩) := by
  rw [ref_apply]
  refine Finset.sum_congr rfl fun s _ => ?_
  rw [aw_apply, vs_apply]
  exact congrArg (fun e => _ * x (ix3 b s e)) (Fin.ext (by dsimp only; omega))

theorem zr_apply (b : Fin 32) (h : Fin 16) (t s : Fin 2048) :
    zr x b h t.val s.val = ∑ d : Fin 64, x (ix3 b t ⟨64 * h.val + d.val, by omega⟩) * x (ix3 b s ⟨1024 + (64 * h.val + d.val), by omega⟩) := by
  rw [zr_val, zs_apply]
  exact Finset.sum_congr rfl fun d _ => by rw [qs_apply, ks_apply]

end Cert.Attn
-- ==== Proof.Attn.lean ====
/-
  The attention of a layer: the kernel's array is the reference's. -/
module

public import proofs.«01_k».proof.Proof.Chain
public import proofs.«01_k».proof.Proof.Ref
public import proofs.«01_k».proof.Defs
public import Idealize.ShloMosaic.Lib.Pipeline.ReadBack

@[expose] public section

set_option maxRecDepth 16384

noncomputable section

namespace Cert.Attn

open Idealize.ShloMosaic Idealize.ShloMosaic.TcCoe Idealize.SL.Sem Cert.KernelIdeal Cert.KernelIdeal.Gen

variable (xq xk xv : Vec Ideal S1x2048x256 .bf16)

/-- The scores of a block's head `h`, by the places of query and key. -/
def zb (h : Fin 4) (t s : ℕ) : EReal :=
  if ht : t < 2048 then if hs : s < 2048 then
    ∑ d : Fin 64, xq (ix3 0 ⟨t, ht⟩ ⟨64 * h.val + d.val, by omega⟩) * xk (ix3 0 ⟨s, hs⟩ ⟨64 * h.val + d.val, by omega⟩) else 0 else 0

/-- The values of a head's tile. -/
def vb (h : Fin 4) (s : ℕ) (l : Fin 128) : EReal := if hs : s < 2048 then xv (ix3 0 ⟨s, hs⟩ ⟨128 * (h.val / 2) + l.val, by omega⟩) else 0

/-- Four heads' output. -/
def blk : Vec Ideal S1x2048x256 .bf16 := fun j =>
  ∑ s : Fin 2048, wt (zb xq xk ⟨(j 2).val / 64, by have : (j 2).val < 256 := (j 2).isLt; omega⟩) (j 1).val s.val * xv (ix3 0 s (j 2))

theorem rd_apply (arg : Memref sig .tc .vmem S1x2048x256 .bf16) (h : arg.IsWhole) (x : Vec Ideal S1x2048x256 .bf16) (b : Fin 8) (t : Fin 2)
    (r : Fin 256) (l : Fin 128) : rd arg h x b t (ix3 0 r l) = x (ix3 0 ⟨256 * b.val + r.val, by omega⟩ ⟨128 * t.val + l.val, by omega⟩) := by
  refine (congrFun (h.read_unread x) ((br b t).toLoadRect.idx (ix3 0 r l))).trans ?_
  refine congrArg x (funext fun a => Fin.ext ?_)
  fin_cases a
  · rfl
  · exact congrArg (256 * b.val + ·) (Nat.one_mul _)
  · exact congrArg (128 * t.val + ·) (Nat.one_mul _)

theorem half_sum (h : Fin 4) (a b : Fin 128 → EReal) :
    (∑ l : Fin 128, (if BitVec.ofNat 32 (l.val / 64) = par h then a l else 0) * b l)
      = ∑ d : Fin 64, a ⟨64 * (h.val % 2) + d.val, by omega⟩ * b ⟨64 * (h.val % 2) + d.val, by omega⟩ := by
  have lo : ∀ d : Fin 64, (Fin.castAdd 64 d).val / 64 = 0 := fun d => by simp
  have hi : ∀ d : Fin 64, (Fin.natAdd 64 d).val / 64 = 1 := fun d => by rw [Fin.val_natAdd]; omega
  rw [Fin.sum_univ_add (a := 64) (b := 64)]
  simp only [lo, hi, par]
  rcases Nat.mod_two_eq_zero_or_one h.val with e | e
  · simp [e]; rfl
  · simp [e]; rfl

theorem data_eq (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole) :
    Data (zb xq xk) (vb xv) (rd arg3 harg3 xk) (rd arg4 harg4 xv) (rd arg2 harg2 xq) where
  hz b n h r s := by
    rw [scores_apply, zb, dif_pos (by omega), dif_pos (by omega)]
    simp only [headQ_apply, rd_apply]
    rw [half_sum h (fun l => xq (ix3 0 ⟨256 * b.val + r.val, by omega⟩ ⟨128 * (tile h).val + l.val, by omega⟩))]
    refine Finset.sum_congr rfl fun d _ => ?_
    have e : (⟨128 * (tile h).val + (64 * (h.val % 2) + d.val), by omega⟩ : Fin 256) = ⟨64 * h.val + d.val, by omega⟩ :=
      Fin.ext (by show 128 * (h.val / 2) + _ = _; dsimp only; omega)
    simp only [e]
  hv n h s l := by
    rw [vb, dif_pos (by omega), rd_apply]
    rfl

/-- A stored block of rows and lanes is `blk` there. -/
theorem piece_eq {k v q : Fin 8 → Fin 2 → Vec Ideal S1x256x128 .bf16} (D : Data (zb xq xk) (vb xv) k v q)
    (a6 a7 : View sig .tc .vmem S4x256x128 .f32) (b : Fin 8) (t : Fin 2) (h h' : Fin 4) (e : h.val = 2 * t.val) (e' : h'.val = 2 * t.val + 1)
    (j : S1x256x128.Idx) :
    (outPc a6 b t h h' (blocks k v q a6 a7 b.val)).2 j = blk xq xk xv ((br b t).emb j) := by
  idx_vars j
  have ej : (br b t).emb (ix3 j0 j1 j2) = ix3 0 ⟨256 * b.val + j1.val, by omega⟩ ⟨128 * t.val + j2.val, by omega⟩ :=
    funext fun a => Fin.ext (by
      fin_cases a
      · exact Fin.val_eq_zero _
      · exact congrArg (256 * b.val + ·) (Nat.one_mul _)
      · exact congrArg (128 * t.val + ·) (Nat.one_mul _))
  have e0 : j0 = 0 := Fin.fin_one_eq_zero j0
  rw [ej, e0]
  refine (selPay_apply _ _ j1 j2).trans ?_
  have key : ∀ hh : Fin 4, hh.val = 2 * t.val + j2.val / 64 →
      row a6 (a6.writes (Elt Ideal) a6.junk (blocks k v q a6 a7 b.val).1) hh (ix3 0 j1 j2)
        = blk xq xk xv (ix3 0 ⟨256 * b.val + j1.val, by omega⟩ ⟨128 * t.val + j2.val, by omega⟩) := fun hh eh => by
    rw [(blocks_inv D a6 a7 b hh j1 j2).2, blk]
    have eh' : (⟨(128 * t.val + j2.val) / 64, by omega⟩ : Fin 4) = hh := Fin.ext (by dsimp only; omega)
    show _ = ∑ s : Fin 2048, wt (zb xq xk ⟨(128 * t.val + j2.val) / 64, _⟩) (256 * b.val + j1.val) s.val * xv (ix3 0 s ⟨128 * t.val + j2.val, _⟩)
    rw [eh']
    have ev : ∀ s : Fin 2048, xv (ix3 0 s ⟨128 * t.val + j2.val, by omega⟩) = vb xv hh s.val j2 := fun s => by
      rw [vb, dif_pos s.isLt]
      exact congrArg (fun l => xv (ix3 0 s l)) (Fin.ext (by dsimp only; omega))
    simp only [ev]
    rw [Fin.sum_univ_eq_sum_range (fun s => wt (zb xq xk hh) (256 * b.val + j1.val) s * vb xv hh s j2) 2048]
    refine Finset.sum_subset (fun s hs => ?_) fun s _ hs => ?_
    · rw [Finset.mem_Ico] at hs; rw [Finset.mem_range]; omega
    · rw [Finset.mem_Ico] at hs
      rw [wt, if_neg (by omega), zero_mul]
  split
  · rename_i hb
    refine key h' ?_
    rcases (by omega : j2.val / 64 = 0 ∨ j2.val / 64 = 1) with h0 | h1
    · rw [h0] at hb; exact absurd hb (by decide)
    · omega
  · rename_i hb
    refine key h ?_
    rcases (by omega : j2.val / 64 = 0 ∨ j2.val / 64 = 1) with h0 | h1
    · omega
    · rw [h1] at hb; exact absurd rfl hb

/-- What the body leaves in its output block. -/
theorem out_eq (c : Dev nD) (i : grid0.Coords) (arg2 : Memref sig .tc .vmem S1x2048x256 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S4x256x128 .f32) (harg6 : arg6.IsWhole)
    (arg7 : Memref sig .tc .vmem S4x256x128 .f32) (harg7 : arg7.IsWhole) (y : S1x2048x256.Idx) :
    out0_A_3 c i arg2 harg2 arg3 harg3 arg4 harg4 arg5 harg5 arg6 harg6 arg7 harg7 xq xk xv y = blk xq xk xv y := by
  have D := data_eq xq xk xv arg2 harg2 arg3 harg3 arg4 harg4
  have pc := piece_eq xq xk xv D arg6.view arg7.view
  unfold out0_A_3
  rw [View.read_writes_junk_eq_canon, pieces_eq]
  exact View.canon_append_of_piecesOf (blk xq xk xv) []
    [_, _, _, _, _, _, _, _, _, _, _, _, _, _, _, _]
    ⟨pc 7 1 2 3 rfl rfl, pc 7 0 0 1 rfl rfl, pc 6 1 2 3 rfl rfl, pc 6 0 0 1 rfl rfl, pc 5 1 2 3 rfl rfl, pc 5 0 0 1 rfl rfl,
      pc 4 1 2 3 rfl rfl, pc 4 0 0 1 rfl rfl, pc 3 1 2 3 rfl rfl, pc 3 0 0 1 rfl rfl, pc 2 1 2 3 rfl rfl, pc 2 0 0 1 rfl rfl,
      pc 1 1 2 3 rfl rfl, pc 1 0 0 1 rfl rfl, pc 0 1 2 3 rfl rfl, pc 0 0 0 1 rfl rfl, trivial⟩ y
    (View.cover_of_tiledBy _ ![1, 256, 128] (by sl_kernel_rfl) y)

/-- Four heads' output is the reference's in their columns. -/
theorem blk_eq (x : Vec Ideal S32x2048x3072 .bf16) (b : Fin 32) (p : Fin 4)
    (hq : ∀ (r : Fin 2048) (l : Fin 256), xq (ix3 0 r l) = x (ix3 b r ⟨256 * p.val + l.val, by omega⟩))
    (hk : ∀ (r : Fin 2048) (l : Fin 256), xk (ix3 0 r l) = x (ix3 b r ⟨256 * (4 + p.val) + l.val, by omega⟩))
    (hv : ∀ (r : Fin 2048) (l : Fin 256), xv (ix3 0 r l) = x (ix3 b r ⟨256 * (8 + p.val) + l.val, by omega⟩)) (t : Fin 2048) (l : Fin 256) :
    blk xq xk xv (ix3 0 t l) = ref x (ix3 b t ⟨256 * p.val + l.val, by omega⟩) := by
  rw [ref_val]
  have ez : zb xq xk ⟨l.val / 64, by omega⟩ = zr x b ⟨(256 * p.val + l.val) / 64, by omega⟩ := by
    funext t s
    by_cases ht : t < 2048
    · by_cases hs : s < 2048
      · rw [zr_apply x b _ ⟨t, ht⟩ ⟨s, hs⟩, zb, dif_pos ht, dif_pos hs]
        refine Finset.sum_congr rfl fun d _ => ?_
        rw [hq, hk]
        refine congrArg₂ (fun e e' => x (ix3 b ⟨t, ht⟩ e) * x (ix3 b ⟨s, hs⟩ e')) (Fin.ext ?_) (Fin.ext ?_) <;> dsimp only <;> omega
      · rw [zb, zr, dif_pos ht, dif_pos ht, dif_neg hs, dif_neg hs]
    · rw [zb, zr, dif_neg ht, dif_neg ht]
  show (∑ s : Fin 2048, wt (zb xq xk ⟨l.val / 64, _⟩) t.val s.val * xv (ix3 0 s l)) = _
  rw [ez]
  refine Finset.sum_congr rfl fun s _ => ?_
  rw [hv]
  exact congrArg (fun e => _ * x (ix3 b s e)) (Fin.ext (by dsimp only; omega))

/-- The kernel's array after its run is the reference's of its argument. -/
theorem arr_eq (m : (ℓ : Loc nD τ sig) → Buf (Elt Ideal) ℓ) (c : Dev nD) :
    (dats m 0 c).arrAt 3 cfg0.N = ref (m ((c : Thread nD τ).loc main_arg0)) := by
  refine (dats m 0 c).arrAt_eq_of_covers 3 _ (by decide +kernel) fun t hf y => ?_
  blk_simp
  rw [after0_3]
  unfold outsAt0
  refine (out_eq _ _ _ _ _ _ _ _ _ _ _ _ _ _ _ _ _ y).trans ?_
  have h1 : win0_3.index t (1 : Fin 3) = 0 := (by decide +kernel : ∀ t : Fin grid0.N, win0_3.index t (1 : Fin 3) = 0) t
  have hb : win0_3.index t (0 : Fin 3) < 32 := (by decide +kernel : ∀ t : Fin grid0.N, win0_3.index t (0 : Fin 3) < 32) t
  have hp : win0_3.index t (2 : Fin 3) < 4 := (by decide +kernel : ∀ t : Fin grid0.N, win0_3.index t (2 : Fin 3) < 4) t
  have i0 : win0_0.index t = win0_3.index t := (by decide +kernel : ∀ t : Fin grid0.N, win0_0.index t = win0_3.index t) t
  have i1 : win0_1.index t = ![win0_3.index t 0, 0, 4 + win0_3.index t 2] :=
    (by decide +kernel : ∀ t : Fin grid0.N, win0_1.index t = ![win0_3.index t 0, 0, 4 + win0_3.index t 2]) t
  have i2 : win0_2.index t = ![win0_3.index t 0, 0, 8 + win0_3.index t 2] :=
    (by decide +kernel : ∀ t : Fin grid0.N, win0_2.index t = ![win0_3.index t 0, 0, 8 + win0_3.index t 2]) t
  have e0 : ∀ (r : Fin 2048) (l : Fin 256), (win0_0.blk t).view.emb (ix3 0 r l)
      = ix3 ⟨win0_3.index t 0, hb⟩ r ⟨256 * win0_3.index t 2 + l.val, by omega⟩ := fun r l => by
    funext a; apply Fin.ext
    fin_cases a <;> blk_simp [i0, h1] <;> simp [Nat.mul_comm]
  have e1 : ∀ (r : Fin 2048) (l : Fin 256), (win0_1.blk t).view.emb (ix3 0 r l)
      = ix3 ⟨win0_3.index t 0, hb⟩ r ⟨256 * (4 + win0_3.index t 2) + l.val, by omega⟩ := fun r l => by
    funext a; apply Fin.ext
    fin_cases a <;> blk_simp [i1] <;> simp [Nat.mul_comm]
  have e2 : ∀ (r : Fin 2048) (l : Fin 256), (win0_2.blk t).view.emb (ix3 0 r l)
      = ix3 ⟨win0_3.index t 0, hb⟩ r ⟨256 * (8 + win0_3.index t 2) + l.val, by omega⟩ := fun r l => by
    funext a; apply Fin.ext
    fin_cases a <;> blk_simp [i2] <;> simp [Nat.mul_comm]
  have e3 : ∀ (r : Fin 2048) (l : Fin 256), (win0_3.blk t).view.emb (ix3 0 r l)
      = ix3 ⟨win0_3.index t 0, hb⟩ r ⟨256 * win0_3.index t 2 + l.val, by omega⟩ := fun r l => by
    funext a; apply Fin.ext
    fin_cases a <;> blk_simp [h1] <;> simp [Nat.mul_comm]
  change S1x2048x256.Idx at y
  idx_vars y
  have x0 : V m c main_arg0 = m ((c : Thread nD τ).loc main_arg0) := V_main_arg0 m c
  rw [Fin.fin_one_eq_zero y0, e3]
  refine blk_eq _ _ _ _ ⟨win0_3.index t 0, hb⟩ ⟨win0_3.index t 2, hp⟩ ?_ ?_ ?_ y1 y2
  · intro r l
    exact (congrFun x0 _).trans (congrArg _ (e0 r l))
  · intro r l
    exact (congrFun x0 _).trans (congrArg _ (e1 r l))
  · intro r l
    exact (congrFun x0 _).trans (congrArg _ (e2 r l))

/-- The reference runs, leaves its argument as it was and has no semaphore. -/
theorem ref_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with the same array. -/
theorem algebraic : Cert.algebraic_KernelIdeal_ReferenceIdeal := by
  pair_intro
  · run_from Cert.KernelIdeal.Value.run_blocks m g
  · run_from Cert.ReferenceIdeal.Value.run m' g'
    rw [arr_eq, res_eq, hagree]

end Cert.Attn
-- ==== Proof.Qkv.lean ====
/-
  The projection of queries, keys and values: block by block the kernel writes the rows of the reference's array. -/
module

public import proofs.«01_k».proof.Proof.Gen.Kernel2Ideal.Value
public import proofs.«01_k».proof.Proof.Gen.Reference2Ideal.Run
public import proofs.«01_k».proof.Defs
public import Idealize.ShloMosaic.Lib.Claim
public import Idealize.ShloMosaic.Lib.Pointwise
public import Idealize.ShloMosaic.Lib.Pipeline.ValueKit
public import Idealize.ShloMosaic.Lib.Tactic.CleanTypes
public import Idealize.ShloMosaic.Lib.Pipeline.ReadBack

@[expose] public section

set_option maxRecDepth 16384

noncomputable section

namespace Cert.Qkv

open Idealize.ShloMosaic Idealize.ShloMosaic.TcCoe Idealize.SL.Sem Cert.Kernel2Ideal Cert.Kernel2Ideal.Gen

/-- The projected rows, the first 1024 columns scaled. -/
def out (x : Vec Ideal S32x2048x1024 .f32) (w : Vec Ideal S1024x3072 .f32) : Vec Ideal S32x2048x3072 .bf16 := fun j =>
  let y := ∑ k : Fin 1024, x (ix3 (j 0) (j 1) k) * w (ix2 k (j 2))
  if (j 2).val < 1024 then y * Ideal.ofBits .f32 0x3E000000#32 else y

/-- The same on one block of rows. -/
def blk (x : Vec Ideal S1x512x1024 .f32) (w : Vec Ideal S1024x3072 .bf16) : Vec Ideal S1x512x3072 .bf16 := fun j =>
  let y := ∑ k : Fin 1024, x (ix3 0 (j 1) k) * w (ix2 k (j 2))
  if (j 2).val < 1024 then y * Ideal.ofBits .f32 0x3E000000#32 else y

/-- The first store is the block's first 1024 columns. -/
theorem pay_q (x : Vec Ideal S1x512x1024 .f32) (w : Vec Ideal S1024x3072 .bf16) (j : S1x512x1024.Idx) :
    k0_pay2 x w j = blk x w ((Rect.unit (s := S1x512x3072) ![0, 0, 0] ![1, 512, 1024] inb_S1x512x3072_S1x512x1024_0_0_0).emb j) := by
  idx_vars j
  have e : (Rect.unit (s := S1x512x3072) ![0, 0, 0] ![1, 512, 1024] inb_S1x512x3072_S1x512x1024_0_0_0).emb (ix3 j0 j1 j2)
      = ix3 j0 j1 ⟨j2.val, by omega⟩ := funext fun a => Fin.ext (by
    fin_cases a <;> exact (Nat.zero_add _).trans (Nat.one_mul _))
  rw [e]
  pointwise [k0_pay2, k0_pay1, blk]

/-- The second store is its last 2048 columns. -/
theorem pay_kv (x : Vec Ideal S1x512x1024 .f32) (w : Vec Ideal S1024x3072 .bf16) (j : S1x512x2048.Idx) :
    k0_pay3 x w j = blk x w ((Rect.unit (s := S1x512x3072) ![0, 0, 1024] ![1, 512, 2048] inb_S1x512x3072_S1x512x2048_0_0_1024).emb j) := by
  idx_vars j
  have e : (Rect.unit (s := S1x512x3072) ![0, 0, 1024] ![1, 512, 2048] inb_S1x512x3072_S1x512x2048_0_0_1024).emb (ix3 j0 j1 j2)
      = ix3 j0 j1 ⟨1024 + j2.val, by omega⟩ := funext fun a => Fin.ext (by
    fin_cases a
    · exact (Nat.zero_add _).trans (Nat.one_mul _)
    · exact (Nat.zero_add _).trans (Nat.one_mul _)
    · exact congrArg (1024 + ·) (Nat.one_mul _))
  rw [e]
  pointwise [k0_pay3, k0_pay1, blk]

/-- The kernel's array after its run is `out` of its arguments. -/
theorem arr_eq (m : (ℓ : Loc nD τ sig) → Buf (Elt Ideal) ℓ) (c : Dev nD) :
    (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (View.canon_append_of_piecesOf (blk (iblk m c 0 t) (iblk m c 1 t)) [] [_, _] ⟨pay_kv _ _, pay_q _ _, trivial⟩ _
    (View.cover_of_tiledBy _ ![1, 512, 1024] (by sl_kernel_rfl) _)).trans ?_
  have h2 : win0_2.index t (2 : Fin 3) = 0 := (by decide +kernel : ∀ t : Fin grid0.N, win0_2.index t (2 : Fin 3) = 0) t
  have h0 : win0_0.index t = win0_2.index t := (by decide +kernel : ∀ t : Fin grid0.N, win0_0.index t = win0_2.index t) t
  have h1 : win0_1.index t = ![0, 0] := (by decide +kernel : ∀ t : Fin grid0.N, win0_1.index t = ![0, 0]) t
  have e0 : ∀ k : Fin 1024, (win0_0.blk t).view.emb (ix3 0 (y 1) k)
      = ix3 ((win0_2.blk t).view.emb y 0) ((win0_2.blk t).view.emb y 1) k := fun k => by
    funext a; apply Fin.ext
    fin_cases a <;> blk_simp [h0, h2] <;> simp
  have e1 : ∀ k : Fin 1024, (win0_1.blk t).view.emb (ix2 k (y 2)) = ix2 k ((win0_2.blk t).view.emb y 2) := fun k => by
    funext a; apply Fin.ext
    fin_cases a <;> blk_simp [h1, h2] <;> simp <;> exact h2
  have w0 : V m c main_v0 = m ((c : Thread nD τ).loc main_arg1) := by
    show StableHlo.after hostOps0 _ _ = _
    after_results
    rfl
  blk_simp [iblk, blk, out, h2]
  have x0 : V m c main_arg0 = m ((c : Thread nD τ).loc main_arg0) := V_main_arg0 m c
  simp only [e0, e1, w0, x0]
  rfl

/-- The reference runs, leaves its arguments as they were and has no semaphore. -/
theorem ref_frame : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- Over the extended reals the kernel and the reference end with the same array. -/
theorem algebraic : Cert.algebraic_Kernel2Ideal_Reference2Ideal := by
  pair_intro
  · run_from Cert.Kernel2Ideal.Value.run_blocks m g
  · run_from Cert.Reference2Ideal.Value.run m' g'
    rw [arr_eq]
    funext j
    generalize m (c.tc.loc main_arg0) = x
    generalize m (c.tc.loc main_arg1) = w
    clean_types
    idx_vars j
    pointwise [out]
    split
    · rfl
    · rename_i h
      have e : (⟨1024 + (j2.val - 1024), by omega⟩ : Fin 3072) = j2 := Fin.ext (by show 1024 + (j2.val - 1024) = j2.val; omega)
      simp only [e]

end Cert.Qkv
-- ==== Proof.Norm.lean ====
/-
  Layer norm of a row over the extended reals. -/
module

public import Idealize.ShloMosaic.PureOps.Ideal

@[expose] public section

noncomputable section

namespace Cert.Norm

open Idealize.ShloMosaic

/-- The mean of a row of `N` entries, `N` a rounded constant. -/
def mean {n : ℕ} (N : EReal) (v : Fin n → EReal) : EReal := Ideal.div (∑ k, v k) N

/-- Entry `j` of the row `v` less its mean, over its deviation, scaled by `g` and shifted by `b`. -/
def norm {n : ℕ} (N ε : EReal) (v g b : Fin n → EReal) (j : Fin n) : EReal :=
  (v j - mean N v) * Ideal.rsqrt (mean N (fun k => (v k - mean N v) * (v k - mean N v)) + ε) * g j + b j

end Cert.Norm
-- ==== Proof.Out.lean ====
/-
  The output projection of an attention layer and the layer norm after it: block by block the kernel writes the rows of
  the reference's array. -/
module

public import proofs.«01_k».proof.Proof.Gen.Kernel5Ideal.Value
public import proofs.«01_k».proof.Proof.Gen.Reference5Ideal.Run
public import proofs.«01_k».proof.Proof.Norm
public import proofs.«01_k».proof.Defs
public import Idealize.ShloMosaic.Lib.Claim
public import Idealize.ShloMosaic.Lib.Pointwise
public import Idealize.ShloMosaic.Lib.Pipeline.ValueKit
public import Idealize.ShloMosaic.Lib.Tactic.CleanTypes
public import Idealize.ShloMosaic.Lib.Pipeline.ReadBack

@[expose] public section

set_option maxRecDepth 16384

noncomputable section

namespace Cert.Out

open Idealize.ShloMosaic Idealize.ShloMosaic.TcCoe Idealize.SL.Sem Cert.Kernel5Ideal Cert.Kernel5Ideal.Gen

/-- A row before the norm: the scaled input plus the projected attention. -/
def pre (o : Fin 1024 → EReal) (x : Fin 1024 → EReal) (w : Vec Ideal S1024x1024 .f32) (k : Fin 1024) : EReal :=
  Ideal.ofBits .f32 0x3FD744FD#32 * x k + ∑ e : Fin 1024, o e * w (ix2 e k)

/-- The layer's rows. -/
def out (o : Vec Ideal S32x2048x1024 .bf16) (x : Vec Ideal S32x2048x1024 .f32) (w : Vec Ideal S1024x1024 .f32) (g b : Vec Ideal S1024 .f32) :
    Vec Ideal S32x2048x1024 .f32 := fun j =>
  Norm.norm (Ideal.ofBits .f32 0x44800000#32) (Ideal.ofBits .f32 0x3727C5AC#32)
    (pre (fun e => o (ix3 (j 0) (j 1) e)) (fun k => x (ix3 (j 0) (j 1) k)) w) (fun k => g (ix1 k)) (fun k => b (ix1 k)) (j 2)

/-- What the body stores of a block of rows. -/
theorem pay_apply (x0 : Vec Ideal S1x512x1024 .bf16) (x1 : Vec Ideal S1x512x1024 .f32) (x2 : Vec Ideal S1024x1024 .bf16) (x3 x4 : Vec Ideal S1x1024 .f32)
    (j : S1x512x1024.Idx) : k0_pay1 (k0_pay3 x0 x2 x1 x3 x4) j
      = Norm.norm (Ideal.ofBits .f32 0x44800000#32) (Ideal.ofBits .f32 0x3727C5AC#32)
        (pre (fun e => x0 (ix3 0 (j 1) e)) (fun k => x1 (ix3 0 (j 1) k)) x2) (fun k => x3 (ix2 0 k)) (fun k => x4 (ix2 0 k)) (j 2) := by
  idx_vars j
  pointwise [k0_pay1, k0_pay3, Norm.norm, Norm.mean, pre]

/-- The kernel's array after its run is `out` of its arguments. -/
theorem arr_eq (m : (ℓ : Loc nD τ sig) → Buf (Elt Ideal) ℓ) (c : Dev nD) :
    (dats m 0 c).arrAt 6 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold k0_pay4
  simp (disch := decide) only [View.ld_unit_lit]
  rw [pay_apply]
  have h2 : win0_6.index t (2 : Fin 3) = 0 := (by decide +kernel : ∀ t : Fin grid0.N, win0_6.index t (2 : Fin 3) = 0) t
  have h0 : win0_0.index t = win0_6.index t := (by decide +kernel : ∀ t : Fin grid0.N, win0_0.index t = win0_6.index t) t
  have h1 : win0_1.index t = win0_6.index t := (by decide +kernel : ∀ t : Fin grid0.N, win0_1.index t = win0_6.index t) t
  have i2 : win0_2.index t = ![0, 0] := (by decide +kernel : ∀ t : Fin grid0.N, win0_2.index t = ![0, 0]) t
  have i3 : win0_3.index t = ![0, 0] := (by decide +kernel : ∀ t : Fin grid0.N, win0_3.index t = ![0, 0]) t
  have i4 : win0_4.index t = ![0, 0] := (by decide +kernel : ∀ t : Fin grid0.N, win0_4.index t = ![0, 0]) t
  have w0 : V m c main_v0 = m ((c : Thread nD τ).loc main_arg2) := by
    show StableHlo.after hostOps0 _ _ = _
    after_results
    rfl
  have w1 : ∀ k : Fin 1024, V m c main_v1 (ix2 0 k) = m ((c : Thread nD τ).loc main_arg3) (ix1 k) := fun k => by
    show StableHlo.after hostOps0 _ _ _ = _
    after_results
    clean_types
    pointwise []
  have w2 : ∀ k : Fin 1024, V m c main_v2 (ix2 0 k) = m ((c : Thread nD τ).loc main_arg4) (ix1 k) := fun k => by
    show StableHlo.after hostOps0 _ _ _ = _
    after_results
    clean_types
    pointwise []
  have e0 : ∀ k : Fin 1024, (win0_0.blk t).view.emb (ix3 0 (y 1) k)
      = ix3 ((win0_6.blk t).view.emb y 0) ((win0_6.blk t).view.emb y 1) k := fun k => by
    funext a; apply Fin.ext
    fin_cases a <;> blk_simp [h0, h2] <;> simp
  have e1 : ∀ k : Fin 1024, (win0_1.blk t).view.emb (ix3 0 (y 1) k)
      = ix3 ((win0_6.blk t).view.emb y 0) ((win0_6.blk t).view.emb y 1) k := fun k => by
    funext a; apply Fin.ext
    fin_cases a <;> blk_simp [h1, h2] <;> simp
  have e2 : ∀ k l : Fin 1024, (win0_2.blk t).view.emb (ix2 k l) = ix2 k l := fun k l => by
    funext a; apply Fin.ext
    fin_cases a <;> blk_simp [i2] <;> simp
  have e3 : ∀ k : Fin 1024, (win0_3.blk t).view.emb (ix2 0 k) = ix2 0 k := fun k => by
    funext a; apply Fin.ext
    fin_cases a <;> blk_simp [i3] <;> simp
  have e4 : ∀ k : Fin 1024, (win0_4.blk t).view.emb (ix2 0 k) = ix2 0 k := fun k => by
    funext a; apply Fin.ext
    fin_cases a <;> blk_simp [i4] <;> simp
  have e5 : (win0_6.blk t).view.emb y 2 = y 2 := by
    apply Fin.ext
    blk_simp [h2]
  have x0 : V m c main_arg0 = m ((c : Thread nD τ).loc main_arg0) := V_main_arg0 m c
  have x1 : V m c main_arg1 = m ((c : Thread nD τ).loc main_arg1) := V_main_arg1 m c
  have f0 : ∀ k : Fin 1024, iblk m c 0 t (ix3 0 (y 1) k) = m ((c : Thread nD τ).loc main_arg0) (ix3 ((win0_6.blk t).view.emb y 0) ((win0_6.blk t).view.emb y 1) k) :=
    fun k => (congrFun x0 _).trans (congrArg _ (e0 k))
  have f1 : ∀ k : Fin 1024, iblk m c 1 t (ix3 0 (y 1) k) = m ((c : Thread nD τ).loc main_arg1) (ix3 ((win0_6.blk t).view.emb y 0) ((win0_6.blk t).view.emb y 1) k) :=
    fun k => (congrFun x1 _).trans (congrArg _ (e1 k))
  have f2 : iblk m c 2 t = m ((c : Thread nD τ).loc main_arg2) := by
    funext i
    change S1024x1024.Idx at i
    idx_vars i
    exact (congrFun w0 _).trans (congrArg _ (e2 i0 i1))
  have f3 : ∀ k : Fin 1024, iblk m c 3 t (ix2 0 k) = m ((c : Thread nD τ).loc main_arg3) (ix1 k) :=
    fun k => (congrArg (V m c main_v1) (e3 k)).trans (w1 k)
  have f4 : ∀ k : Fin 1024, iblk m c 4 t (ix2 0 k) = m ((c : Thread nD τ).loc main_arg4) (ix1 k) :=
    fun k => (congrArg (V m c main_v2) (e4 k)).trans (w2 k)
  simp only [f0, f1, f2, f3, f4, out, e5]

/-- The reference runs, leaves its arguments as they were and has no semaphore. -/
theorem ref_frame : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- Over the extended reals the kernel's first result and the reference end with the same array. -/
theorem algebraic : Cert.algebraic_Kernel5Ideal_Reference5Ideal := by
  pair_intro
  · run_from Cert.Kernel5Ideal.Value.run_blocks m g
  · run_from Cert.Reference5Ideal.Value.run m' g'
    rw [arr_eq]
    funext j
    generalize m (c.tc.loc main_arg0) = o
    generalize m (c.tc.loc main_arg1) = x
    generalize m (c.tc.loc main_arg2) = w
    generalize m (c.tc.loc main_arg3) = g
    generalize m (c.tc.loc main_arg4) = b
    clean_types
    idx_vars j
    pointwise [out, Norm.norm, Norm.mean, pre]

end Cert.Out
-- ==== Proof.ExpertRun.lean ====
/-
  One grid point of the experts' kernel, by case: a chunk whose expert's weights are brought in, a chunk that keeps the
  weights held from the chunk before, and a chunk past the used ones. -/
module

public import proofs.«01_k».proof.Defs
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The machine's resources at one instance of the floats. -/
abbrev Res (F : FTy → Type) : Type := MT nD τ sig Unit (Elt F) ℕ (UR sig nD τ) ℕ

abbrev ceM : Memref sig .tc .smem S288 .i32 := Memref.whole main_arg1
abbrev nvM : Memref sig .tc .smem S1 .i32 := Memref.whole main_arg2
abbrev upM : Memref sig .tc .vmem S1024x1024 .bf16 := Memref.whole cc0_scratch0
abbrev dnM : Memref sig .tc .vmem S512x1024 .bf16 := Memref.whole cc0_scratch1

/-- The table of experts and the count of used chunks. -/
abbrev CeT (F : FTy → Type) : Type := S288.Idx → Elt F .i32
abbrev NvT (F : FTy → Type) : Type := S1.Idx → Elt F .i32

/-- The words the body reads: the count, the chunk's expert, the expert of the chunk before. -/
abbrev nvW (N : NvT F) : BitVec 32 :=
  View.readAt (Elt F) nvM.view (Rect.unit (s := S1) ![0] S1.size inb_S1_S1_0).toLoadRect N (Shape.Idx.first (numel1_S1.symm ▸ Nat.one_pos))
abbrev ceW (C : CeT F) (i : grid0.Coords) : BitVec 32 :=
  View.readAt (Elt F) ceM.view (Rect.unit (s := S288) (k0_off3 i) S1.size (k0_off3_inb i)).toLoadRect C (Shape.Idx.first (numel1_S1.symm ▸ Nat.one_pos))
abbrev prevW (C : CeT F) (i : grid0.Coords) : BitVec 32 :=
  View.readAt (Elt F) ceM.view (Rect.unit (s := S288) (k0_off2 i) S1.size (k0_off2_inb i)).toLoadRect C (Shape.Idx.first (numel1_S1.symm ▸ Nat.one_pos))

/-- Whether the body brings weights in. -/
abbrev newW (C : CeT F) (i : grid0.Coords) : BitVec 1 :=
  Scalar.cmpi .ne (Scalar.extui (Scalar.ori (Scalar.cmpi .eq (BitVec.ofNat 32 (i 0).val) 0#32) (Scalar.cmpi .ne (ceW C i) (prevW C i)))) 0#32

/-- What a chunk's rows become: gate and up, the gated product, down. -/
abbrev chunkOut (x : Vec F S512x1024 .f32) (u : Vec F S1x1x1024x1024 .f32) (d : Vec F S1x1x512x1024 .f32) : FVec F S512x1024 .f32 :=
  k0_pay3 x (k0_pay1 u) (k0_pay2 d)

section run

variable (c : Dev nD) (i : grid0.Coords)
  (arg3 : Memref sig .tc .vmem S512x1024 .f32) (harg3 : arg3.IsWhole)
  (arg4 : Memref sig .tc .vmem S1x1x1024x1024 .f32) (harg4 : arg4.IsWhole)
  (arg5 : Memref sig .tc .vmem S1x1x512x1024 .f32) (harg5 : arg5.IsWhole)
  (arg6 : Memref sig .tc .vmem S512x1024 .f32) (harg6 : arg6.IsWhole)
  (C : CeT F) (N : NvT F)
  (x : S512x1024.Idx → Elt F .f32) (u : S1x1x1024x1024.Idx → Elt F .f32) (d : S1x1x512x1024.Idx → Elt F .f32)

/-- What the body reads and leaves as it was: the three blocks and the two tables. -/
def inputs : sProp (Res F) :=
  iprop((arg3.view.loc (c : Thread nD τ) ↦[arg3.view.set]{fullShare} arg3.view.rep x)
    ∗ (arg4.view.loc (c : Thread nD τ) ↦[arg4.view.set]{fullShare} arg4.view.rep u)
    ∗ (arg5.view.loc (c : Thread nD τ) ↦[arg5.view.set]{fullShare} arg5.view.rep d)
    ∗ (ceM.view.loc (c : Thread nD τ) ↦{fullShare.right} C)
    ∗ (nvM.view.loc (c : Thread nD τ) ↦{fullShare.right} N))

/-- A scratch of weights that reads as `w` where `P` holds. -/
def heldUp (P : Prop) (w : S1024x1024.Idx → Elt F .bf16) : sProp (Res F) :=
  iprop(∃ a, ⌜P → upM.view.read (Elt F) a = w⌝ ∗ (upM.view.loc (c : Thread nD τ) ↦{fullShare} a))
def heldDn (P : Prop) (w : S512x1024.Idx → Elt F .bf16) : sProp (Res F) :=
  iprop(∃ a, ⌜P → dnM.view.read (Elt F) a = w⌝ ∗ (dnM.view.loc (c : Thread nD τ) ↦{fullShare} a))

/-- The body on its memrefs. -/
abbrev bodyOn : Prog (TpuEff nD τ sig (Elt F) Λ₀ .tc) PUnit :=
  cc0__expert_kernel i ceM (Memref.isWhole_whole _) nvM (Memref.isWhole_whole _) arg3 harg3 arg4 harg4 arg5 harg5 arg6 harg6
    upM (Memref.isWhole_whole _) dnM (Memref.isWhole_whole _)

set_option maxHeartbeats 8000000 in
/-- A used chunk that brings its expert's weights in. -/
theorem run_new (h1 : k0_cond1 i (nvW N) = 1#1) (hc : newW C i = 1#1) (h3 : ¬ k0_cond3 i (nvW N) = 1#1)
    (P Q : Prop) (w₁ : S1024x1024.Idx → Elt F .bf16) (w₂ : S512x1024.Idx → Elt F .bf16) (K : PUnit → sProp (Res F)) :
    iprop(inputs c arg3 arg4 arg5 C N x u d ∗ (∃ y, owns (c : Thread nD τ) arg6 fullShare y) ∗ heldUp c P w₁ ∗ heldDn c P w₂
        ∗ (iprop(inputs c arg3 arg4 arg5 C N x u d ∗ owns (c : Thread nD τ) arg6 fullShare (chunkOut x u d)
            ∗ heldUp c Q (k0_pay1 u) ∗ heldDn c Q (k0_pay2 d)) -∗ K ⟨⟩))
      ⊢ wp frame (wpE (defs₀ (F := F)) Variants.none c none) Set.univ (bodyOn i arg3 harg3 arg4 harg4 arg5 harg5 arg6 harg6) K := by
  unfold owns inputs heldUp heldDn bodyOn
  rw [cc0__expert_kernel_eq_skeleton]; unfold cc0__expert_kernel_skel
  iintro ⟨⟨H0, H1, H2, HT0, HT1⟩, ⟨%d3, %f3, -, HO3⟩, ⟨%a0, -, HS0⟩, ⟨%a1, -, HS1⟩, Hk⟩
  have hS0 : upM.IsWhole := Memref.isWhole_whole _
  have hS1 : dnM.IsWhole := Memref.isWhole_whole _
  have hT0 : ceM.IsWhole := Memref.isWhole_whole _
  have hT1 : nvM.IsWhole := Memref.isWhole_whole _
  sl_exec! (disch := first | (guard_target = k0_cond1 _ _ = _; exact h1) | (guard_target = Scalar.cmpi = _; exact hc) | (guard_target = ¬(k0_cond3 _ _ = _); exact h3))
  sl_step
  iapply Hk
  isplitl [H0 H1 H2 HT0 HT1]
  · isplitl [H0]; · iexact H0
    isplitl [H1]; · iexact H1
    isplitl [H2]; · iexact H2
    isplitl [HT0]; · iexact HT0
    iexact HT1
  isplitl [HO3]
  · iexists _; isplitr; swap
    · iexact HO3
    · ipureintro
      unfold run_new.sl.HO3_1
      rw [View.read_writes_full]
      rw [View.readAt_rep_full]
      unfold run_new.sl.v21 run_new.sl.v29 run_new.sl.HS0_1 run_new.sl.HS1_1
      rw [View.readCov_full, View.readCov_full, View.readAt_rep_full, View.readAt_rep_full]
  isplitl [HS0]
  · iexists _; isplitr; swap
    · iexact HS0
    · ipureintro; intro _
      unfold run_new.sl.HS0_1
      rw [View.read_writes_full, View.readAt_rep_full]
  iexists _; isplitr; swap
  · iexact HS1
  · ipureintro; intro _
    unfold run_new.sl.HS1_1
    rw [View.read_writes_full, View.readAt_rep_full]

set_option maxHeartbeats 8000000 in
/-- A used chunk that keeps the weights held. -/
theorem run_keep (h1 : k0_cond1 i (nvW N) = 1#1) (hc : ¬ newW C i = 1#1) (h3 : ¬ k0_cond3 i (nvW N) = 1#1)
    (P Q : Prop) (hP : P) (w₁ : S1024x1024.Idx → Elt F .bf16) (w₂ : S512x1024.Idx → Elt F .bf16) (K : PUnit → sProp (Res F)) :
    iprop(inputs c arg3 arg4 arg5 C N x u d ∗ (∃ y, owns (c : Thread nD τ) arg6 fullShare y) ∗ heldUp c P w₁ ∗ heldDn c P w₂
        ∗ (iprop(inputs c arg3 arg4 arg5 C N x u d ∗ owns (c : Thread nD τ) arg6 fullShare (k0_pay3 x w₁ w₂)
            ∗ heldUp c Q w₁ ∗ heldDn c Q w₂) -∗ K ⟨⟩))
      ⊢ wp frame (wpE (defs₀ (F := F)) Variants.none c none) Set.univ (bodyOn i arg3 harg3 arg4 harg4 arg5 harg5 arg6 harg6) K := by
  unfold owns inputs heldUp heldDn bodyOn
  rw [cc0__expert_kernel_eq_skeleton]; unfold cc0__expert_kernel_skel
  iintro ⟨⟨H0, H1, H2, HT0, HT1⟩, ⟨%d3, %f3, -, HO3⟩, ⟨%a0, %e0, HS0⟩, ⟨%a1, %e1, HS1⟩, Hk⟩
  have hS0 : upM.IsWhole := Memref.isWhole_whole _
  have hS1 : dnM.IsWhole := Memref.isWhole_whole _
  have hT0 : ceM.IsWhole := Memref.isWhole_whole _
  have hT1 : nvM.IsWhole := Memref.isWhole_whole _
  sl_exec! (disch := first | (guard_target = k0_cond1 _ _ = _; exact h1) | (guard_target = ¬(Scalar.cmpi .ne _ _ = _); exact hc) | (guard_target = ¬(k0_cond3 _ _ = _); exact h3))
  sl_step
  iapply Hk
  isplitl [H0 H1 H2 HT0 HT1]
  · isplitl [H0]; · iexact H0
    isplitl [H1]; · iexact H1
    isplitl [H2]; · iexact H2
    isplitl [HT0]; · iexact HT0
    iexact HT1
  isplitl [HO3]
  · iexists _; isplitr; swap
    · iexact HO3
    · ipureintro
      unfold run_keep.sl.HO3_1
      rw [View.read_writes_full]
      rw [View.readAt_rep_full, View.readAt_full, View.readAt_full, e0 hP, e1 hP]
  isplitl [HS0]
  · iexists _; isplitr; swap
    · iexact HS0
    · ipureintro; intro _; first | exact e0 hP | exact e1 hP
  iexists _; isplitr; swap
  · iexact HS1
  · ipureintro; intro _; first | exact e0 hP | exact e1 hP

set_option maxHeartbeats 8000000 in
/-- A chunk past the used ones. -/
theorem run_zero (h1 : ¬ k0_cond1 i (nvW N) = 1#1) (h3 : k0_cond3 i (nvW N) = 1#1)
    (P : Prop) (w₁ : S1024x1024.Idx → Elt F .bf16) (w₂ : S512x1024.Idx → Elt F .bf16) (K : PUnit → sProp (Res F)) :
    iprop(inputs c arg3 arg4 arg5 C N x u d ∗ (∃ y, owns (c : Thread nD τ) arg6 fullShare y) ∗ heldUp c P w₁ ∗ heldDn c P w₂
        ∗ (iprop(inputs c arg3 arg4 arg5 C N x u d ∗ owns (c : Thread nD τ) arg6 fullShare (k0_pay4 (F := F))
            ∗ heldUp c P w₁ ∗ heldDn c P w₂) -∗ K ⟨⟩))
      ⊢ wp frame (wpE (defs₀ (F := F)) Variants.none c none) Set.univ (bodyOn i arg3 harg3 arg4 harg4 arg5 harg5 arg6 harg6) K := by
  unfold owns inputs heldUp heldDn bodyOn
  rw [cc0__expert_kernel_eq_skeleton]; unfold cc0__expert_kernel_skel
  iintro ⟨⟨H0, H1, H2, HT0, HT1⟩, ⟨%d3, %f3, -, HO3⟩, ⟨%a0, %e0, HS0⟩, ⟨%a1, %e1, HS1⟩, Hk⟩
  have hS0 : upM.IsWhole := Memref.isWhole_whole _
  have hS1 : dnM.IsWhole := Memref.isWhole_whole _
  have hT0 : ceM.IsWhole := Memref.isWhole_whole _
  have hT1 : nvM.IsWhole := Memref.isWhole_whole _
  sl_exec! (disch := first | (guard_target = ¬(k0_cond1 _ _ = _); exact h1) | (guard_target = k0_cond3 _ _ = _; exact h3))
  sl_step
  iapply Hk
  isplitl [H0 H1 H2 HT0 HT1]
  · isplitl [H0]; · iexact H0
    isplitl [H1]; · iexact H1
    isplitl [H2]; · iexact H2
    isplitl [HT0]; · iexact HT0
    iexact HT1
  isplitl [HO3]
  · iexists _; isplitr; swap
    · iexact HO3
    · ipureintro
      unfold run_zero.sl.HO3_1
      rw [View.read_writes_full]
  isplitl [HS0]
  · iexists _; isplitr; swap
    · iexact HS0
    · ipureintro; first | exact e0 | exact e1
  iexists _; isplitr; swap
  · iexact HS1
  · ipureintro; first | exact e0 | exact e1

end run

end Cert.Experts

end
-- ==== Proof.ExpertLaunch.lean ====
/-
  The experts' kernel over its whole grid, at any table of experts in range and any count of used chunks: the pipeline at
  those tables, the contents of its buffers point by point, the launch, and what the run leaves. -/
module

public import proofs.«01_k».proof.Proof.ExpertRun
public import proofs.«01_k».proof.Proof.Gen.Pre_pre3
public import Idealize.ShloMosaic.Lib.Pipeline.Quiescent
public import Idealize.ShloMosaic.Lib.Claim
public import Idealize.ShloMosaic.Lib.Pointwise
public import Idealize.ShloMosaic.Lib.ReduceAll
public import Idealize.ShloMosaic.Lib.WordCmp
public import Idealize.ShloMosaic.Lib.WordArith

@[expose] public section

set_option maxRecDepth 16384
set_option Elab.async false

noncomputable section

namespace Cert.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's resource algebra: the pipeline's staging cells. -/
abbrev EP : Emb (UR sig nD τ) (Res F) := emb₁

/-! ## The tables -/

/-- The tables in range: every chunk's expert one of the 32, the count of used chunks positive. -/
structure Range (C : CeT F) (N : NvT F) : Prop where
  expert : ∀ n : Fin 288, (C (ix1 n) : BitVec 32).toNat < 32
  pos : 0 < (N (ix1 0) : BitVec 32).toNat
  lt : (N (ix1 0) : BitVec 32).toNat < 2 ^ 31

variable (C : CeT F) (N : NvT F)

/-- The two tables as the region reads them. -/
def tabs : pre0.Contents (Elt F) := fun | ⟨0, _⟩ => C | ⟨1, _⟩ => N | ⟨_ + 2, h⟩ => absurd h (by simp)

theorem one_idx (j : S1.Idx) : j = ix1 0 := by
  funext a
  match a with
  | ⟨0, _⟩ => exact Fin.ext (by have := (j 0).isLt; have h : (j 0).val < 1 := this; show (j 0).val = 0; omega)

theorem word_lt (n : Fin 288) : (BitVec.ofNat 32 n.val).toNat = n.val := by
  rw [BitVec.toNat_ofNat]; have := n.isLt; omega

theorem nvW_eq : nvW N = N (ix1 0) := congrArg N (one_idx _)

/-- Point `i`'s chunk. -/
abbrev chunkOf (i : grid0.Coords) : Fin 288 := i 0

theorem ceW_eq (i : grid0.Coords) : ceW C i = C (ix1 (chunkOf i)) := by
  refine congrArg C (funext fun a => ?_)
  match a with
  | ⟨0, _⟩ => exact Fin.ext ((show _ = (BitVec.ofNat 32 (chunkOf i).val).toNat from rfl).trans (word_lt _))

theorem prev_word : ∀ n : Fin 288, (Scalar.maxsi (Scalar.subi (BitVec.ofNat 32 n.val) 1#32) 0#32).toNat = n.val - 1 := by
  decide +kernel

theorem prevW_eq (i : grid0.Coords) : prevW C i = C (ix1 ⟨(chunkOf i).val - 1, by omega⟩) := by
  refine congrArg C (funext fun a => ?_)
  match a with
  | ⟨0, _⟩ => exact Fin.ext ((show _ = (Scalar.maxsi (Scalar.subi (BitVec.ofNat 32 (chunkOf i).val) 1#32) 0#32).toNat from rfl).trans (prev_word _))

/-- A word that is one bit widened is not zero exactly when the bit is set. -/
theorem bit_ne (b : BitVec 1) : Scalar.cmpi .ne (Scalar.extui b : BitVec 32) 0#32 = b := by
  revert b; decide

theorem cond1_iff (i : grid0.Coords) (h : Range C N) : k0_cond1 i (N (ix1 0)) = 1#1 ↔ (chunkOf i).val < (N (ix1 0) : BitVec 32).toNat := by
  have h1 := h.lt
  have h2 := (chunkOf i).isLt
  rw [show k0_cond1 i (N (ix1 0)) = Scalar.cmpi .slt (BitVec.ofNat 32 (chunkOf i).val) (N (ix1 0) : BitVec 32) from bit_ne _,
    show Scalar.cmpi .slt (BitVec.ofNat 32 (chunkOf i).val) (N (ix1 0) : BitVec 32) = BitVec.ofBool (decide ((BitVec.ofNat 32 (chunkOf i).val).toNat < (N (ix1 0) : BitVec 32).toNat)) from
      WordCmp.cmpi_slt_of_lt (by rw [word_lt]; omega) (by omega), word_lt, WordCmp.ofBool_decide_eq_one_iff]

theorem cond3_iff (i : grid0.Coords) (h : Range C N) : k0_cond3 i (N (ix1 0)) = 1#1 ↔ ¬ (chunkOf i).val < (N (ix1 0) : BitVec 32).toNat := by
  have h1 := h.lt
  have h2 := (chunkOf i).isLt
  rw [show k0_cond3 i (N (ix1 0)) = Scalar.cmpi .sge (BitVec.ofNat 32 (chunkOf i).val) (N (ix1 0) : BitVec 32) from bit_ne _,
    show Scalar.cmpi .sge (BitVec.ofNat 32 (chunkOf i).val) (N (ix1 0) : BitVec 32) = BitVec.ofBool (decide ((N (ix1 0) : BitVec 32).toNat ≤ (BitVec.ofNat 32 (chunkOf i).val).toNat)) from
      WordCmp.cmpi_sge_of_lt (by rw [word_lt]; omega) (by omega), word_lt, WordCmp.ofBool_decide_eq_one_iff]
  omega

theorem newW_iff (i : grid0.Coords) :
    newW C i = 1#1 ↔ ((chunkOf i).val = 0 ∨ C (ix1 (chunkOf i)) ≠ C (ix1 ⟨(chunkOf i).val - 1, by omega⟩)) := by
  have h2 := (chunkOf i).isLt
  unfold newW
  rw [bit_ne, ceW_eq, prevW_eq,
    show Scalar.cmpi .eq (BitVec.ofNat 32 (chunkOf i).val) 0#32 = BitVec.ofBool (decide ((chunkOf i).val = 0)) from
      (WordCmp.cmpi_eq_eq_toNat _ _).trans (by rw [word_lt]; rfl),
    show Scalar.cmpi .ne (C (ix1 (chunkOf i)) : BitVec 32) (C (ix1 ⟨(chunkOf i).val - 1, by omega⟩)) = BitVec.ofBool (decide ((C (ix1 (chunkOf i)) : BitVec 32) ≠ C (ix1 ⟨(chunkOf i).val - 1, by omega⟩))) from
      WordCmp.cmpi_ne_eq _ _]
  rw [show ∀ p q : Bool, Scalar.ori (BitVec.ofBool p) (BitVec.ofBool q) = BitVec.ofBool (p || q) from WordCmp.ori_ofBool]
  simp only [WordCmp.ofBool_eq_one_iff, Bool.or_eq_true, decide_eq_true_eq]

/-- The chunk whose rows a point reads: its own, or the last used one. -/
theorem row_word (h : Range C N) (i : grid0.Coords) :
    (Scalar.minsi (BitVec.ofNat 32 (chunkOf i).val) (Scalar.subi (N (ix1 0) : BitVec 32) 1#32)).toNat = min (chunkOf i).val ((N (ix1 0) : BitVec 32).toNat - 1) := by
  have h0 := h.pos
  have h1 := h.lt
  have h2 := (chunkOf i).isLt
  have e : (Scalar.subi (N (ix1 0) : BitVec 32) 1#32).toNat = (N (ix1 0) : BitVec 32).toNat - 1 := by
    show ((N (ix1 0) : BitVec 32) - 1#32).toNat = _
    rw [BitVec.toNat_sub]
    show (2 ^ 32 - 1 + _) % 2 ^ 32 = _
    omega
  refine (WordArith.toNat_minsi_of_lt _ _ (by rw [word_lt]; omega) (by rw [e]; omega)).trans ?_
  rw [word_lt, e]

theorem index0 (h : Range C N) (i : grid0.Coords) :
    cc0_transform_0 inb_S1_S1_0 numel1_S1 (tabs C N) i = ![min (chunkOf i).val ((N (ix1 0) : BitVec 32).toNat - 1), 0] := by
  have e : ((tabs C N).at 1 (Rect.unit (s := S1) ![0] S1.size inb_S1_S1_0) numel1_S1 : BitVec 32) = N (ix1 0) := congrArg N (one_idx _)
  unfold cc0_transform_0
  rw [e]
  exact congrArg (fun n => ![n, 0]) (row_word C N h i)

theorem index1 (i : grid0.Coords) :
    cc0_transform_1 k0_off1_inb numel1_S1 (tabs C N) i = ![0, (C (ix1 (chunkOf i)) : BitVec 32).toNat, 0, 0] :=
  congrArg (fun w : BitVec 32 => ![0, w.toNat, 0, 0]) (ceW_eq C i)

theorem index2 (i : grid0.Coords) :
    cc0_transform_2 k0_off1_inb numel1_S1 (tabs C N) i = ![0, (C (ix1 (chunkOf i)) : BitVec 32).toNat, 0, 0] :=
  congrArg (fun w : BitVec 32 => ![0, w.toNat, 0, 0]) (ceW_eq C i)

theorem ok_tabs (h : Range C N) : ok0 (F := F) (tabs C N) := by
  refine ⟨fun i => ⟨?_, .inl rfl⟩, fun i => ⟨?_, .inl rfl⟩, fun i => ⟨?_, .inl rfl⟩⟩
  · rw [index0 C N h]
    have := (chunkOf i).isLt
    have := h.lt
    intro a
    match a with
    | ⟨0, _⟩ => show (min _ _ + 1) * 512 ≤ 147456; omega
    | ⟨1, _⟩ => show (0 + 1) * 1024 ≤ 1024; omega
  · rw [index1]
    have := h.expert (chunkOf i)
    intro a
    match a with
    | ⟨0, _⟩ => show (0 + 1) * 1 ≤ 4; omega
    | ⟨1, _⟩ => show ((C (ix1 (chunkOf i)) : BitVec 32).toNat + 1) * 1 ≤ 32; omega
    | ⟨2, _⟩ => show (0 + 1) * 1024 ≤ 1024; omega
    | ⟨3, _⟩ => show (0 + 1) * 1024 ≤ 1024; omega
  · rw [index2]
    have := h.expert (chunkOf i)
    intro a
    match a with
    | ⟨0, _⟩ => show (0 + 1) * 1 ≤ 4; omega
    | ⟨1, _⟩ => show ((C (ix1 (chunkOf i)) : BitVec 32).toNat + 1) * 1 ≤ 32; omega
    | ⟨2, _⟩ => show (0 + 1) * 512 ≤ 512; omega
    | ⟨3, _⟩ => show (0 + 1) * 1024 ≤ 1024; omega

/-- Whether a chunk is used. -/
abbrev Used (n : ℕ) : Prop := n < (N (ix1 0) : BitVec 32).toNat

/-- What a point leaves in the output's buffer. -/
def outBlk (n : ℕ) (x : Vec F S512x1024 .f32) (u : Vec F S1x1x1024x1024 .f32) (d : Vec F S1x1x512x1024 .f32) : S512x1024.Idx → Elt F .f32 :=
  if Used N n then chunkOut x u d else k0_pay4 (F := F)

/-! ## One point, whatever its case -/

/-- The body at a point whose scratches hold the weights `u'` and `d'` of the chunk before (where `P`). -/
theorem run_point (h : Range C N) (c : Dev nD) (i : grid0.Coords)
    (arg3 : Memref sig .tc .vmem S512x1024 .f32) (harg3 : arg3.IsWhole)
    (arg4 : Memref sig .tc .vmem S1x1x1024x1024 .f32) (harg4 : arg4.IsWhole)
    (arg5 : Memref sig .tc .vmem S1x1x512x1024 .f32) (harg5 : arg5.IsWhole)
    (arg6 : Memref sig .tc .vmem S512x1024 .f32) (harg6 : arg6.IsWhole)
    (x : S512x1024.Idx → Elt F .f32) (u u' : S1x1x1024x1024.Idx → Elt F .f32) (d d' : S1x1x512x1024.Idx → Elt F .f32)
    (P Q : Prop) (n : ℕ) (hn : (chunkOf i).val = n)
    (hk : Used N n → ¬ newW C i = 1#1 → P ∧ u' = u ∧ d' = d) (hQ : Q → Used N n) (K : PUnit → sProp (Res F)) :
    iprop(inputs c arg3 arg4 arg5 C N x u d ∗ (∃ y, owns (c : Thread nD τ) arg6 fullShare y) ∗ heldUp c P (k0_pay1 u') ∗ heldDn c P (k0_pay2 d')
        ∗ (iprop(inputs c arg3 arg4 arg5 C N x u d ∗ owns (c : Thread nD τ) arg6 fullShare (outBlk N n x u d)
            ∗ heldUp c Q (k0_pay1 u) ∗ heldDn c Q (k0_pay2 d)) -∗ K ⟨⟩))
      ⊢ wp frame (wpE (defs₀ (F := F)) Variants.none c none) Set.univ (bodyOn i arg3 harg3 arg4 harg4 arg5 harg5 arg6 harg6) K := by
  by_cases hu : Used N n
  · have h1 : k0_cond1 i (nvW N) = 1#1 := by rw [nvW_eq]; exact (cond1_iff C N i h).2 (by rw [hn]; exact hu)
    have h3 : ¬ k0_cond3 i (nvW N) = 1#1 := by rw [nvW_eq]; exact fun e => (cond3_iff C N i h).1 e (by rw [hn]; exact hu)
    rw [show outBlk N n x u d = chunkOut x u d from if_pos hu]
    by_cases hw : newW C i = 1#1
    · exact run_new c i arg3 harg3 arg4 harg4 arg5 harg5 arg6 harg6 C N x u d h1 hw h3 P Q _ _ K
    · obtain ⟨hP, e1, e2⟩ := hk hu hw
      subst e1; subst e2
      exact run_keep c i arg3 harg3 arg4 harg4 arg5 harg5 arg6 harg6 C N x _ _ h1 hw h3 P Q hP _ _ K
  · have h1 : ¬ k0_cond1 i (nvW N) = 1#1 := by rw [nvW_eq]; exact fun e => hu (by rw [← hn]; exact (cond1_iff C N i h).1 e)
    have h3 : k0_cond3 i (nvW N) = 1#1 := by rw [nvW_eq]; exact (cond3_iff C N i h).2 (by rw [hn]; exact hu)
    rw [show outBlk N n x u d = k0_pay4 (F := F) from if_neg hu]
    iintro ⟨Hi, Ho, HU, HD, Hk⟩
    iapply run_zero c i arg3 harg3 arg4 harg4 arg5 harg5 arg6 harg6 C N x u d h1 h3 P (k0_pay1 u') (k0_pay2 d')
    isplitl [Hi]; · iexact Hi
    isplitl [Ho]; · iexact Ho
    isplitl [HU]; · iexact HU
    isplitl [HD]; · iexact HD
    iintro ⟨Hi, Ho, HU, HD⟩
    iapply Hk
    isplitl [Hi]; · iexact Hi
    isplitl [Ho]; · iexact Ho
    unfold heldUp heldDn
    icases HU with ⟨%a0, -, HU⟩
    icases HD with ⟨%a1, -, HD⟩
    isplitl [HU]
    · iexists a0; isplitr; swap
      · iexact HU
      · ipureintro; exact fun e => absurd (hQ e) hu
    iexists a1; isplitr; swap
    · iexact HD
    · ipureintro; exact fun e => absurd (hQ e) hu

/-! ## The pipeline at the tables -/

variable (h : Range C N)

def adm : (pcfg0 (F := F)).Adm := ⟨tabs C N, ok_tabs C N h⟩
abbrev cfgA : Pipeline.Cfg sig Λ₀ := cfg0 (F := F) (adm C N h)
abbrev pcs : Fin 1 → Pipeline.Cfg sig Λ₀ := Pipeline.pin (pcfgs (F := F)) fun _ => adm C N h

/-- Point `t`'s coordinates. -/
abbrev crd (t : Fin (cfgA C N h).N) : grid0.Coords := grid0.coords t

theorem chunk_crd : ∀ t : Fin grid0.N, (chunkOf (grid0.coords t)).val = t.val := by decide +kernel

/-- The staging buffers at point `t`. -/
abbrev stX (t : Fin (cfgA C N h).N) : Memref sig .tc .vmem S512x1024 .f32 := spec0_0.stage ((cfgA C N h).slots t (0 : Fin 4))
abbrev stU (t : Fin (cfgA C N h).N) : Memref sig .tc .vmem S1x1x1024x1024 .f32 := spec0_1.stage ((cfgA C N h).slots t (1 : Fin 4))
abbrev stD (t : Fin (cfgA C N h).N) : Memref sig .tc .vmem S1x1x512x1024 .f32 := spec0_2.stage ((cfgA C N h).slots t (2 : Fin 4))
abbrev stO (t : Fin (cfgA C N h).N) : Memref sig .tc .vmem S512x1024 .f32 := spec0_3.stage ((cfgA C N h).slots t (3 : Fin 4))
abbrev hstX (t : Fin (cfgA C N h).N) : (stX C N h t).IsWhole := hstage0_0 (((cfgA C N h).slots t (0 : Fin 4)).cast nbuf0_0)
abbrev hstU (t : Fin (cfgA C N h).N) : (stU C N h t).IsWhole := hstage0_1 (((cfgA C N h).slots t (1 : Fin 4)).cast nbuf0_1)
abbrev hstD (t : Fin (cfgA C N h).N) : (stD C N h t).IsWhole := hstage0_2 (((cfgA C N h).slots t (2 : Fin 4)).cast nbuf0_2)
abbrev hstO (t : Fin (cfgA C N h).N) : (stO C N h t).IsWhole := hstage0_3 (((cfgA C N h).slots t (3 : Fin 4)).cast nbuf0_3)

variable (m : (ℓ : Loc nD τ sig) → Buf (Elt F) ℓ) (ρ : Dev nD → PrngReg)

/-- Window `w`'s block at point `t`, read off its array as the launch finds it. -/
def iblk (c : Dev nD) (w : Fin (cfgA C N h).W) (t : Fin (cfgA C N h).N) : (((cfgA C N h).win w).xblock (crd C N h t)).Idx → Elt F ((cfgA C N h).win w).elt :=
  (((cfgA C N h).win w).blk t).view.read (Elt F) (m (((cfgA C N h).win w).arr.view.loc (c : Thread nD τ)))

/-- The three blocks a point reads. -/
abbrev rowsAt (c : Dev nD) (t : Fin (cfgA C N h).N) : S512x1024.Idx → Elt F .f32 := iblk C N h m c (0 : Fin 4) t
abbrev upAt (c : Dev nD) (t : Fin (cfgA C N h).N) : S1x1x1024x1024.Idx → Elt F .f32 := iblk C N h m c (1 : Fin 4) t
abbrev downAt (c : Dev nD) (t : Fin (cfgA C N h).N) : S1x1x512x1024.Idx → Elt F .f32 := iblk C N h m c (2 : Fin 4) t

/-- Which row block a point reads: its own, or the last used one. -/
abbrev rowBlock (t : Fin 288) : Fin 288 := ⟨min t.val ((N (ix1 0) : BitVec 32).toNat - 1), by omega⟩
/-- The expert of a chunk. -/
abbrev expertOf (t : Fin 288) : Fin 32 := ⟨(C (ix1 t) : BitVec 32).toNat, h.expert t⟩

/-- A block's element is its array's, at the block's place. -/
theorem upAt_apply (c : Dev nD) (t : Fin (cfgA C N h).N) (x : S1x1x1024x1024.Idx) :
    upAt C N h m c t x = m ((c : Thread nD τ).loc main_arg3) (ix4 0 (expertOf C N h (chunkOf (crd C N h t))) (x 2) (x 3)) := by
  have e := index1 C N (crd C N h t)
  refine congrArg (m ((c : Thread nD τ).loc main_arg3)) (funext fun a => Fin.ext ?_)
  refine (Pipeline.Window.rect_emb_val ((cfgA C N h).win (1 : Fin 4)) t x a rfl).trans ?_
  rw [show ((cfgA C N h).win (1 : Fin 4)).index t = ![0, (C (ix1 (chunkOf (crd C N h t))) : BitVec 32).toNat, 0, 0] from e]
  have h0 : (x 0).val < 1 := (x 0).isLt
  have h1 : (x 1).val < 1 := (x 1).isLt
  match a with
  | ⟨0, _⟩ => show 0 * 1 + (x 0).val = 0; omega
  | ⟨1, _⟩ => show (C (ix1 (chunkOf (crd C N h t))) : BitVec 32).toNat * 1 + (x 1).val = (C (ix1 (chunkOf (crd C N h t))) : BitVec 32).toNat; omega
  | ⟨2, _⟩ => show 0 * 1024 + (x 2).val = (x 2).val; omega
  | ⟨3, _⟩ => show 0 * 1024 + (x 3).val = (x 3).val; omega

theorem downAt_apply (c : Dev nD) (t : Fin (cfgA C N h).N) (x : S1x1x512x1024.Idx) :
    downAt C N h m c t x = m ((c : Thread nD τ).loc main_arg4) (ix4 0 (expertOf C N h (chunkOf (crd C N h t))) (x 2) (x 3)) := by
  have e := index2 C N (crd C N h t)
  refine congrArg (m ((c : Thread nD τ).loc main_arg4)) (funext fun a => Fin.ext ?_)
  refine (Pipeline.Window.rect_emb_val ((cfgA C N h).win (2 : Fin 4)) t x a rfl).trans ?_
  rw [show ((cfgA C N h).win (2 : Fin 4)).index t = ![0, (C (ix1 (chunkOf (crd C N h t))) : BitVec 32).toNat, 0, 0] from e]
  have h0 : (x 0).val < 1 := (x 0).isLt
  have h1 : (x 1).val < 1 := (x 1).isLt
  match a with
  | ⟨0, _⟩ => show 0 * 1 + (x 0).val = 0; omega
  | ⟨1, _⟩ => show (C (ix1 (chunkOf (crd C N h t))) : BitVec 32).toNat * 1 + (x 1).val = (C (ix1 (chunkOf (crd C N h t))) : BitVec 32).toNat; omega
  | ⟨2, _⟩ => show 0 * 512 + (x 2).val = (x 2).val; omega
  | ⟨3, _⟩ => show 0 * 1024 + (x 3).val = (x 3).val; omega

theorem rowsAt_apply (c : Dev nD) (t : Fin (cfgA C N h).N) (x : S512x1024.Idx) :
    rowsAt C N h m c t x = m ((c : Thread nD τ).loc main_arg0)
      (ix2 ⟨(rowBlock N (chunkOf (crd C N h t))).val * 512 + (x 0).val, by
        have := (rowBlock N (chunkOf (crd C N h t))).isLt; have h0 : (x 0).val < 512 := (x 0).isLt; omega⟩ (x 1)) := by
  have e := index0 C N h (crd C N h t)
  refine congrArg (m ((c : Thread nD τ).loc main_arg0)) (funext fun a => Fin.ext ?_)
  refine (Pipeline.Window.rect_emb_val ((cfgA C N h).win (0 : Fin 4)) t x a rfl).trans ?_
  rw [show ((cfgA C N h).win (0 : Fin 4)).index t = ![min (chunkOf (crd C N h t)).val ((N (ix1 0) : BitVec 32).toNat - 1), 0] from e]
  match a with
  | ⟨0, _⟩ => rfl
  | ⟨1, _⟩ => show 0 * 1024 + (x 1).val = (x 1).val; omega

/-- Two points of one expert read the same weights. -/
theorem upAt_congr (c : Dev nD) (t t' : Fin (cfgA C N h).N) (e : C (ix1 (chunkOf (crd C N h t))) = C (ix1 (chunkOf (crd C N h t')))) :
    upAt C N h m c t = upAt C N h m c t' := by
  funext x
  rw [upAt_apply, upAt_apply, show expertOf C N h (chunkOf (crd C N h t)) = expertOf C N h (chunkOf (crd C N h t')) from Fin.ext (congrArg BitVec.toNat e)]

theorem downAt_congr (c : Dev nD) (t t' : Fin (cfgA C N h).N) (e : C (ix1 (chunkOf (crd C N h t))) = C (ix1 (chunkOf (crd C N h t')))) :
    downAt C N h m c t = downAt C N h m c t' := by
  funext x
  rw [downAt_apply, downAt_apply, show expertOf C N h (chunkOf (crd C N h t)) = expertOf C N h (chunkOf (crd C N h t')) from Fin.ext (congrArg BitVec.toNat e)]

/-! ## What the buffers hold -/

/-- What a point leaves in the output's buffer. -/
abbrev outAt (c : Dev nD) (t : Fin (cfgA C N h).N) : S512x1024.Idx → Elt F .f32 :=
  outBlk N t.val (rowsAt C N h m c t) (upAt C N h m c t) (downAt C N h m c t)

/-- The point before position `t` (position 0's is the first point, its weights not yet held). -/
abbrev before (t : Fin ((cfgA C N h).N + 1)) : Fin (cfgA C N h).N :=
  ⟨t.val - 1, by have := t.isLt; have e : (cfgA C N h).N = 288 := N_0; omega⟩

/-- The scratches hold the weights of the chunk before, from the second used chunk on. -/
abbrev Held (t : Fin ((cfgA C N h).N + 1)) : Prop := 0 < t.val ∧ Used N (t.val - 1)

/-- Between points: the two scratches and the body's halves of the tables. -/
def Phi (c : Dev nD) (t : Fin ((cfgA C N h).N + 1)) : sProp (Res F) :=
  iprop(heldUp c (Held C N h t) (k0_pay1 (upAt C N h m c (before C N h t))) ∗ heldDn c (Held C N h t) (k0_pay2 (downAt C N h m c (before C N h t)))
    ∗ (ceM.view.loc (c : Thread nD τ) ↦{fullShare.right} C) ∗ (nvM.view.loc (c : Thread nD τ) ↦{fullShare.right} N))

def dats (_ : Fin 1) (c : Dev nD) : Dat τ (Elt F) Unit ℕ (UR sig nD τ) ℕ (cfgA C N h) c where
  A w := m (((cfgA C N h).win w).arr.view.loc (c : Thread nD τ))
  after w t := match w with
    | ⟨0, _⟩ => iblk C N h m c (0 : Fin 4) t
    | ⟨1, _⟩ => iblk C N h m c (1 : Fin 4) t
    | ⟨2, _⟩ => iblk C N h m c (2 : Fin 4) t
    | ⟨3, _⟩ => outAt C N h m c t
  Φ t := Phi C N h m c t
  q _ := fullShare
  owed _ := 0

theorem after_0 (c : Dev nD) (t : Fin (cfgA C N h).N) : (dats C N h m 0 c).after (0 : Fin 4) t = iblk C N h m c (0 : Fin 4) t := rfl
theorem after_1 (c : Dev nD) (t : Fin (cfgA C N h).N) : (dats C N h m 0 c).after (1 : Fin 4) t = iblk C N h m c (1 : Fin 4) t := rfl
theorem after_2 (c : Dev nD) (t : Fin (cfgA C N h).N) : (dats C N h m 0 c).after (2 : Fin 4) t = iblk C N h m c (2 : Fin 4) t := rfl
theorem after_3 (c : Dev nD) (t : Fin (cfgA C N h).N) : (dats C N h m 0 c).after (3 : Fin 4) t = outAt C N h m c t := rfl

theorem before_0 (c : Dev nD) (t : Fin (cfgA C N h).N) (d) : (dats C N h m 0 c).before (0 : Fin 4) t d = iblk C N h m c (0 : Fin 4) t :=
  ((dats C N h m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA C N h).N) (d) : (dats C N h m 0 c).before (1 : Fin 4) t d = iblk C N h m c (1 : Fin 4) t :=
  ((dats C N h m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA C N h).N) (d) : (dats C N h m 0 c).before (2 : Fin 4) t d = iblk C N h m c (2 : Fin 4) t :=
  ((dats C N h m 0 c).before_in_eq_fetched (2 : Fin 4) rfl (fun _ => rfl) (fun _ _ _ => rfl) (fun t => by rw [after_2]; unfold Dat.blockOf iblk; rfl) t d).trans
    (by unfold Dat.fetched Dat.blockOf iblk; rfl)

/-- Every point writes its output: its chunk is used, or it is past the used ones. -/
theorem busy_3 (t : Fin (cfgA C N h).N) : (cfgA C N h).idle (3 : Fin 4) ((cfgA C N h).grid.coords t) = false := by
  have e : (tabs C N).atD 1 ![0] = N (ix1 0) := by
    refine (dif_pos (fun a => ?_)).trans (congrArg N (one_idx _))
    match a with
    | ⟨0, _⟩ => exact Nat.le_refl _
  show (!(k0_cond1 (crd C N h t) ((tabs C N).atD 1 ![0]) == 1#1) && !(k0_cond3 (crd C N h t) ((tabs C N).atD 1 ![0]) == 1#1)) = false
  rw [e]
  by_cases hu : (chunkOf (crd C N h t)).val < (N (ix1 0) : BitVec 32).toNat
  · rw [(cond1_iff C N _ h).2 hu]; rfl
  · rw [(cond3_iff C N _ h).2 hu, Bool.and_comm]; rfl

/-- A point's chunk is its number. -/
theorem chunk_eq (t : Fin (cfgA C N h).N) : (chunkOf (crd C N h t)).val = t.val := chunk_crd t

/-- A used chunk that brings no weights in follows a used chunk of the same expert. -/
theorem keep_facts (c : Dev nD) (t : Fin (cfgA C N h).N) (hu : Used N t.val) (hw : ¬ newW C (crd C N h t) = 1#1) :
    Held C N h t.castSucc ∧ upAt C N h m c (before C N h t.castSucc) = upAt C N h m c t
      ∧ downAt C N h m c (before C N h t.castSucc) = downAt C N h m c t := by
  have hc := chunk_eq C N h t
  have hk := mt (newW_iff C (crd C N h t)).2 hw
  rw [not_or, not_not] at hk
  have ht : 0 < t.val := by have := hk.1; omega
  have hb : C (ix1 (chunkOf (crd C N h (before C N h t.castSucc)))) = C (ix1 (chunkOf (crd C N h t))) := by
    rw [hk.2]
    refine congrArg (fun n => C (ix1 n)) (Fin.ext ?_)
    rw [chunk_eq]
    show t.val - 1 = (chunkOf (crd C N h t)).val - 1
    rw [hc]
  exact ⟨⟨ht, show t.val - 1 < _ from by have : t.val < _ := hu; omega⟩, upAt_congr C N h m c _ _ hb, downAt_congr C N h m c _ _ hb⟩

set_option maxHeartbeats 4000000 in
/-- The body at a point. -/
theorem sound_body (c : Dev nD) (t : Fin (cfgA C N h).N) :
    iprop((dats C N h m 0 c).Φ t.castSucc ∗ (dats C N h m 0 c).owesAt () t.castSucc
        ∗ (∃ d, owns (c : Thread nD τ) (stX C N h t) fullShare ((dats C N h m 0 c).before (0 : Fin 4) t d))
        ∗ (∃ d, owns (c : Thread nD τ) (stU C N h t) fullShare ((dats C N h m 0 c).before (1 : Fin 4) t d))
        ∗ (∃ d, owns (c : Thread nD τ) (stD C N h t) fullShare ((dats C N h m 0 c).before (2 : Fin 4) t d))
        ∗ (∃ d, owns (c : Thread nD τ) (stO C N h t) fullShare ((dats C N h m 0 c).before (3 : Fin 4) t d)))
      ⊢ wp frame (wpE (defs₀ (F := F)) Variants.none c none) Set.univ
          (bodyOn (crd C N h t) (stX C N h t) (hstX C N h t) (stU C N h t) (hstU C N h t) (stD C N h t) (hstD C N h t) (stO C N h t) (hstO C N h t)) fun _ =>
          iprop((dats C N h m 0 c).Φ t.succ ∗ (dats C N h m 0 c).owesAt () t.succ
            ∗ bigSep Finset.univ fun w : Fin (cfgA C N h).W =>
                match (cfgA C N h).idle w ((cfgA C N h).grid.coords t) with
                | true =>
                  match ((cfgA C N h).win w).flush t with
                  | false => iprop(∃ d, owns (c : Thread nD τ) (((cfgA C N h).win w).stage ((cfgA C N h).slots t w)) fullShare ((dats C N h m 0 c).before w t d))
                  | true => owns (c : Thread nD τ) (((cfgA C N h).win w).stage ((cfgA C N h).slots t w)) fullShare ((dats C N h m 0 c).after w t)
                | false => owns (c : Thread nD τ) (((cfgA C N h).win w).stage ((cfgA C N h).slots t w)) fullShare ((dats C N h m 0 c).after w t)) := by
  rw [bigSep_W0]
  rewrite [busy_3 C N h t]
  simp only [before_0, before_1, before_2, after_0, after_1, after_2, after_3]
  rewrite [show (dats C N h m 0 c).Φ t.succ = Phi C N h m c t.succ from rfl, show (dats C N h m 0 c).Φ t.castSucc = Phi C N h m c t.castSucc from rfl,
    show (dats C N h m 0 c).owesAt () t.succ = (dats C N h m 0 c).owesAt () t.castSucc from rfl]
  unfold Phi
  rewrite [show before C N h t.succ = t from Fin.ext rfl]
  iintro ⟨⟨HS0, HS1, HT0, HT1⟩, Ho, ⟨%d0, H0⟩, ⟨%d1, H1⟩, ⟨%d2, H2⟩, ⟨%d3, H3⟩⟩
  iapply (run_point C N h c (crd C N h t) (stX C N h t) (hstX C N h t) (stU C N h t) (hstU C N h t) (stD C N h t) (hstD C N h t) (stO C N h t) (hstO C N h t)
    (rowsAt C N h m c t) (upAt C N h m c t) (upAt C N h m c (before C N h t.castSucc)) (downAt C N h m c t) (downAt C N h m c (before C N h t.castSucc))
    (Held C N h t.castSucc) (Held C N h t.succ) t.val (chunk_eq C N h t) (keep_facts C N h m c t) (fun e => e.2))
  isplitl [H0 H1 H2 HT0 HT1]
  · unfold inputs
    isplitl [H0]; · iapply rep_of_owns; iexact H0
    isplitl [H1]; · iapply rep_of_owns; iexact H1
    isplitl [H2]; · iapply rep_of_owns; iexact H2
    isplitl [HT0]; · iexact HT0
    iexact HT1
  isplitl [H3]; · iexists _; iexact H3
  isplitl [HS0]; · iexact HS0
  isplitl [HS1]; · iexact HS1
  unfold inputs
  iintro ⟨⟨H0, H1, H2, HT0, HT1⟩, H3, HS0, HS1⟩
  isplitl [HS0 HS1 HT0 HT1]
  · isplitl [HS0]; · iexact HS0
    isplitl [HS1]; · iexact HS1
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  iexact H3

theorem body_obligation (c : Dev nD) : BodyObligation (dats C N h m 0 c) (defs₀ (F := F)) Variants.none () Set.univ := fun t => by
  rw [bigSep_W0]
  exact sound_body C N h m c t

/-! ## The launch -/

/-- The staging cells as the launch finds them. -/
def u₀ : UR sig nD τ :=
  initOf (Pipeline.cells (pcs C N h) ((launch0 (F := F)).cellOf_inj fun _ => adm C N h))
    (Pipeline.launchToks (pcs C N h) ((launch0 (F := F)).cellOf_inj fun _ => adm C N h))

theorem share_eq (c : Dev nD) (w : Fin (cfgA C N h).W) : (dats C N h m 0 c).share w = fullShare := by unfold Dat.share; split <;> rfl

/-- The two tables' shares, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Before the first point the scratches hold anything. -/
theorem phi_intro (c : Dev nD) :
    iprop(BI.emp ∗ Pipeline.prefHeld pre0 c (fun _ => fullShare.right) (adm C N h).1 ∗ Pipeline.scopedRest spec0 c) ⊢ (dats C N h m 0 c).Φ 0 := by
  rw [prefHeld_eq, scopedRest0_eq, show (dats C N h m 0 c).Φ 0 = Phi C N h m c 0 from rfl]
  unfold Phi heldUp heldDn
  iintro ⟨-, ⟨HT0, HT1⟩, ⟨%a0, HS0⟩, ⟨%a1, HS1⟩⟩
  isplitl [HS0]
  · iexists a0; isplitr; swap
    · iexact HS0
    · ipureintro; exact fun e => absurd e.1 (Nat.lt_irrefl 0)
  isplitl [HS1]
  · iexists a1; isplitr; swap
    · iexact HS1
    · ipureintro; exact fun e => absurd e.1 (Nat.lt_irrefl 0)
  isplitl [HT0]
  · iexact HT0
  iexact HT1

/-- After the last point the scratches go back. -/
theorem phi_exit (c : Dev nD) : (dats C N h m 0 c).Φ (Fin.last (cfgA C N h).N) ⊢ iprop(BI.emp ∗ Pipeline.scopedRest spec0 c) := by
  rw [scopedRest0_eq, show (dats C N h m 0 c).Φ (Fin.last (cfgA C N h).N) = Phi C N h m c (Fin.last _) from rfl]
  unfold Phi heldUp heldDn
  iintro ⟨⟨%a0, -, HS0⟩, ⟨%a1, -, HS1⟩, -, -⟩
  isplitr; · iempintro
  isplitl [HS0]
  · iexists a0; iexact HS0
  iexists a1; iexact HS1

/-- What the run leaves: each array what the points wrote, each table as it was. -/
def Post : PUnit × MemSt nD τ sig (Elt F) → Prop := fun r =>
  ∀ c : Dev nD, (∀ w : Fin (cfgA C N h).W, r.2.mem (((cfgA C N h).win w).arr.view.loc (c : Thread nD τ)) = (dats C N h m 0 c).arrAt w (cfgA C N h).N)
    ∧ ∀ j, r.2.mem ((c : Thread nD τ).loc (pre0.ref j)) = (adm C N h).1 j

/-- The memory's tables are `C` and `N`. -/
structure Tables : Prop where
  expert : ∀ c : Dev nD, m ((c : Thread nD τ).loc main_arg1) = C
  count : ∀ c : Dev nD, m ((c : Thread nD τ).loc main_arg2) = N

theorem tables_at (hp : Tables C N m) (c : Dev nD) (j : Fin 2) : m ((c : Thread nD τ).loc (pre0.ref j)) = (adm C N h).1 j := by
  fin_cases j
  · exact hp.expert c
  · exact hp.count c

set_option backward.isDefEq.respectTransparency.types false in
set_option maxHeartbeats 4000000 in
/-- The whole run. -/
theorem run_all (hp : Tables C N m) :
    θ_run (defs (F := F)) (onTc (τ := τ) (main (F := F))) ⟨m, fun _ => 0, ρ⟩ (fun r => Post C N h m r ∧ r.2.sem = fun _ => 0) :=
  Pipeline.θ_run_region_noSem_pf_quiescent pcfgs (fun _ => adm C N h) (dats C N h m) () ((launch0 (F := F)).cellOf_inj fun _ => adm C N h) (0 : Fin 1)
    (launch0 (F := F)).win.to₀ (launch0 (F := F)).pre EP defs₀ Variants.none m ρ main
    (hbody := fun c => (body_obligation C N h m c).loose) (hne := (launch0 (F := F)).block_pos)
    (harr := (launch0 (F := F)).arr_whole) (hstage := (launch0 (F := F)).stage_whole) (howed := fun _ _ => rfl)
    (u₀ := u₀ C N h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs C N h) (dats C N h m) 0 (launch0 (F := F)).win.arr_inj c (launch0 (F := F)).arr_whole
      (share_eq C N h m c) _ _ fun _ => rfl)
    (hpf := tables_at C N h m hp)
    (X := fun _ => iprop(emp)) (Y := fun _ => iprop(emp)) (Z := fun _ => iprop(emp))
    (hX := fun c => by rw [unscopedRestP0_eq]; iintro -; isplitr <;> iempintro)
    (hin := phi_intro C N h m)
    (hout := phi_exit C N h m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run ends with the output as the points wrote it, every argument as it was and no counter raised. -/
theorem run_out (hp : Tables C N m) :
    θ_run (defs (F := F)) (onTc (τ := τ) (main (F := F))) ⟨m, fun _ => 0, ρ⟩ (fun r => (∀ c : Dev nD,
      r.2.mem ((c.tc : Thread nD τ).loc main_v0) = (dats C N h m 0 c).arrAt (3 : Fin 4) (cfgA C N h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ k => ⟨fun c => ⟨(k.1 c).1 (3 : Fin 4),
    ((k.1 c).1 (0 : Fin 4)).trans ((dats C N h m 0 c).arrAt_in (0 : Fin 4) rfl _),
    ((k.1 c).2 0).trans (hp.expert c).symm, ((k.1 c).2 1).trans (hp.count c).symm,
    ((k.1 c).1 (1 : Fin 4)).trans ((dats C N h m 0 c).arrAt_in (1 : Fin 4) rfl _),
    ((k.1 c).1 (2 : Fin 4)).trans ((dats C N h m 0 c).arrAt_in (2 : Fin 4) rfl _)⟩, k.2⟩) (run_all C N h m ρ hp)

end Cert.Experts

end
-- ==== Proof.ExpertFrame.lean ====
/-
  The experts' kernel on the machine's own floats and over the extended reals: from the stated precondition, its run ends
  with every argument as it was. -/
module

public import proofs.«01_k».proof.Proof.ExpertLaunch
public import proofs.«01_k».proof.Proof.Gen.Kernel3

@[expose] public section

set_option maxRecDepth 16384

noncomputable section

namespace Cert.Experts

open Idealize.ShloMosaic Idealize.ShloMosaic.TcCoe Idealize.SL.Sem

/-- What the precondition says of the tables. -/
theorem range_of_pre {F : FTy → Type} [FloatOps F] (x : FVec F Cert.Pre_pre3.S147456x1024 .f32) (C : IVec Cert.Pre_pre3.S288 32) (N : IVec Cert.Pre_pre3.S1 32)
    (u : FVec F Cert.Pre_pre3.S4x32x1024x1024 .f32) (d : FVec F Cert.Pre_pre3.S4x32x512x1024 .f32)
    (h : Cert.Pre_pre3.fn (F := F) x C N u d = fun _ => 1#1) : Range (F := F) C N := by
  have e := congrFun h (fun a => a.elim0)
  simp only [Cert.Pre_pre3.fn, andi] at e
  have split (p q : BitVec 1) (k : IntOp.andi p q = 1#1) : p = 1#1 ∧ q = 1#1 := by
    revert p q; decide
  obtain ⟨e, e3⟩ := split _ _ e
  obtain ⟨e1, e2⟩ := split _ _ e
  have f1 := fun i => IntOp.cmpi_sge.1 (Host.reduce_andi_all _ _ _ _ _ e1 i)
  have f2 := fun i => IntOp.cmpi_slt.1 (Host.reduce_andi_all _ _ _ _ _ e2 i)
  have f3 := fun i => IntOp.cmpi_sge.1 (Host.reduce_andi_all _ _ _ _ _ e3 i)
  refine ⟨fun n => ?_, ?_, ?_⟩
  · have g1 : 0 ≤ (C (ix1 n)).toInt := f1 (ix1 n)
    have g2 : (C (ix1 n)).toInt < 32 := f2 (ix1 n)
    have := BitVec.toInt_eq_toNat_cond (C (ix1 n))
    have := (C (ix1 n)).isLt
    split at * <;> omega
  · have g1 : 1 ≤ (N (ix1 0)).toInt := f3 (ix1 0)
    have := BitVec.toInt_eq_toNat_cond (N (ix1 0))
    have := (N (ix1 0)).isLt
    show 0 < (N (ix1 0)).toNat
    split at * <;> omega
  · have g1 : 1 ≤ (N (ix1 0)).toInt := f3 (ix1 0)
    have := BitVec.toInt_eq_toNat_cond (N (ix1 0))
    have := (N (ix1 0)).isLt
    show (N (ix1 0)).toNat < 2 ^ 31
    split at * <;> omega

/-- The run leaves the arguments, whatever the floats. -/
theorem frame_any {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg)
    (hp : ∀ c : Dev Cert.Kernel3Ideal.nD, Cert.Pre_pre3.fn (F := F) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))
      = fun _ => 1#1) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  have h := range_of_pre _ _ _ _ _ (hp 0)
  (θ_run _ _ _).mono (fun _ k => ⟨fun c => (k.1 c).2, k.2⟩)
    (run_out _ _ h m ρ ⟨fun c => by rw [Subsingleton.elim c 0], fun c => by rw [Subsingleton.elim c 0]⟩)

/-- Over the extended reals. -/
theorem ideal_frame : Cert.quiescent_Kernel3Ideal := fun m ρ hp => frame_any m ρ hp

set_option maxHeartbeats 4000000 in
/-- On the machine's floats: the two programs are one text. -/
theorem machine_frame : Cert.quiescent_Kernel3 := fun m ρ hp =>
  Eq.mpr (by sl_kernel_rfl) (frame_any (F := Bits) m ρ hp)

end Cert.Experts

end
-- ==== Proof.Experts.lean ====
/-
  The experts of a layer: the kernel's rows are the reference's. -/
module

public import proofs.«01_k».proof.Proof.ExpertFrame
public import proofs.«01_k».proof.Proof.Gen.Reference3Ideal.Run
public import proofs.«01_k».proof.Defs
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.WordCmp

@[expose] public section

set_option maxRecDepth 16384

noncomputable section

namespace Cert.Experts

open Idealize.ShloMosaic Idealize.ShloMosaic.TcCoe Idealize.SL.Sem Cert.Kernel3Ideal Cert.Kernel3Ideal.Gen

/-! ## What both compute -/

section Value

variable (x : Vec Ideal S147456x1024 .f32) (E : Fin 288 → Fin 32) (n : ℕ) (u : Vec Ideal S4x32x1024x1024 .f32) (d : Vec Ideal S4x32x512x1024 .f32)

/-- Row `r` times column `j` of expert `e`'s first weights. -/
def pre (r : Fin 147456) (e : Fin 32) (j : Fin 1024) : EReal := ∑ k : Fin 1024, x (ix2 r k) * u (ix4 0 e k j)

/-- Row `r` through expert `e`. -/
def row (r : Fin 147456) (e : Fin 32) (j : Fin 1024) : EReal :=
  ∑ i : Fin 512, (pre x u r e ⟨i.val, by omega⟩ * Ideal.logistic (pre x u r e ⟨i.val, by omega⟩) * pre x u r e ⟨512 + i.val, by omega⟩) * d (ix4 0 e i j)

/-- Every row through its chunk's expert; nothing past the first `n` chunks. -/
def out : Vec Ideal S147456x1024 .f32 := fun j =>
  if (j 0).val / 512 < n then
    row x u d (j 0) (E ⟨(j 0).val / 512, by have : (j 0).val < 147456 := (j 0).isLt; omega⟩) (j 1) else 0

end Value

/-! ## The kernel -/

theorem chunkOut_apply (x : Vec Ideal S512x1024 .f32) (u : Vec Ideal S1x1x1024x1024 .f32) (d : Vec Ideal S1x1x512x1024 .f32) (r : Fin 512) (j : Fin 1024) :
    chunkOut x u d (ix2 r j) = ∑ i : Fin 512,
      ((∑ k, x (ix2 r k) * u (ix4 0 0 k ⟨i.val, by omega⟩)) * Ideal.logistic (∑ k, x (ix2 r k) * u (ix4 0 0 k ⟨i.val, by omega⟩))
        * ∑ k, x (ix2 r k) * u (ix4 0 0 k ⟨512 + i.val, by omega⟩)) * d (ix4 0 0 i j) := by
  pointwise [chunkOut, k0_pay1, k0_pay2, k0_pay3]

theorem zero_apply (j : S512x1024.Idx) : k0_pay4 (F := Ideal) j = 0 := by
  idx_vars j
  pointwise [k0_pay4]

section Kernel

variable (C : CeT Ideal) (N : NvT Ideal) (h : Range C N) (m : (ℓ : Loc nD τ sig) → Buf (Elt Ideal) ℓ)

/-- A point's output, where it lies in the array. -/
theorem outAt_apply (c : Dev nD) (t : Fin (cfgA C N h).N) (r : Fin 512) (j : Fin 1024) (R : Fin 147456) (hR : R.val = t.val * 512 + r.val) :
    outAt C N h m c t (ix2 r j) = out (m ((c : Thread nD τ).loc main_arg0)) (expertOf C N h) (N (ix1 0) : BitVec 32).toNat
      (m ((c : Thread nD τ).loc main_arg3)) (m ((c : Thread nD τ).loc main_arg4)) (ix2 R j) := by
  have hc := chunk_eq C N h t
  have hq : R.val / 512 = t.val := by have := r.isLt; omega
  unfold outAt outBlk out
  by_cases hu : t.val < (N (ix1 0) : BitVec 32).toNat
  · rw [if_pos hu, if_pos (show (ix2 R j (0 : Fin 2)).val / 512 < _ from by rw [show (ix2 R j (0 : Fin 2)).val / 512 = t.val from hq]; exact hu)]
    have hx : ∀ k : Fin 1024, rowsAt C N h m c t (ix2 r k) = m ((c : Thread nD τ).loc main_arg0) (ix2 R k) := fun k => by
      rw [rowsAt_apply]
      refine congrArg (fun q => m ((c : Thread nD τ).loc main_arg0) (ix2 q k)) (Fin.ext ?_)
      show min (chunkOf (crd C N h t)).val ((N (ix1 0) : BitVec 32).toNat - 1) * 512 + r.val = R.val
      rw [hc, hR, Nat.min_eq_left (by omega)]
    have he : expertOf C N h (chunkOf (crd C N h t)) = expertOf C N h ⟨R.val / 512, by omega⟩ :=
      congrArg (expertOf C N h) (Fin.ext (hc.trans hq.symm))
    rw [chunkOut_apply]
    simp only [hx, upAt_apply, downAt_apply, he]
    rfl
  · rw [if_neg hu, if_neg (show ¬ (ix2 R j (0 : Fin 2)).val / 512 < _ from by rw [show (ix2 R j (0 : Fin 2)).val / 512 = t.val from hq]; exact hu), zero_apply]

theorem covers_3 : ((cfgA C N h).win (3 : Fin 4)).Covers := of_decide_eq_true (by sl_kernel_rfl)

/-- The kernel's array after its run is `out` of its arguments. -/
theorem arr_eq (c : Dev nD) :
    (dats C N h m 0 c).arrAt (3 : Fin 4) (cfgA C N h).N = out (m ((c : Thread nD τ).loc main_arg0)) (expertOf C N h) (N (ix1 0) : BitVec 32).toNat
      (m ((c : Thread nD τ).loc main_arg3)) (m ((c : Thread nD τ).loc main_arg4)) := by
  refine (dats C N h m 0 c).arrAt_eq_of_covers (3 : Fin 4) _ (covers_3 C N h) fun t hf y => ?_
  rw [after_3]
  have hi : ((cfgA C N h).win (3 : Fin 4)).index t = ![t.val, 0] :=
    (show _ = ![(BitVec.ofNat 32 (chunkOf (crd C N h t)).val).toNat, 0] from rfl).trans (by rw [word_lt, chunk_eq])
  change S512x1024.Idx at y
  have ht : t.val < 288 := t.isLt
  have he : (((cfgA C N h).win (3 : Fin 4)).blk t).view.emb y = ix2 ⟨t.val * 512 + (y 0).val, by have h0 : (y 0).val < 512 := (y 0).isLt; omega⟩ (y 1) := by
    funext a
    refine Fin.ext ?_
    refine (Pipeline.Window.rect_emb_val ((cfgA C N h).win (3 : Fin 4)) t y a rfl).trans ?_
    rw [hi]
    match a with
    | ⟨0, _⟩ => rfl
    | ⟨1, _⟩ => show 0 * 1024 + (y 1).val = (y 1).val; omega
  rw [he]
  idx_vars y
  exact outAt_apply C N h m c t y0 y1 _ rfl

end Kernel

/-! ## The reference -/

/-- The library's row lookup along the first of three axes. -/
abbrev pick (K : ℕ) (wf : GatherDims.WF ⟨3, ![32, K, 1024]⟩ ⟨2, ![288, 1]⟩ ⟨3, ![288, K, 1024]⟩ [1, 2] [0] [] [0] [] 1 ![1, K, 1024]) :
    GatherDims ⟨3, ![32, K, 1024]⟩ ⟨2, ![288, 1]⟩ ⟨3, ![288, K, 1024]⟩ where
  offsetDims := [1, 2]
  collapsedSliceDims := [0]
  operandBatchingDims := []
  startIndicesBatchingDims := []
  startIndexMap := [0]
  indexVectorDim := 1
  sliceSizes := ![1, K, 1024]
  wf := wf

/-- Where the table names expert `b`, the lookup reads expert `b`. -/
theorem pick_apply {α : Type} (K : ℕ) (wf : GatherDims.WF ⟨3, ![32, K, 1024]⟩ ⟨2, ![288, 1]⟩ ⟨3, ![288, K, 1024]⟩ [1, 2] [0] [] [0] [] 1 ![1, K, 1024])
    (x : (⟨3, ![32, K, 1024]⟩ : Shape).Idx → α) (T : IVec ⟨2, ![288, 1]⟩ 32) (n : Fin 288) (k : Fin K) (j : Fin 1024) (b : Fin 32)
    (hb : (T (ix2 n 0)).toNat = b.val) : Host.gather (pick K wf) x T (ix3 n k j) = x (ix3 b k j) := by
  unfold Host.gather
  refine congrArg x (funext fun a => Fin.ext ?_)
  have hs : ∀ q, (pick K wf).siIdx (ix3 n k j) ⟨0, q⟩ = ix2 n 0 := fun q => by
    funext b'; refine Fin.ext ?_
    match b' with
    | ⟨0, _⟩ => rfl
    | ⟨1, _⟩ => rfl
  match a with
  | ⟨0, _⟩ =>
    show min (T ((pick K wf).siIdx (ix3 n k j) ⟨0, Nat.one_pos⟩)).toInt.toNat 31 + 0 + 0 = b.val
    have := b.isLt
    have := BitVec.toInt_eq_toNat_cond (T (ix2 n 0))
    rw [hs]
    split at this <;> omega
  | ⟨1, _⟩ => show 0 + 0 + k.val = k.val; omega
  | ⟨2, _⟩ => show 0 + 0 + j.val = j.val; omega

/-- The table the reference looks up by: its words, a negative one counted from the end. -/
def table (C : IVec Cert.Reference3Ideal.S288 32) : IVec Cert.Reference3Ideal.S288x1 32 :=
  broadcastInDim Cert.Reference3Ideal.S288x1 ![0] Cert.Reference3Ideal.Gen.bcast_S288_S288x1_0
    (select
      (cmpi CmpIPredicate.slt C (broadcastInDim Cert.Reference3Ideal.S288 ![] Cert.Reference3Ideal.Gen.bcast_S_S288 (constantI Cert.Reference3Ideal.S_ 32 0#32)))
      (addi C (broadcastInDim Cert.Reference3Ideal.S288 ![] Cert.Reference3Ideal.Gen.bcast_S_S288 (constantI Cert.Reference3Ideal.S_ 32 32#32)))
      C)

/-- A word in range is looked up as it is. -/
theorem table_apply (C : IVec Cert.Reference3Ideal.S288 32) (n : Fin 288) (hc : (C (ix1 n)).toNat < 32) : table C (ix2 n 0) = C (ix1 n) := by
  unfold table
  pointwise []
  have e : IntOp.cmpi CmpIPredicate.slt (C (ix1 n)) 0#32 = 0#1 :=
    (show _ = BitVec.ofBool (decide ((C (ix1 n)).toNat < (0#32 : BitVec 32).toNat)) from WordCmp.cmpi_slt_of_lt (by omega) (by decide)).trans (by simp)
  rw [e]
  rfl

variable (C : CeT Ideal) (N : NvT Ideal) (h : Range C N)

theorem up_lookup (w : Vec Ideal Cert.Reference3Ideal.S32x1024x1024 .f32) (n : Fin 288) (k j : Fin 1024) :
    Host.gather Cert.Reference3Ideal.gather_S32x1024x1024_S288x1_S288x1024x1024_12_0_n_n_0_1_110241024 w (table C) (ix3 n k j) = w (ix3 (expertOf C N h n) k j) :=
  pick_apply 1024 _ w (table C) n k j (expertOf C N h n) (congrArg BitVec.toNat (table_apply C n (h.expert n)))

theorem down_lookup (w : Vec Ideal Cert.Reference3Ideal.S32x512x1024 .f32) (n : Fin 288) (k : Fin 512) (j : Fin 1024) :
    Host.gather Cert.Reference3Ideal.gather_S32x512x1024_S288x1_S288x512x1024_12_0_n_n_0_1_15121024 w (table C) (ix3 n k j) = w (ix3 (expertOf C N h n) k j) :=
  pick_apply 512 _ w (table C) n k j (expertOf C N h n) (congrArg BitVec.toNat (table_apply C n (h.expert n)))

/-- The reference's chunk number is compared as the number it is. -/
theorem used_word (h1 : (N (ix1 0) : BitVec 32).toNat < 2 ^ 31) (n : ℕ) (hn : n < 288) (a b : EReal) :
    Scalar.select (IntOp.cmpi CmpIPredicate.slt (BitVec.ofNat 32 n) (N (ix1 0) : BitVec 32)) a b = if n < (N (ix1 0) : BitVec 32).toNat then a else b := by
  have hw : (BitVec.ofNat 32 n).toNat = n := word_lt ⟨n, hn⟩
  rw [show IntOp.cmpi CmpIPredicate.slt (BitVec.ofNat 32 n) (N (ix1 0) : BitVec 32) = BitVec.ofBool (decide ((BitVec.ofNat 32 n).toNat < (N (ix1 0) : BitVec 32).toNat)) from
    WordCmp.cmpi_slt_of_lt (by omega) (by omega), hw]
  by_cases hu : n < (N (ix1 0) : BitVec 32).toNat
  · rw [if_pos hu, decide_eq_true hu]; rfl
  · rw [if_neg hu, decide_eq_false hu]; rfl

theorem res_eq (x : Vec Ideal S147456x1024 .f32) (u : Vec Ideal S4x32x1024x1024 .f32) (d : Vec Ideal S4x32x512x1024 .f32)
    (m : (ℓ : Loc Cert.Reference3Ideal.nD Cert.Reference3Ideal.τ Cert.Reference3Ideal.sig) → Buf (Elt Ideal) ℓ) (c : Dev Cert.Reference3Ideal.nD)
    (h0 : m ((c.tc : Thread Cert.Reference3Ideal.nD Cert.Reference3Ideal.τ).loc Cert.Reference3Ideal.main_arg0) = x)
    (h1 : m ((c.tc : Thread Cert.Reference3Ideal.nD Cert.Reference3Ideal.τ).loc Cert.Reference3Ideal.main_arg1) = C)
    (h2 : m ((c.tc : Thread Cert.Reference3Ideal.nD Cert.Reference3Ideal.τ).loc Cert.Reference3Ideal.main_arg2) = N)
    (h3 : m ((c.tc : Thread Cert.Reference3Ideal.nD Cert.Reference3Ideal.τ).loc Cert.Reference3Ideal.main_arg3) = u)
    (h4 : m ((c.tc : Thread Cert.Reference3Ideal.nD Cert.Reference3Ideal.τ).loc Cert.Reference3Ideal.main_arg4) = d) :
    Cert.Reference3Ideal.Value.res_main_v35 m c = out x (expertOf C N h) (N (ix1 0) : BitVec 32).toNat u d := by
  unfold Cert.Reference3Ideal.Value.res_main_v35
  rw [h0, h1, h2, h3, h4]
  funext j
  clean_types
  rw [show broadcastInDim Cert.Reference3Ideal.S288x1 ![0] Cert.Reference3Ideal.Gen.bcast_S288_S288x1_0
    (select
      (cmpi CmpIPredicate.slt C (broadcastInDim Cert.Reference3Ideal.S288 ![] Cert.Reference3Ideal.Gen.bcast_S_S288 (constantI Cert.Reference3Ideal.S_ 32 0#32)))
      (addi C (broadcastInDim Cert.Reference3Ideal.S288 ![] Cert.Reference3Ideal.Gen.bcast_S_S288 (constantI Cert.Reference3Ideal.S_ 32 32#32)))
      C) = table C from rfl]
  idx_vars j
  pointwise []
  simp only [up_lookup C N h, down_lookup C N h]
  pointwise []
  refine (used_word N h.lt _ (by omega) _ _).trans (if_congr Iff.rfl rfl ?_)
  unfold id
  pointwise []

/-- The reference runs, leaves its arguments as they were and has no semaphore. -/
theorem ref_frame : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The same from the precondition. -/
theorem ref_frame_pre : Cert.quiescent_Reference3Ideal_pre_pre3 := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- Over the extended reals the kernel and the reference end with the same array. -/
theorem algebraic : Cert.algebraic_Kernel3Ideal_Reference3Ideal := by
  intro m g m' g' hp ha
  have h := range_of_pre _ _ _ _ _ (hp 0)
  refine ⟨_, run_out _ _ h m g ⟨fun c => by rw [Subsingleton.elim c 0], fun c => by rw [Subsingleton.elim c 0]⟩ |> (θ_run _ _ _).mono fun r k => k.1,
    (θ_run _ _ _).mono (fun r k c => ⟨(k c).1.trans ?_, (k c).2⟩) (Cert.Reference3Ideal.Value.run (F := Ideal) m' g')⟩
  rw [arr_eq]
  obtain rfl : c = 0 := Subsingleton.elim _ _
  obtain ⟨a0, a1, a2, a3, a4⟩ := ha 0
  exact res_eq _ _ h _ _ _ m' 0 a0 a1 a2 a3 a4

end Cert.Experts

end
-- ==== Proof.EvenSteps.lean ====
/-
  The convolution mixer kernel's stores, as uniform steps: one block of 32 rows, its two convolutions tap by tap.
-/
module

public import proofs.«01_k».proof.Proof.Gen.Kernel4Ideal.Value
import all proofs.«01_k».proof.Proof.Gen.Kernel4Ideal.Frame.RunA
import all proofs.«01_k».proof.Proof.Gen.Kernel4Ideal.Frame.RunB

@[expose] public section

set_option maxRecDepth 65536

namespace Cert.Even

open Idealize.ShloMosaic Idealize.ShloMosaic.TcCoe Idealize.SL.Sem
open Cert.Kernel4Ideal Cert.Kernel4Ideal.Gen

noncomputable section

variable {F : FTy → Type} [FloatOps F]

/-- One tap: a row of weights times the rows it meets. -/
def tap (w : Vec F S1x512 .f32) (r : Vec F S32x512 .f32) : FVec F S32x512 .f32 :=
  mulf (broadcastTo S32x512 w broadcasts_S1x512_S32x512) r

/-- The sum of taps 0 to `n`, from the first to the last. -/
def taps (w : Nat → Vec F S1x512 .f32) (r : Nat → Vec F S32x512 .f32) (n : Nat) : FVec F S32x512 .f32 :=
  Nat.rec (tap (w 0) (r 0)) (fun k acc => addf acc (tap (w (k + 1)) (r (k + 1)))) n

/-- The first half of a block of mixed rows. -/
def payA (u acc : Vec F S32x512 .f32) : FVec F S32x512 .bf16 :=
  shapeCast S32x512 (truncf .bf16 (mulf u acc) bitsLt_bf16_f32) shapeCasts_S32x512_S32x512

/-- The second half of a block of mixed rows, from the convolution before its bias. -/
def payB (acc : Vec F S32x512 .f32) (bias g b : Vec F S1x512 .f32) : FVec F S32x512 .bf16 :=
  k0_pay201 (addf acc (broadcastTo S32x512 (shapeCast S1x512 bias shapeCasts_S1x512_S1x512) broadcasts_S1x512_S32x512)) g b

theorem inb3 (k : Nat) : ∀ a, (![k % 3, 0] : Fin 2 → Nat) a + S1x512.size a ≤ S3x512.size a :=
  Fin.forall_fin_two.mpr ⟨by show k % 3 + 1 ≤ 3; omega, (by decide : 0 + 512 ≤ 512)⟩

theorem inb31 (k : Nat) : ∀ a, (![k % 31, 0] : Fin 2 → Nat) a + S1x512.size a ≤ S31x512.size a :=
  Fin.forall_fin_two.mpr ⟨by show k % 31 + 1 ≤ 31; omega, (by decide : 0 + 512 ≤ 512)⟩

theorem inb544 (o : Nat) : ∀ a, (![o % 513, 0] : Fin 2 → Nat) a + S32x512.size a ≤ S544x512.size a :=
  Fin.forall_fin_two.mpr ⟨by show o % 513 + 32 ≤ 544; omega, (by decide : 0 + 512 ≤ 512)⟩

theorem inbU (b : Nat) : ∀ a, (![32 * (b % 16), 0] : Fin 2 → Nat) a + S32x512.size a ≤ S512x2560.size a :=
  Fin.forall_fin_two.mpr ⟨by show 32 * (b % 16) + 32 ≤ 512; omega, (by decide : 0 + 512 ≤ 2560)⟩

theorem inbYa (b : Nat) : ∀ a, (![32 * (b % 16), 0] : Fin 2 → Nat) a + S32x512.size a ≤ S512x1024.size a :=
  Fin.forall_fin_two.mpr ⟨by show 32 * (b % 16) + 32 ≤ 512; omega, (by decide : 0 + 512 ≤ 1024)⟩

theorem inbYb (b : Nat) : ∀ a, (![32 * (b % 16), 512] : Fin 2 → Nat) a + S32x512.size a ≤ S512x1024.size a :=
  Fin.forall_fin_two.mpr ⟨by show 32 * (b % 16) + 32 ≤ 512; omega, (by decide : 512 + 512 ≤ 1024)⟩

abbrev r3 (k : Nat) : Rect S3x512 := Rect.unit ![k % 3, 0] S1x512.size (inb3 k)
abbrev r31 (k : Nat) : Rect S31x512 := Rect.unit ![k % 31, 0] S1x512.size (inb31 k)
abbrev r544 (o : Nat) : Rect S544x512 := Rect.unit ![o % 513, 0] S32x512.size (inb544 o)
abbrev rU (b : Nat) : Rect S512x2560 := Rect.unit ![32 * (b % 16), 0] S32x512.size (inbU b)
abbrev rYa (b : Nat) : Rect S512x1024 := Rect.unit ![32 * (b % 16), 0] S32x512.size (inbYa b)
abbrev rYb (b : Nat) : Rect S512x1024 := Rect.unit ![32 * (b % 16), 512] S32x512.size (inbYb b)

/-- The pieces of the mixed rows the first `n` blocks store, last first: `ca`, `cb` the taps' weights, `C o`, `G o` the 32
    rows from row `o` of the two sequences, `U b` the rows of block `b`. -/
def ypcs (ca cb : Nat → Vec F S1x512 .f32) (bias g b : Vec F S1x512 .f32) (C G U : Nat → Vec F S32x512 .f32) (n : Nat) :
    List (View.Piece (Elt F) S512x1024 .bf16) :=
  Nat.rec [] (fun r L => ⟨rYb r, payB (taps cb (fun k => G (32 * r + 2 + k)) 30) bias g b⟩
    :: ⟨rYa r, payA (U r) (taps ca (fun k => C (32 * r + 30 + k)) 2)⟩ :: L) n

section run

variable (c : Dev nD) (i : grid0.Coords) (arg2 : Memref sig .tc .vmem S1x512x1024 .f32) (harg2 : arg2.IsWhole) (arg3 : Memref sig .tc .vmem S1024x2560 .bf16) (harg3 : arg3.IsWhole) (arg4 : Memref sig .tc .vmem S3x512 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x512x1024 .f32) (harg13 : arg13.IsWhole) (arg14 : Memref sig .tc .vmem S1x512x128 .f32) (harg14 : arg14.IsWhole) (arg15 : Memref sig .tc .vmem S512x2560 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x1024 .bf16) (harg18 : arg18.IsWhole)
  (x0 : Vec F S1x512x1024 .f32) (x1 : Vec F S1024x2560 .bf16) (x2 : Vec F S3x512 .f32) (x3 : Vec F S31x512 .f32) (x4 : Vec F S1x512 .f32) (x5 : Vec F S1x512 .f32) (x6 : Vec F S1x512 .f32) (x7 : Vec F S1024x1024 .bf16) (x8 : Vec F S1x1024 .f32) (x9 : Vec F S1x1024 .f32) (x10 : Vec F S1024x256 .bf16) (xs1 : Vec F S544x512 .f32) (xs2 : Vec F S544x512 .f32)

/-- The projected rows, as stored. -/
def uPcs : List (View.Piece (Elt F) S512x2560 .f32) :=
  [⟨Rect.unit ![0, 0] S512x2560.size inb_S512x2560_S512x2560_0_0,
    k0_pay3 (View.readAt (Elt F) arg2.view (Rect.unit (s := S1x512x1024) ![0, 0, 0] S1x512x1024.size inb_S1x512x1024_S1x512x1024_0_0_0).toLoadRect (harg2.unread x0))
      (View.readAt (Elt F) arg3.view (Rect.unit (s := S1024x2560) ![0, 0] S1024x2560.size inb_S1024x2560_S1024x2560_0_0).toLoadRect (harg3.unread x1))⟩]

theorem inbUc (j : Fin 5) : ∀ a, (![0, 512 * j.val] : Fin 2 → Nat) a + S512x512.size a ≤ S512x2560.size a := by
  revert j; decide

/-- Section `j` of the projected rows. -/
def uSec (j : Fin 5) : Vec F S512x512 .f32 :=
  View.readAt (Elt F) arg15.view (Rect.unit (s := S512x2560) ![0, 512 * j.val] S512x512.size (inbUc j)).toLoadRect
    (arg15.view.writes (Elt F) arg15.view.junk (uPcs arg2 harg2 arg3 harg3 x0 x1))

abbrev rMain : Rect S544x512 := Rect.unit ![32, 0] S512x512.size inb_S544x512_S512x512_32_0
abbrev rHalo : Rect S544x512 := Rect.unit ![0, 0] S32x512.size inb_S544x512_S32x512_0_0
abbrev rTail : Rect S544x512 := Rect.unit ![512, 0] S32x512.size inb_S544x512_S32x512_512_0

/-- The first convolution's sequence, as stored over a halo. -/
def cPcs (halo : FVec F S32x512 .f32) : List (View.Piece (Elt F) S544x512 .f32) :=
  [⟨rMain, k0_pay8 (uSec arg2 harg2 arg3 harg3 arg15 x0 x1 1) (uSec arg2 harg2 arg3 harg3 arg15 x0 x1 2)⟩, ⟨rHalo, halo⟩]

/-- The second convolution's sequence, as stored over a halo. -/
def gPcs (halo : FVec F S32x512 .f32) : List (View.Piece (Elt F) S544x512 .f32) :=
  [⟨rMain, k0_pay9 (uSec arg2 harg2 arg3 harg3 arg15 x0 x1 3) (uSec arg2 harg2 arg3 harg3 arg15 x0 x1 4)⟩, ⟨rHalo, halo⟩]

/-- The mixed rows, as stored, from what the two sequences' buffers hold. -/
def mixPcs (fc : arg16.view.ty.Contents (Elt F)) (fg : arg17.view.ty.Contents (Elt F)) :
    List (View.Piece (Elt F) S512x1024 .bf16) :=
  ypcs (fun k => View.readAt (Elt F) arg4.view (r3 k).toLoadRect (harg4.unread x2))
    (fun k => View.readAt (Elt F) arg5.view (r31 k).toLoadRect (harg5.unread x3))
    (View.readAt (Elt F) arg6.view (Rect.unit (s := S1x512) ![0, 0] S1x512.size inb_S1x512_S1x512_0_0).toLoadRect (harg6.unread x4))
    (View.readAt (Elt F) arg7.view (Rect.unit (s := S1x512) ![0, 0] S1x512.size inb_S1x512_S1x512_0_0).toLoadRect (harg7.unread x5))
    (View.readAt (Elt F) arg8.view (Rect.unit (s := S1x512) ![0, 0] S1x512.size inb_S1x512_S1x512_0_0).toLoadRect (harg8.unread x6))
    (fun o => View.readAt (Elt F) arg16.view (r544 o).toLoadRect fc)
    (fun o => View.readAt (Elt F) arg17.view (r544 o).toLoadRect fg)
    (fun b => View.readAt (Elt F) arg15.view (rU b).toLoadRect
      (arg15.view.writes (Elt F) arg15.view.junk (uPcs arg2 harg2 arg3 harg3 x0 x1))) 16

/-- The output rows, as stored, from what the two sequences' buffers hold. -/
def outPcs (fc : arg16.view.ty.Contents (Elt F)) (fg : arg17.view.ty.Contents (Elt F)) :
    List (View.Piece (Elt F) S1x512x1024 .f32) :=
  [⟨Rect.unit ![0, 0, 0] S1x512x1024.size inb_S1x512x1024_S1x512x1024_0_0_0,
    k0_pay204 (k0_pay202
      (k0_pay2 (View.readAt (Elt F) arg2.view (Rect.unit (s := S1x512x1024) ![0, 0, 0] S1x512x1024.size inb_S1x512x1024_S1x512x1024_0_0_0).toLoadRect (harg2.unread x0)))
      (View.readAt (Elt F) arg18.view (Rect.unit (s := S512x1024) ![0, 0] S512x1024.size inb_S512x1024_S512x1024_0_0).toLoadRect
        (arg18.view.writes (Elt F) arg18.view.junk
          (mixPcs arg2 harg2 arg3 harg3 arg4 harg4 arg5 harg5 arg6 harg6 arg7 harg7 arg8 harg8 arg15 arg16 arg17 x0 x1 x2 x3 x4 x5 x6 fc fg)))
      (View.readAt (Elt F) arg9.view (Rect.unit (s := S1024x1024) ![0, 0] S1024x1024.size inb_S1024x1024_S1024x1024_0_0).toLoadRect (harg9.unread x7)))
      (View.readAt (Elt F) arg10.view (Rect.unit (s := S1x1024) ![0, 0] S1x1024.size inb_S1x1024_S1x1024_0_0).toLoadRect (harg10.unread x8))
      (View.readAt (Elt F) arg11.view (Rect.unit (s := S1x1024) ![0, 0] S1x1024.size inb_S1x1024_S1x1024_0_0).toLoadRect (harg11.unread x9))⟩]

section caseA

variable (hc0 : cond0_0 i) (hc1 : ¬cond0_1 i)

theorem piecesA_c : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1
    = cPcs arg2 harg2 arg3 harg3 arg15 x0 x1 k0_pay4 := by
  sl_kernel_rfl

theorem piecesA_g : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1
    = gPcs arg2 harg2 arg3 harg3 arg15 x0 x1 k0_pay5 := by
  sl_kernel_rfl

theorem piecesA_out : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1
    = outPcs arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9
      (arg16.view.writes (Elt F) arg16.view.junk (cPcs arg2 harg2 arg3 harg3 arg15 x0 x1 k0_pay4))
      (arg17.view.writes (Elt F) arg17.view.junk (gPcs arg2 harg2 arg3 harg3 arg15 x0 x1 k0_pay5)) := by
  sl_kernel_rfl

end caseA

section caseB

variable (hc0 : ¬cond0_0 i) (hc1 : cond0_1 i)

/-- The rows a buffer ends with, as the next point's halo. -/
abbrev tail (a : Memref sig .tc .vmem S544x512 .f32) (ha : a.IsWhole) (x : Vec F S544x512 .f32) : Vec F S32x512 .f32 :=
  View.readAt (Elt F) a.view rTail.toLoadRect (ha.unread x)

theorem piecesB_c : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2).2.2.1
    = cPcs arg2 harg2 arg3 harg3 arg15 x0 x1 (k0_pay6 (tail arg16 harg16 xs1)) := by
  sl_kernel_rfl

theorem piecesB_g : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2).2.2.2.1
    = gPcs arg2 harg2 arg3 harg3 arg15 x0 x1 (k0_pay7 (tail arg17 harg17 xs2)) := by
  sl_kernel_rfl

theorem piecesB_out : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2).1
    = outPcs arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9
      (arg16.view.writes (Elt F) arg16.view.junk (cPcs arg2 harg2 arg3 harg3 arg15 x0 x1 (k0_pay6 (tail arg16 harg16 xs1))))
      (arg17.view.writes (Elt F) arg17.view.junk (gPcs arg2 harg2 arg3 harg3 arg15 x0 x1 (k0_pay7 (tail arg17 harg17 xs2)))) := by
  sl_kernel_rfl

end caseB

end run

end

end Cert.Even
-- ==== Proof.EvenMath.lean ====
/-
  A convolution mixer's row over the extended reals: two causal convolutions along the positions, one gated by a
  projection, the other normed and gated by itself, their projection, and the layer norm of the sum with the input.
-/
module

public import proofs.«01_k».proof.Proof.Norm

@[expose] public section

noncomputable section

namespace Cert.Even

open Idealize.ShloMosaic

/-- The sum of `w k * r k` for `k` from 0 to `n`, from the first to the last. -/
def conv (w r : ℕ → EReal) (n : ℕ) : EReal := Nat.rec (w 0 * r 0) (fun k acc => acc + w (k + 1) * r (k + 1)) n

theorem conv_zero (w r : ℕ → EReal) : conv w r 0 = w 0 * r 0 := rfl

theorem conv_succ (w r : ℕ → EReal) (n : ℕ) : conv w r (n + 1) = conv w r n + w (n + 1) * r (n + 1) := rfl

theorem conv_congr {w w' r r' : ℕ → EReal} (n : ℕ) (hw : ∀ k ≤ n, w k = w' k) (hr : ∀ k ≤ n, r k = r' k) :
    conv w r n = conv w' r' n := by
  induction n with
  | zero => rw [conv_zero, conv_zero, hw 0 le_rfl, hr 0 le_rfl]
  | succ n ih =>
    rw [conv_succ, conv_succ, ih (fun k hk => hw k (by omega)) (fun k hk => hr k (by omega)), hw _ le_rfl, hr _ le_rfl]

/-- The weights of a mixer. -/
structure Weights where
  win : Fin 1024 → Fin 2560 → EReal
  ca : ℕ → Fin 512 → EReal
  cb : ℕ → Fin 512 → EReal
  bias : Fin 512 → EReal
  ng : Fin 512 → EReal
  nb : Fin 512 → EReal
  wout : Fin 1024 → Fin 1024 → EReal
  g : Fin 1024 → EReal
  b : Fin 1024 → EReal

variable (W : Weights)

/-- Column `j` of a row's projection. -/
def proj (x : Fin 1024 → EReal) (j : Fin 2560) : EReal := ∑ k, x k * W.win k j

/-- A row's entry of the first convolution's sequence. -/
def seqA (x : Fin 1024 → EReal) (c : Fin 512) : EReal :=
  proj W x ⟨512 + c.val, by omega⟩ * proj W x ⟨1024 + c.val, by omega⟩

/-- A row's entry of the second convolution's sequence. -/
def seqB (x : Fin 1024 → EReal) (c : Fin 512) : EReal :=
  proj W x ⟨1536 + c.val, by omega⟩ * Ideal.logistic (proj W x ⟨2048 + c.val, by omega⟩)

/-- The first half of a mixed row: `A k` the sequence's row `k` of the window that ends at this row. -/
def mixA (x : Fin 1024 → EReal) (A : ℕ → Fin 512 → EReal) (c : Fin 512) : EReal :=
  proj W x ⟨c.val, by omega⟩ * conv (fun k => W.ca k c) (fun k => A k c) 2

/-- The second convolution, normed. -/
def normB (B : ℕ → Fin 512 → EReal) (c : Fin 512) : EReal :=
  Norm.norm (Ideal.ofBits .f32 0x44000000#32) (Ideal.ofBits .f32 0x3727C5AC#32)
    (fun k => conv (fun i => W.cb i k) (fun i => B i k) 30 + W.bias k) W.ng W.nb c

/-- A mixed row. -/
def mixed (x : Fin 1024 → EReal) (A B : ℕ → Fin 512 → EReal) (e : Fin 1024) : EReal :=
  if h : e.val < 512 then mixA W x A ⟨e.val, h⟩
  else normB W B ⟨e.val - 512, by omega⟩ * Ideal.logistic (normB W B ⟨e.val - 512, by omega⟩)

theorem mixed_lo (x : Fin 1024 → EReal) (A B : ℕ → Fin 512 → EReal) (c : Fin 512) (e : Fin 1024) (h : e.val = c.val) :
    mixed W x A B e = mixA W x A c := by
  have hc : (⟨e.val, by omega⟩ : Fin 512) = c := Fin.ext h
  rw [← hc]
  exact dif_pos _

theorem mixed_hi (x : Fin 1024 → EReal) (A B : ℕ → Fin 512 → EReal) (c : Fin 512) (e : Fin 1024) (h : e.val = 512 + c.val) :
    mixed W x A B e = normB W B c * Ideal.logistic (normB W B c) := by
  have hc : (⟨e.val - 512, by omega⟩ : Fin 512) = c := Fin.ext (by show e.val - 512 = c.val; omega)
  rw [← hc]
  exact dif_neg (by omega)

/-- The layer's row. -/
def rowOut (x : Fin 1024 → EReal) (A B : ℕ → Fin 512 → EReal) (j : Fin 1024) : EReal :=
  Norm.norm (Ideal.ofBits .f32 0x44800000#32) (Ideal.ofBits .f32 0x3727C5AC#32)
    (fun k => Ideal.ofBits .f32 0x3FD744FD#32 * x k + ∑ e, mixed W x A B e * W.wout e k) W.g W.b j

theorem rowOut_congr (x : Fin 1024 → EReal) {A A' B B' : ℕ → Fin 512 → EReal}
    (hA : ∀ k ≤ 2, ∀ c, A k c = A' k c) (hB : ∀ k ≤ 30, ∀ c, B k c = B' k c) (j : Fin 1024) :
    rowOut W x A B j = rowOut W x A' B' j := by
  have h1 : mixA W x A = mixA W x A' := funext fun c =>
    congrArg (_ * ·) (conv_congr 2 (fun _ _ => rfl) fun k hk => hA k hk c)
  have h2 : normB W B = normB W B' := by
    have : (fun k => conv (fun i => W.cb i k) (fun i => B i k) 30 + W.bias k)
        = fun k => conv (fun i => W.cb i k) (fun i => B' i k) 30 + W.bias k := funext fun c =>
      congrArg (· + _) (conv_congr 30 (fun _ _ => rfl) fun k hk => hB k hk c)
    funext c
    rw [normB, normB, this]
  have h3 : mixed W x A B = mixed W x A' B' := funext fun e => by rw [mixed, mixed, h1, h2]
  rw [rowOut, rowOut, h3]

/-- A sequence after 32 zeros. -/
def ext (f : ℕ → Fin 512 → EReal) (q : ℕ) (c : Fin 512) : EReal := if q < 32 then 0 else f (q - 32) c

theorem ext_zero (f : ℕ → Fin 512 → EReal) (q : ℕ) (hq : q < 32) (c : Fin 512) : ext f q c = 0 := if_pos hq

theorem ext_add (f : ℕ → Fin 512 → EReal) (t : ℕ) (c : Fin 512) : ext f (32 + t) c = f t c := by
  rw [ext, if_neg (by omega), Nat.add_sub_cancel_left]

variable (x : Fin 32 → Fin 2048 → Fin 1024 → EReal)

/-- The first convolution's sequence of batch row `b`. -/
def sA (b : Fin 32) (t : ℕ) (c : Fin 512) : EReal := if h : t < 2048 then seqA W (x b ⟨t, h⟩) c else 0

/-- The second convolution's sequence of batch row `b`. -/
def sB (b : Fin 32) (t : ℕ) (c : Fin 512) : EReal := if h : t < 2048 then seqB W (x b ⟨t, h⟩) c else 0

theorem sA_apply (b : Fin 32) (t : Fin 2048) (c : Fin 512) : sA W x b t.val c = seqA W (x b t) c := dif_pos t.isLt

theorem sB_apply (b : Fin 32) (t : Fin 2048) (c : Fin 512) : sB W x b t.val c = seqB W (x b t) c := dif_pos t.isLt

/-- The layer's rows: position `t`'s window of a sequence ends at the sequence's entry `t`. -/
def outAt (b : Fin 32) (t : Fin 2048) (j : Fin 1024) : EReal :=
  rowOut W (x b t) (fun k => ext (sA W x b) (t.val + 30 + k)) (fun k => ext (sB W x b) (t.val + 2 + k)) j

end Cert.Even
-- ==== Proof.EvenVals.lean ====
/-
  The convolution mixer kernel's steps over the extended reals, index by index.
-/
module

public import proofs.«01_k».proof.Proof.EvenSteps
public import proofs.«01_k».proof.Proof.EvenMath
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Even

open Idealize.ShloMosaic Idealize.ShloMosaic.TcCoe Idealize.SL.Sem
open Cert.Kernel4Ideal Cert.Kernel4Ideal.Gen

theorem tap_apply (w : Vec Ideal S1x512 .f32) (r : Vec Ideal S32x512 .f32) (i : Fin 32) (c : Fin 512) :
    tap w r (ix2 i c) = w (ix2 0 c) * r (ix2 i c) := by
  pointwise [tap]

theorem taps_apply (w : ℕ → Vec Ideal S1x512 .f32) (r : ℕ → Vec Ideal S32x512 .f32) (n : ℕ) (i : Fin 32) (c : Fin 512) :
    taps w r n (ix2 i c) = conv (fun k => w k (ix2 0 c)) (fun k => r k (ix2 i c)) n := by
  induction n with
  | zero => exact tap_apply _ _ i c
  | succ n ih =>
    rw [conv_succ, ← ih, ← tap_apply]
    rfl

theorem payA_apply (u acc : Vec Ideal S32x512 .f32) (i : Fin 32) (c : Fin 512) :
    payA u acc (ix2 i c) = u (ix2 i c) * acc (ix2 i c) := by
  pointwise [payA]

theorem payB_apply (acc : Vec Ideal S32x512 .f32) (bias g b : Vec Ideal S1x512 .f32) (i : Fin 32) (c : Fin 512) :
    payB acc bias g b (ix2 i c)
      = (fun y : EReal => y * Ideal.logistic y) (Norm.norm (Ideal.ofBits .f32 0x44000000#32) (Ideal.ofBits .f32 0x3727C5AC#32)
        (fun k => acc (ix2 i k) + bias (ix2 0 k)) (fun k => g (ix2 0 k)) (fun k => b (ix2 0 k)) c) := by
  pointwise [payB, k0_pay201, Norm.norm, Norm.mean]

theorem payOut_apply (x : Vec Ideal S1x512x1024 .f32) (y : Vec Ideal S512x1024 .bf16) (w : Vec Ideal S1024x1024 .bf16)
    (g b : Vec Ideal S1x1024 .f32) (r : Fin 512) (j : Fin 1024) :
    k0_pay204 (k0_pay202 (k0_pay2 x) y w) g b (ix3 0 r j)
      = Norm.norm (Ideal.ofBits .f32 0x44800000#32) (Ideal.ofBits .f32 0x3727C5AC#32)
        (fun k => Ideal.ofBits .f32 0x3FD744FD#32 * x (ix3 0 r k) + ∑ e : Fin 1024, y (ix2 r e) * w (ix2 e k))
        (fun k => g (ix2 0 k)) (fun k => b (ix2 0 k)) j := by
  pointwise [k0_pay204, k0_pay203, k0_pay202, k0_pay2, Norm.norm, Norm.mean]

theorem payU_apply (x : Vec Ideal S1x512x1024 .f32) (w : Vec Ideal S1024x2560 .bf16) (r : Fin 512) (j : Fin 2560) :
    k0_pay3 x w (ix2 r j) = ∑ k : Fin 1024, x (ix3 0 r k) * w (ix2 k j) := by
  pointwise [k0_pay3, k0_pay2]

theorem pay8_apply (a b : Vec Ideal S512x512 .f32) (r c : Fin 512) : k0_pay8 a b (ix2 r c) = a (ix2 r c) * b (ix2 r c) := by
  pointwise [k0_pay8]

theorem pay9_apply (a b : Vec Ideal S512x512 .f32) (r c : Fin 512) :
    k0_pay9 a b (ix2 r c) = a (ix2 r c) * Ideal.logistic (b (ix2 r c)) := by
  pointwise [k0_pay9]

theorem pay4_apply (i : Fin 32) (c : Fin 512) : k0_pay4 (F := Ideal) (ix2 i c) = 0 := by
  pointwise [k0_pay4]

theorem pay5_apply (i : Fin 32) (c : Fin 512) : k0_pay5 (F := Ideal) (ix2 i c) = 0 := by
  pointwise [k0_pay5]

theorem pay6_eq (x : Vec Ideal S32x512 .f32) : k0_pay6 x = x := by
  funext j
  change S32x512.Idx at j
  idx_vars j
  pointwise [k0_pay6]

theorem pay7_eq (x : Vec Ideal S32x512 .f32) : k0_pay7 x = x := by
  funext j
  change S32x512.Idx at j
  idx_vars j
  pointwise [k0_pay7]

section reads

/-- A whole buffer, read. -/
theorem rd_all {s : Shape} {t : EltTy} (a : Memref sig .tc .vmem s t) (ha : a.IsWhole) (x : Vec Ideal s t)
    {off : Fin s.rank → ℕ} (inb : ∀ d, off d + s.size d ≤ s.size d) :
    View.readAt (Elt Ideal) a.view (Rect.unit off s.size inb).toLoadRect (ha.unread x) = x :=
  funext fun y => (congrFun (ha.read_unread x) _).trans (congrArg x (funext fun d => Fin.ext (by
    show off d + 1 * (y d).val = (y d).val
    have := inb d
    omega)))

variable (arg2 : Memref sig .tc .vmem S1x512x1024 .f32) (harg2 : arg2.IsWhole)
  (arg3 : Memref sig .tc .vmem S1024x2560 .bf16) (harg3 : arg3.IsWhole)
  (arg4 : Memref sig .tc .vmem S3x512 .f32) (harg4 : arg4.IsWhole)
  (arg5 : Memref sig .tc .vmem S31x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x1024 .f32) (harg11 : arg11.IsWhole)
  (arg15 : Memref sig .tc .vmem S512x2560 .f32) (arg16 arg17 : Memref sig .tc .vmem S544x512 .f32)
  (arg18 : Memref sig .tc .vmem S512x1024 .bf16)
  (x0 : Vec Ideal S1x512x1024 .f32) (x1 : Vec Ideal S1024x2560 .bf16) (x2 : Vec Ideal S3x512 .f32)
  (x3 : Vec Ideal S31x512 .f32) (x4 x5 x6 : Vec Ideal S1x512 .f32) (x7 : Vec Ideal S1024x1024 .bf16)
  (x8 x9 : Vec Ideal S1x1024 .f32)

/-- The weights in the kernel's blocks. -/
def wts : Weights where
  win k j := x1 (ix2 k j)
  ca k c := x2 (ix2 ⟨k % 3, by omega⟩ c)
  cb k c := x3 (ix2 ⟨k % 31, by omega⟩ c)
  bias c := x4 (ix2 0 c)
  ng c := x5 (ix2 0 c)
  nb c := x6 (ix2 0 c)
  wout e k := x7 (ix2 e k)
  g k := x8 (ix2 0 k)
  b k := x9 (ix2 0 k)

/-- Row `r` of a block. -/
def xrow (r : Fin 512) (k : Fin 1024) : EReal := x0 (ix3 0 r k)

theorem u_canon (r : Fin 512) (j : Fin 2560) :
    View.canon (uPcs arg2 harg2 arg3 harg3 x0 x1) (ix2 r j) = proj (wts x1 x2 x3 x4 x5 x6 x7 x8 x9) (xrow x0 r) j := by
  unfold uPcs
  rw [rd_all, rd_all, View.canon_cons_unit_lit _ _ _ (by decide)]
  exact payU_apply x0 x1 r j

theorem uSec_apply (s : Fin 5) (r c : Fin 512) :
    uSec arg2 harg2 arg3 harg3 arg15 x0 x1 s (ix2 r c) = proj (wts x1 x2 x3 x4 x5 x6 x7 x8 x9) (xrow x0 r) ⟨512 * s.val + c.val, by omega⟩ := by
  rw [← u_canon arg2 harg2 arg3 harg3 x0 x1, uSec, View.readAt_writes_junk_eq_canon]
  refine congrArg (View.canon _) (funext fun a => Fin.ext ?_)
  fin_cases a
  · exact (Nat.zero_add _).trans (Nat.one_mul _)
  · exact congrArg (512 * s.val + ·) (Nat.one_mul _)

theorem uRow_apply (b : ℕ) (i : Fin 32) (c : Fin 512) :
    View.readAt (Elt Ideal) arg15.view (rU b).toLoadRect
      (arg15.view.writes (Elt Ideal) arg15.view.junk (uPcs arg2 harg2 arg3 harg3 x0 x1)) (ix2 i c)
      = proj (wts x1 x2 x3 x4 x5 x6 x7 x8 x9) (xrow x0 ⟨32 * (b % 16) + i.val, by omega⟩) ⟨c.val, by omega⟩ := by
  rw [← u_canon arg2 harg2 arg3 harg3 x0 x1, View.readAt_writes_junk_eq_canon]
  refine congrArg (View.canon _) (funext fun a => Fin.ext ?_)
  fin_cases a
  · exact congrArg (32 * (b % 16) + ·) (Nat.one_mul _)
  · exact (Nat.zero_add _).trans (Nat.one_mul _)

section buffers

variable (buf : ℕ → Fin 512 → EReal)

/-- A sequence's buffer: rows 0 to 31 from its halo, the others from the block's rows. -/
theorem buf_canon (P : Vec Ideal S512x512 .f32) (H : Vec Ideal S32x512 .f32)
    (hH : ∀ (i : Fin 32) (c : Fin 512), H (ix2 i c) = buf i.val c)
    (hP : ∀ r c : Fin 512, P (ix2 r c) = buf (32 + r.val) c) (y : S544x512.Idx) :
    View.canon (Val := Elt Ideal) (e := .f32) [⟨rMain, P⟩, ⟨rHalo, H⟩] y = buf (y 0).val (y 1) := by
  refine View.canon_append_of_piecesOf (Val := Elt Ideal) (e := .f32) (fun y : S544x512.Idx => buf (y 0).val (y 1)) [] [_, _] ⟨fun j => ?_, fun j => ?_, trivial⟩ y
    (View.cover_of_tiledBy _ ![32, 512] (by sl_kernel_rfl) y)
  · change S512x512.Idx at j
    idx_vars j
    refine (hP j0 j1).trans (congrArg₂ buf ?_ (Fin.ext ?_))
    · exact congrArg (32 + ·) (Nat.one_mul _).symm
    · exact ((Nat.zero_add _).trans (Nat.one_mul _)).symm
  · change S32x512.Idx at j
    idx_vars j
    refine (hH j0 j1).trans (congrArg₂ buf ?_ (Fin.ext ?_))
    · exact ((Nat.zero_add _).trans (Nat.one_mul _)).symm
    · exact ((Nat.zero_add _).trans (Nat.one_mul _)).symm

/-- A load of 32 of its rows. -/
theorem buf_read (a : Memref sig .tc .vmem S544x512 .f32) (L : List (View.Piece (Elt Ideal) S544x512 .f32))
    (h : ∀ y, View.canon L y = buf (y 0).val (y 1)) (o : ℕ) (ho : o ≤ 512) (i : Fin 32) (c : Fin 512) :
    View.readAt (Elt Ideal) a.view (r544 o).toLoadRect (a.view.writes (Elt Ideal) a.view.junk L) (ix2 i c) = buf (o + i.val) c := by
  rw [View.readAt_writes_junk_eq_canon]
  refine (h _).trans (congrArg₂ buf ?_ (Fin.ext ?_))
  · refine (congrArg (o % 513 + ·) (Nat.one_mul _)).trans ?_
    rw [Nat.mod_eq_of_lt (by omega)]
    rfl
  · exact (Nat.zero_add _).trans (Nat.one_mul _)

end buffers

theorem wa_apply (k : ℕ) (c : Fin 512) :
    View.readAt (Elt Ideal) arg4.view (r3 k).toLoadRect (harg4.unread x2) (ix2 0 c) = (wts x1 x2 x3 x4 x5 x6 x7 x8 x9).ca k c := by
  refine (congrFun (harg4.read_unread x2) _).trans (congrArg x2 (funext fun a => Fin.ext ?_))
  fin_cases a
  · rfl
  · exact (Nat.zero_add _).trans (Nat.one_mul _)

theorem wb_apply (k : ℕ) (c : Fin 512) :
    View.readAt (Elt Ideal) arg5.view (r31 k).toLoadRect (harg5.unread x3) (ix2 0 c) = (wts x1 x2 x3 x4 x5 x6 x7 x8 x9).cb k c := by
  refine (congrFun (harg5.read_unread x3) _).trans (congrArg x3 (funext fun a => Fin.ext ?_))
  fin_cases a
  · rfl
  · exact (Nat.zero_add _).trans (Nat.one_mul _)

variable (bc bg : ℕ → Fin 512 → EReal)

/-- The mixed rows of a block. -/
def mixG (y : S512x1024.Idx) : EReal :=
  mixed (wts x1 x2 x3 x4 x5 x6 x7 x8 x9) (xrow x0 (y 0)) (fun k => bc ((y 0).val + 30 + k)) (fun k => bg ((y 0).val + 2 + k)) (y 1)

variable (fc : arg16.view.ty.Contents (Elt Ideal)) (fg : arg17.view.ty.Contents (Elt Ideal))
  (hc : ∀ o ≤ 512, ∀ (i : Fin 32) (c : Fin 512), View.readAt (Elt Ideal) arg16.view (r544 o).toLoadRect fc (ix2 i c) = bc (o + i.val) c)
  (hg : ∀ o ≤ 512, ∀ (i : Fin 32) (c : Fin 512), View.readAt (Elt Ideal) arg17.view (r544 o).toLoadRect fg (ix2 i c) = bg (o + i.val) c)
include hc hg

theorem mix_canon (y : S512x1024.Idx) :
    View.canon (mixPcs arg2 harg2 arg3 harg3 arg4 harg4 arg5 harg5 arg6 harg6 arg7 harg7 arg8 harg8 arg15 arg16 arg17 x0 x1 x2 x3 x4 x5 x6 fc fg) y
      = mixG x0 x1 x2 x3 x4 x5 x6 x7 x8 x9 bc bg y := by
  unfold mixPcs
  rw [rd_all, rd_all, rd_all]
  refine (congrFun (congrArg View.canon (List.append_nil _).symm) y).trans ?_
  refine View.canon_append_of_piecesOf _ [] _ ?_ y (View.cover_of_tiledBy _ ![32, 512] (by sl_kernel_rfl) y)
  suffices h : ∀ n ≤ 16, View.PiecesOf (mixG x0 x1 x2 x3 x4 x5 x6 x7 x8 x9 bc bg) (ypcs _ _ x4 x5 x6 _ _ _ n) from h 16 le_rfl
  intro n hn
  induction n with
  | zero => trivial
  | succ r ih =>
    refine ⟨fun j => ?_, fun j => ?_, ih (by omega)⟩
    · change S32x512.Idx at j
      idx_vars j
      have e : (rYb r).emb (ix2 j0 j1) = ix2 ⟨32 * r + j0.val, by omega⟩ ⟨512 + j1.val, by omega⟩ := funext fun a => Fin.ext (by
        fin_cases a
        · exact (congrArg (32 * (r % 16) + ·) (Nat.one_mul _)).trans (by rw [Nat.mod_eq_of_lt (by omega)]; rfl)
        · exact congrArg (512 + ·) (Nat.one_mul _))
      rw [e]
      refine (payB_apply _ _ _ _ j0 j1).trans ?_
      have hv : ∀ k : Fin 512, taps (fun k => View.readAt (Elt Ideal) arg5.view (r31 k).toLoadRect (harg5.unread x3))
          (fun k => View.readAt (Elt Ideal) arg17.view (r544 (32 * r + 2 + k)).toLoadRect fg) 30 (ix2 j0 k)
          = conv (fun i => (wts x1 x2 x3 x4 x5 x6 x7 x8 x9).cb i k) (fun i => bg (32 * r + j0.val + 2 + i) k) 30 := fun k => by
        rw [taps_apply]
        refine conv_congr 30 (fun i _ => wb_apply arg5 harg5 x1 x2 x3 x4 x5 x6 x7 x8 x9 i k) fun i hi => ?_
        rw [hg _ (by omega)]
        exact congrArg (bg · k) (by omega)
      simp only [hv]
      exact (mixed_hi (wts x1 x2 x3 x4 x5 x6 x7 x8 x9) _ _ _ j1 _ rfl).symm
    · change S32x512.Idx at j
      idx_vars j
      have e : (rYa r).emb (ix2 j0 j1) = ix2 ⟨32 * r + j0.val, by omega⟩ ⟨j1.val, by omega⟩ := funext fun a => Fin.ext (by
        fin_cases a
        · exact (congrArg (32 * (r % 16) + ·) (Nat.one_mul _)).trans (by rw [Nat.mod_eq_of_lt (by omega)]; rfl)
        · exact (Nat.zero_add _).trans (Nat.one_mul _))
      rw [e]
      refine (payA_apply _ _ j0 j1).trans ?_
      rw [taps_apply, uRow_apply arg2 harg2 arg3 harg3 arg15 x0 x1 x2 x3 x4 x5 x6 x7 x8 x9]
      have e2 : (⟨32 * (r % 16) + j0.val, by omega⟩ : Fin 512) = ⟨32 * r + j0.val, by omega⟩ :=
        Fin.ext (by show 32 * (r % 16) + j0.val = 32 * r + j0.val; rw [Nat.mod_eq_of_lt (by omega)])
      rw [e2]
      refine Eq.trans ?_ (mixed_lo (wts x1 x2 x3 x4 x5 x6 x7 x8 x9) _ _ _ j1 _ rfl).symm
      refine congrArg (_ * ·) (conv_congr 2 (fun i _ => wa_apply arg4 harg4 x1 x2 x3 x4 x5 x6 x7 x8 x9 i j1) fun i hi => ?_)
      rw [hc _ (by omega)]
      exact congrArg (bc · j1) (by show 32 * r + 30 + i + j0.val = 32 * r + j0.val + 30 + i; omega)

theorem out_canon (r : Fin 512) (j : Fin 1024) :
    View.canon (outPcs arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9 fc fg) (ix3 0 r j)
      = rowOut (wts x1 x2 x3 x4 x5 x6 x7 x8 x9) (xrow x0 r) (fun k => bc (r.val + 30 + k)) (fun k => bg (r.val + 2 + k)) j := by
  unfold outPcs
  rw [View.canon_cons_unit_lit _ _ _ (by decide), rd_all, rd_all, rd_all, rd_all, payOut_apply]
  have hy : ∀ e : Fin 1024, View.readAt (Elt Ideal) arg18.view (Rect.unit (s := S512x1024) ![0, 0] S512x1024.size inb_S512x1024_S512x1024_0_0).toLoadRect
        (arg18.view.writes (Elt Ideal) arg18.view.junk
          (mixPcs arg2 harg2 arg3 harg3 arg4 harg4 arg5 harg5 arg6 harg6 arg7 harg7 arg8 harg8 arg15 arg16 arg17 x0 x1 x2 x3 x4 x5 x6 fc fg)) (ix2 r e)
      = mixed (wts x1 x2 x3 x4 x5 x6 x7 x8 x9) (xrow x0 r) (fun k => bc (r.val + 30 + k)) (fun k => bg (r.val + 2 + k)) e := fun e => by
    rw [View.readAt_writes_junk_eq_canon]
    refine Eq.trans (congrArg (View.canon _) ?_) (mix_canon arg2 harg2 arg3 harg3 arg4 harg4 arg5 harg5 arg6 harg6 arg7 harg7 arg8 harg8 arg15 arg16 arg17
      x0 x1 x2 x3 x4 x5 x6 x7 x8 x9 bc bg fc fg hc hg (ix2 r e))
    funext a
    apply Fin.ext
    fin_cases a <;> exact (Nat.zero_add _).trans (Nat.one_mul _)
  simp only [hy]
  rfl

omit hc hg

/-- The first sequence's buffer after the point. -/
theorem cPcs_canon (halo : Vec Ideal S32x512 .f32) (hH : ∀ (i : Fin 32) (c : Fin 512), halo (ix2 i c) = bc i.val c)
    (hM : ∀ r c : Fin 512, seqA (wts x1 x2 x3 x4 x5 x6 x7 x8 x9) (xrow x0 r) c = bc (32 + r.val) c) (y : S544x512.Idx) :
    View.canon (cPcs arg2 harg2 arg3 harg3 arg15 x0 x1 halo) y = bc (y 0).val (y 1) := by
  unfold cPcs
  refine buf_canon bc _ halo hH (fun r c => ?_) y
  rw [pay8_apply, uSec_apply arg2 harg2 arg3 harg3 arg15 x0 x1 x2 x3 x4 x5 x6 x7 x8 x9,
    uSec_apply arg2 harg2 arg3 harg3 arg15 x0 x1 x2 x3 x4 x5 x6 x7 x8 x9]
  exact hM r c

/-- The second sequence's buffer after the point. -/
theorem gPcs_canon (halo : Vec Ideal S32x512 .f32) (hH : ∀ (i : Fin 32) (c : Fin 512), halo (ix2 i c) = bg i.val c)
    (hM : ∀ r c : Fin 512, seqB (wts x1 x2 x3 x4 x5 x6 x7 x8 x9) (xrow x0 r) c = bg (32 + r.val) c) (y : S544x512.Idx) :
    View.canon (gPcs arg2 harg2 arg3 harg3 arg15 x0 x1 halo) y = bg (y 0).val (y 1) := by
  unfold gPcs
  refine buf_canon bg _ halo hH (fun r c => ?_) y
  rw [pay9_apply, uSec_apply arg2 harg2 arg3 harg3 arg15 x0 x1 x2 x3 x4 x5 x6 x7 x8 x9,
    uSec_apply arg2 harg2 arg3 harg3 arg15 x0 x1 x2 x3 x4 x5 x6 x7 x8 x9]
  exact hM r c

theorem tail_apply (a : Memref sig .tc .vmem S544x512 .f32) (ha : a.IsWhole) (x : Vec Ideal S544x512 .f32) (i : Fin 32) (c : Fin 512) :
    tail a ha x (ix2 i c) = x (ix2 ⟨512 + i.val, by omega⟩ c) := by
  refine (congrFun (ha.read_unread x) _).trans (congrArg x (funext fun a => Fin.ext ?_))
  fin_cases a
  · exact congrArg (512 + ·) (Nat.one_mul _)
  · exact (Nat.zero_add _).trans (Nat.one_mul _)

end reads

end Cert.Even
-- ==== Proof.EvenPoint.lean ====
/-
  What one grid point of the convolution mixer's kernel leaves: the output's rows and the two sequences' buffers.
-/
module

public import proofs.«01_k».proof.Proof.EvenVals

@[expose] public section

set_option maxRecDepth 16384

noncomputable section

namespace Cert.Even

open Idealize.ShloMosaic Idealize.ShloMosaic.TcCoe Idealize.SL.Sem
open Cert.Kernel4Ideal Cert.Kernel4Ideal.Gen

/-- The last 32 rows of a buffer. -/
theorem halo_lt (i : Fin 32) : 512 + i.val < 544 := by omega

variable (c : Dev nD) (i : grid0.Coords) (arg2 : Memref sig .tc .vmem S1x512x1024 .f32) (harg2 : arg2.IsWhole) (arg3 : Memref sig .tc .vmem S1024x2560 .bf16) (harg3 : arg3.IsWhole) (arg4 : Memref sig .tc .vmem S3x512 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x512x1024 .f32) (harg13 : arg13.IsWhole) (arg14 : Memref sig .tc .vmem S1x512x128 .f32) (harg14 : arg14.IsWhole) (arg15 : Memref sig .tc .vmem S512x2560 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x1024 .bf16) (harg18 : arg18.IsWhole)
  (x0 : Vec Ideal S1x512x1024 .f32) (x1 : Vec Ideal S1024x2560 .bf16) (x2 : Vec Ideal S3x512 .f32) (x3 : Vec Ideal S31x512 .f32) (x4 : Vec Ideal S1x512 .f32) (x5 : Vec Ideal S1x512 .f32) (x6 : Vec Ideal S1x512 .f32) (x7 : Vec Ideal S1024x1024 .bf16) (x8 : Vec Ideal S1x1024 .f32) (x9 : Vec Ideal S1x1024 .f32) (x10 : Vec Ideal S1024x256 .bf16) (xs1 : Vec Ideal S544x512 .f32) (xs2 : Vec Ideal S544x512 .f32)

variable (bc bg : ℕ → Fin 512 → EReal)
  (hA : ∀ r c : Fin 512, seqA (wts x1 x2 x3 x4 x5 x6 x7 x8 x9) (xrow x0 r) c = bc (32 + r.val) c)
  (hB : ∀ r c : Fin 512, seqB (wts x1 x2 x3 x4 x5 x6 x7 x8 x9) (xrow x0 r) c = bg (32 + r.val) c)

section caseA

variable (hc0 : cond0_0 i) (hc1 : ¬cond0_1 i)
  (hC : ∀ q < 32, ∀ c, bc q c = 0) (hG : ∀ q < 32, ∀ c, bg q c = 0)

include hA hC in
/-- At a batch row's first point: the first sequence's buffer. -/
theorem cA (y : S544x512.Idx) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 y = bc (y 0).val (y 1) := by
  unfold sout0_A_1
  rw [View.read_writes_junk_eq_canon, piecesA_c]
  exact cPcs_canon arg2 harg2 arg3 harg3 arg15 x0 x1 x2 x3 x4 x5 x6 x7 x8 x9 bc _ (fun i c => (pay4_apply i c).trans (hC i.val i.isLt c).symm) hA y

include hB hG in
/-- At a batch row's first point: the second sequence's buffer. -/
theorem gA (y : S544x512.Idx) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 y = bg (y 0).val (y 1) := by
  unfold sout0_A_2
  rw [View.read_writes_junk_eq_canon, piecesA_g]
  exact gPcs_canon arg2 harg2 arg3 harg3 arg15 x0 x1 x2 x3 x4 x5 x6 x7 x8 x9 bg _ (fun i c => (pay5_apply i c).trans (hG i.val i.isLt c).symm) hB y

include hA hB hC hG in
/-- At a batch row's first point: the output's rows. -/
theorem outA (r : Fin 512) (j : Fin 1024) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix3 0 r j)
    = rowOut (wts x1 x2 x3 x4 x5 x6 x7 x8 x9) (xrow x0 r) (fun k => bc (r.val + 30 + k)) (fun k => bg (r.val + 2 + k)) j := by
  unfold out0_A_11
  rw [View.read_writes_junk_eq_canon, piecesA_out]
  exact out_canon arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9 bc bg _ _
    (buf_read bc arg16 _ (cPcs_canon arg2 harg2 arg3 harg3 arg15 x0 x1 x2 x3 x4 x5 x6 x7 x8 x9 bc _ (fun i c => (pay4_apply i c).trans (hC i.val i.isLt c).symm) hA))
    (buf_read bg arg17 _ (gPcs_canon arg2 harg2 arg3 harg3 arg15 x0 x1 x2 x3 x4 x5 x6 x7 x8 x9 bg _ (fun i c => (pay5_apply i c).trans (hG i.val i.isLt c).symm) hB)) r j

end caseA

section caseB

variable (hc0 : ¬cond0_0 i) (hc1 : cond0_1 i)
  (hC : ∀ (i : Fin 32) (c : Fin 512), xs1 (ix2 ⟨512 + i.val, halo_lt i⟩ c) = bc i.val c)
  (hG : ∀ (i : Fin 32) (c : Fin 512), xs2 (ix2 ⟨512 + i.val, halo_lt i⟩ c) = bg i.val c)

include hA hC in
/-- At its later points: the first sequence's buffer. -/
theorem cB (y : S544x512.Idx) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2 y = bc (y 0).val (y 1) := by
  unfold sout0_B_1
  rw [View.read_writes_junk_eq_canon, piecesB_c]
  exact cPcs_canon arg2 harg2 arg3 harg3 arg15 x0 x1 x2 x3 x4 x5 x6 x7 x8 x9 bc _ (fun i c => by rw [pay6_eq, tail_apply]; exact hC i c) hA y

include hB hG in
/-- At its later points: the second sequence's buffer. -/
theorem gB (y : S544x512.Idx) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2 y = bg (y 0).val (y 1) := by
  unfold sout0_B_2
  rw [View.read_writes_junk_eq_canon, piecesB_g]
  exact gPcs_canon arg2 harg2 arg3 harg3 arg15 x0 x1 x2 x3 x4 x5 x6 x7 x8 x9 bg _ (fun i c => by rw [pay7_eq, tail_apply]; exact hG i c) hB y

include hA hB hC hG in
/-- At its later points: the output's rows. -/
theorem outB (r : Fin 512) (j : Fin 1024) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2 (ix3 0 r j)
    = rowOut (wts x1 x2 x3 x4 x5 x6 x7 x8 x9) (xrow x0 r) (fun k => bc (r.val + 30 + k)) (fun k => bg (r.val + 2 + k)) j := by
  unfold out0_B_11
  rw [View.read_writes_junk_eq_canon, piecesB_out]
  exact out_canon arg2 harg2 arg3 harg3 arg4 harg4 arg5 harg5 arg6 harg6 arg7 harg7 arg8 harg8 arg9 harg9 arg10 harg10 arg11 harg11 arg15 arg16 arg17 arg18 x0 x1 x2 x3 x4 x5 x6 x7 x8 x9 bc bg _ _
    (buf_read bc arg16 _ (cPcs_canon arg2 harg2 arg3 harg3 arg15 x0 x1 x2 x3 x4 x5 x6 x7 x8 x9 bc _ (fun i c => by rw [pay6_eq, tail_apply]; exact hC i c) hA))
    (buf_read bg arg17 _ (gPcs_canon arg2 harg2 arg3 harg3 arg15 x0 x1 x2 x3 x4 x5 x6 x7 x8 x9 bg _ (fun i c => by rw [pay7_eq, tail_apply]; exact hG i c) hB)) r j

end caseB

end Cert.Even
-- ==== Proof.EvenRef.lean ====
/-
  The convolution mixer's reference, index by index.
-/
module

public import proofs.«01_k».proof.Proof.Gen.Reference4Ideal.Run
public import proofs.«01_k».proof.Proof.EvenMath
public import Idealize.ShloMosaic.Lib.Pointwise
public import Idealize.ShloMosaic.Lib.Tactic.CleanTypes

@[expose] public section

set_option maxRecDepth 16384

noncomputable section

namespace Cert.Even.Ref

open Idealize.ShloMosaic Idealize.ShloMosaic.TcCoe Idealize.SL.Sem
open Cert.Reference4Ideal Cert.Reference4Ideal.Gen Cert.Reference4Ideal.Value

/-- The arguments. -/
structure Args where
  x : Vec Ideal S32x2048x1024 .f32
  win : Vec Ideal S1024x2560 .f32
  ca : Vec Ideal S3x512 .f32
  cb : Vec Ideal S31x512 .f32
  bias : Vec Ideal S512 .f32
  ng : Vec Ideal S512 .f32
  nb : Vec Ideal S512 .f32
  wout : Vec Ideal S1024x1024 .f32
  g : Vec Ideal S1024 .f32
  b : Vec Ideal S1024 .f32

variable (A : Args)

/-- Their weights. -/
def Args.W : Weights where
  win k j := A.win (ix2 k j)
  ca k c := A.ca (ix2 ⟨k % 3, by omega⟩ c)
  cb k c := A.cb (ix2 ⟨k % 31, by omega⟩ c)
  bias c := A.bias (ix1 c)
  ng c := A.ng (ix1 c)
  nb c := A.nb (ix1 c)
  wout e k := A.wout (ix2 e k)
  g k := A.g (ix1 k)
  b k := A.b (ix1 k)

/-- Their rows. -/
def Args.X (b : Fin 32) (t : Fin 2048) (k : Fin 1024) : EReal := A.x (ix3 b t k)

variable (V0 : Valuation τ sig (Elt Ideal))

/-- The reference's arguments are `A`. -/
structure Holds : Prop where
  h0 : V0 (Proc.devRef .tc main_arg0) = A.x
  h1 : V0 (Proc.devRef .tc main_arg1) = A.win
  h2 : V0 (Proc.devRef .tc main_arg2) = A.ca
  h3 : V0 (Proc.devRef .tc main_arg3) = A.cb
  h4 : V0 (Proc.devRef .tc main_arg4) = A.bias
  h5 : V0 (Proc.devRef .tc main_arg5) = A.ng
  h6 : V0 (Proc.devRef .tc main_arg6) = A.nb
  h7 : V0 (Proc.devRef .tc main_arg7) = A.wout
  h8 : V0 (Proc.devRef .tc main_arg8) = A.g
  h9 : V0 (Proc.devRef .tc main_arg9) = A.b

/-- The padding is 0. -/
theorem zero_bits : (FloatOps.sitofp (F := Ideal) .f32 0#32 : EReal) = 0 := by
  show ((((0#32 : BitVec 32).toInt : ℤ) : ℝ) : EReal) = 0
  simp

theorem sum_halves (f : Fin 1024 → EReal) :
    ∑ e, f e = ∑ c : Fin 512, f ⟨c.val, by omega⟩ + ∑ c : Fin 512, f ⟨512 + c.val, by omega⟩ :=
  Fin.sum_univ_add (a := 512) (b := 512) f

variable {A V0} (H : Holds A V0)
include H

theorem v2_apply (b : Fin 32) (t : Fin 2048) (j : Fin 2560) :
    res_main_v2 V0 (ix3 b t j) = proj A.W (A.X b t) j := by
  unfold res_main_v2
  rw [H.h0, H.h1]
  clean_types
  pointwise [proj, Args.W, Args.X]

theorem v9_apply (b : Fin 32) (p : Fin 2050) (c : Fin 512) :
    res_main_v9 V0 (ix3 b p c) = ext (sA A.W A.X b) (p.val + 30) c := by
  have h2 := v2_apply H
  unfold res_main_v9
  generalize res_main_v2 V0 = u at h2 ⊢
  clean_types
  pointwise []
  by_cases h : p.val < 2
  · rw [dif_neg (by omega), ext_zero _ _ (by omega), zero_bits]
  · have e : p.val + 30 = 32 + (⟨p.val - 2, by omega⟩ : Fin 2048).val := by show _ = 32 + (p.val - 2); omega
    rw [dif_pos ⟨by omega, by omega⟩, h2, h2, e, ext_add, sA_apply, seqA]

theorem v38_apply (b : Fin 32) (p : Fin 2078) (c : Fin 512) :
    res_main_v38 V0 (ix3 b p c) = ext (sB A.W A.X b) (p.val + 2) c := by
  have h2 := v2_apply H
  unfold res_main_v38
  generalize res_main_v2 V0 = u at h2 ⊢
  clean_types
  pointwise []
  by_cases h : p.val < 30
  · rw [dif_neg (by omega), ext_zero _ _ (by omega), zero_bits]
  · have e : p.val + 2 = 32 + (⟨p.val - 30, by omega⟩ : Fin 2048).val := by show _ = 32 + (p.val - 30); omega
    rw [dif_pos ⟨by omega, by omega⟩, h2, h2, e, ext_add, sB_apply, seqB]
    rfl

theorem v38_tap (b : Fin 32) (t : Fin 2048) (c : Fin 512) (k : ℕ) (h : k + t.val < 2078) :
    res_main_v38 V0 (ix3 b ⟨k + t.val, h⟩ c) = ext (sB A.W A.X b) (t.val + 2 + k) c := by
  rw [v38_apply H]
  exact congrArg (ext _ · c) (by show k + t.val + 2 = _; omega)

theorem v9_tap (b : Fin 32) (t : Fin 2048) (c : Fin 512) (k : ℕ) (h : k + t.val < 2050) :
    res_main_v9 V0 (ix3 b ⟨k + t.val, h⟩ c) = ext (sA A.W A.X b) (t.val + 30 + k) c := by
  rw [v9_apply H]
  exact congrArg (ext _ · c) (by show k + t.val + 30 = _; omega)

theorem v257_apply (b : Fin 32) (t : Fin 2048) (c : Fin 512) : res_main_v257 V0 (ix3 b t c)
    = conv (fun k => A.W.cb k c) (fun k => ext (sB A.W A.X b) (t.val + 2 + k) c) 30 + A.W.bias c := by
  have h38 := v38_tap H b t c
  have h0 := v38_apply H b ⟨t.val, by omega⟩ c
  unfold res_main_v257 res_main_v191 res_main_v114
  generalize res_main_v38 V0 = u at h38 h0 ⊢
  rw [H.h3, H.h4]
  clean_types
  pointwise []
  simp only [h38, h0]
  rfl

theorem v261_apply (b : Fin 32) (t : Fin 2048) : res_main_v261 V0 (ix3 b t 0)
    = Norm.mean (Ideal.ofBits .f32 0x44000000#32) fun c => res_main_v257 V0 (ix3 b t c) := by
  unfold res_main_v261
  generalize res_main_v257 V0 = u
  clean_types
  pointwise [Norm.mean]

theorem v263_apply (b : Fin 32) (t : Fin 2048) (c : Fin 512) : res_main_v263 V0 (ix3 b t c)
    = HSub.hSub (α := EReal) (β := EReal) (γ := EReal) (res_main_v257 V0 (ix3 b t c))
      (Norm.mean (Ideal.ofBits .f32 0x44000000#32) fun c => res_main_v257 V0 (ix3 b t c)) := by
  rw [← v261_apply H]
  unfold res_main_v263
  generalize res_main_v257 V0 = u
  generalize res_main_v261 V0 = v
  clean_types
  pointwise []

theorem v281_apply (b : Fin 32) (t : Fin 2048) (c : Fin 512) : res_main_v281 V0 (ix3 b t c)
    = normB A.W (fun k => ext (sB A.W A.X b) (t.val + 2 + k)) c := by
  have h1 := v261_apply H b t
  have h3 := v263_apply H b t
  have h7 := v257_apply H b t
  unfold res_main_v281
  generalize res_main_v257 V0 = u at h1 h3 h7 ⊢
  generalize res_main_v261 V0 = v at h1 h3 ⊢
  generalize res_main_v263 V0 = w at h3 ⊢
  rw [H.h5, H.h6]
  clean_types
  pointwise []
  simp only [h3, h1, h7]
  rfl

theorem v289_apply (b : Fin 32) (t : Fin 2048) (j : Fin 1024) : res_main_v289 V0 (ix3 b t j)
    = Ideal.ofBits .f32 0x3FD744FD#32 * A.X b t j + ∑ e, mixed A.W (A.X b t) (fun k => ext (sA A.W A.X b) (t.val + 30 + k))
      (fun k => ext (sB A.W A.X b) (t.val + 2 + k)) e * A.W.wout e j := by
  have h2 := v2_apply H b t
  have h9 := fun c => v9_tap H b t c
  have h0 := fun c => v9_apply H b ⟨t.val, by omega⟩ c
  have h1 := v281_apply H b t
  unfold res_main_v289
  generalize res_main_v2 V0 = u at h2 ⊢
  generalize res_main_v9 V0 = v at h9 h0 ⊢
  generalize res_main_v281 V0 = w at h1 ⊢
  rw [H.h0, H.h2, H.h7]
  clean_types
  pointwise []
  rw [sum_halves fun e => mixed A.W (A.X b t) _ _ e * A.W.wout e j]
  refine congrArg (Ideal.ofBits .f32 0x3FD744FD#32 * A.x (ix3 b t j) + ·) (congrArg₂ (· + ·) ?_ ?_)
  · refine Finset.sum_congr rfl fun c _ => ?_
    rw [mixed_lo _ _ _ _ c ⟨c.val, by omega⟩ rfl, h2, h0, h9, h9]
    rfl
  · refine Finset.sum_congr rfl fun c _ => ?_
    rw [mixed_hi _ _ _ _ c ⟨512 + c.val, by omega⟩ rfl, h1]
    rfl

theorem v293_apply (b : Fin 32) (t : Fin 2048) : res_main_v293 V0 (ix3 b t 0)
    = Norm.mean (Ideal.ofBits .f32 0x44800000#32) fun c => res_main_v289 V0 (ix3 b t c) := by
  unfold res_main_v293
  generalize res_main_v289 V0 = u
  clean_types
  pointwise [Norm.mean]

theorem v295_apply (b : Fin 32) (t : Fin 2048) (c : Fin 1024) : res_main_v295 V0 (ix3 b t c)
    = HSub.hSub (α := EReal) (β := EReal) (γ := EReal) (res_main_v289 V0 (ix3 b t c))
      (Norm.mean (Ideal.ofBits .f32 0x44800000#32) fun c => res_main_v289 V0 (ix3 b t c)) := by
  rw [← v293_apply H]
  unfold res_main_v295
  generalize res_main_v289 V0 = u
  generalize res_main_v293 V0 = v
  clean_types
  pointwise []

/-- The reference's result. -/
theorem res_apply (j : S32x2048x1024.Idx) :
    addf (mulf (mulf (subf (res_main_v289 V0) (broadcastInDim S32x2048x1024 ![0, 1, 2] bcast_S32x2048x1_S32x2048x1024_0_1_2 (res_main_v293 V0))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (res_main_v295 V0) (res_main_v295 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 A.g))) (broadcastInDim S32x2048x1024 ![0, 1, 2] bcast_S1x1x1024_S32x2048x1024_0_1_2 (broadcastInDim S1x1x1024 ![2] bcast_S1024_S1x1x1024_2 A.b)) j
      = outAt A.W A.X (j 0) (j 1) (j 2) := by
  idx_vars j
  have h1 := v293_apply H j0 j1
  have h3 := v295_apply H j0 j1
  have h7 := v289_apply H j0 j1
  generalize res_main_v289 V0 = u at h1 h3 h7 ⊢
  generalize res_main_v293 V0 = v at h1 h3 ⊢
  generalize res_main_v295 V0 = w at h3 ⊢
  clean_types
  pointwise []
  simp only [h3, h1, h7]
  rfl

end Cert.Even.Ref
-- ==== Proof.Even.lean ====
/-
  The convolution mixer: block by block the kernel writes the rows of the reference's array. The last 32 rows of each
  sequence's buffer are carried from a point to the next one of its batch row.
-/
module

public import proofs.«01_k».proof.Proof.EvenPoint
public import proofs.«01_k».proof.Proof.EvenRef
public import proofs.«01_k».proof.Proof.Gen.Kernel4Ideal.Value
public import proofs.«01_k».proof.Defs
public import Idealize.ShloMosaic.Lib.Claim
public import Idealize.ShloMosaic.Lib.Pipeline.ValueKit
public import Idealize.ShloMosaic.Lib.Pipeline.ReadBack

@[expose] public section

set_option maxRecDepth 16384

noncomputable section

namespace Cert.Even

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The launch's arguments. -/
def args : Ref.Args where
  x := m ((c : Thread nD τ).loc main_arg0)
  win := m ((c : Thread nD τ).loc main_arg1)
  ca := m ((c : Thread nD τ).loc main_arg2)
  cb := m ((c : Thread nD τ).loc main_arg3)
  bias := m ((c : Thread nD τ).loc main_arg4)
  ng := m ((c : Thread nD τ).loc main_arg5)
  nb := m ((c : Thread nD τ).loc main_arg6)
  wout := m ((c : Thread nD τ).loc main_arg7)
  g := m ((c : Thread nD τ).loc main_arg8)
  b := m ((c : Thread nD τ).loc main_arg9)

theorem t_lt (t : Fin cfg0.N) : t.val < 128 := lt_of_lt_of_eq t.isLt N_0

/-- A point's batch row. -/
def brow (t : Fin cfg0.N) : Fin 32 := ⟨t.val / 4, by have := t_lt t; omega⟩

/-- The position of row `r` of a point's block. -/
def pos (t : Fin cfg0.N) (r : Fin 512) : Fin 2048 := ⟨512 * (t.val % 4) + r.val, by omega⟩

theorem xrow_eq (t : Fin cfg0.N) (r : Fin 512) :
    xrow (iblk m c 0 t) r = (args m c).X (brow t) (pos t r) := by
  have h0 : win0_0.index t = ![t.val / 4, t.val % 4, 0] :=
    (by decide +kernel : ∀ t : Fin grid0.N, win0_0.index t = ![t.val / 4, t.val % 4, 0]) t
  have e0 : ∀ k : Fin 1024, (win0_0.blk t).view.emb (ix3 0 r k) = ix3 (brow t) (pos t r) k := fun k => by
    funext a; apply Fin.ext
    fin_cases a <;> blk_simp [h0, brow, pos] <;> simp [brow, pos, Nat.mul_comm]
  have x0 : V m c main_arg0 = m ((c : Thread nD τ).loc main_arg0) := V_main_arg0 m c
  funext k
  exact (congrFun x0 _).trans (congrArg _ (e0 k))

theorem wts_eq (t : Fin cfg0.N) : wts (iblk m c 1 t) (iblk m c 2 t) (iblk m c 3 t) (iblk m c 4 t) (iblk m c 5 t)
    (iblk m c 6 t) (iblk m c 7 t) (iblk m c 8 t) (iblk m c 9 t) = (args m c).W := by
  have i1 : win0_1.index t = ![0, 0] := (by decide +kernel : ∀ t : Fin grid0.N, win0_1.index t = ![0, 0]) t
  have i2 : win0_2.index t = ![0, 0] := (by decide +kernel : ∀ t : Fin grid0.N, win0_2.index t = ![0, 0]) t
  have i3 : win0_3.index t = ![0, 0] := (by decide +kernel : ∀ t : Fin grid0.N, win0_3.index t = ![0, 0]) t
  have i4 : win0_4.index t = ![0, 0] := (by decide +kernel : ∀ t : Fin grid0.N, win0_4.index t = ![0, 0]) t
  have i5 : win0_5.index t = ![0, 0] := (by decide +kernel : ∀ t : Fin grid0.N, win0_5.index t = ![0, 0]) t
  have i6 : win0_6.index t = ![0, 0] := (by decide +kernel : ∀ t : Fin grid0.N, win0_6.index t = ![0, 0]) t
  have i7 : win0_7.index t = ![0, 0] := (by decide +kernel : ∀ t : Fin grid0.N, win0_7.index t = ![0, 0]) t
  have i8 : win0_8.index t = ![0, 0] := (by decide +kernel : ∀ t : Fin grid0.N, win0_8.index t = ![0, 0]) t
  have i9 : win0_9.index t = ![0, 0] := (by decide +kernel : ∀ t : Fin grid0.N, win0_9.index t = ![0, 0]) t
  have w1 : V m c main_v0 = m ((c : Thread nD τ).loc main_arg1) := by
    show StableHlo.after hostOps0 _ _ = _
    after_results
    rfl
  have w4 : ∀ k : Fin 512, V m c main_v1 (ix2 0 k) = m ((c : Thread nD τ).loc main_arg4) (ix1 k) := fun k => by
    show StableHlo.after hostOps0 _ _ _ = _
    after_results
    clean_types
    pointwise []
  have w5 : ∀ k : Fin 512, V m c main_v2 (ix2 0 k) = m ((c : Thread nD τ).loc main_arg5) (ix1 k) := fun k => by
    show StableHlo.after hostOps0 _ _ _ = _
    after_results
    clean_types
    pointwise []
  have w6 : ∀ k : Fin 512, V m c main_v3 (ix2 0 k) = m ((c : Thread nD τ).loc main_arg6) (ix1 k) := fun k => by
    show StableHlo.after hostOps0 _ _ _ = _
    after_results
    clean_types
    pointwise []
  have w7 : V m c main_v4 = m ((c : Thread nD τ).loc main_arg7) := by
    show StableHlo.after hostOps0 _ _ = _
    after_results
    rfl
  have w8 : ∀ k : Fin 1024, V m c main_v5 (ix2 0 k) = m ((c : Thread nD τ).loc main_arg8) (ix1 k) := fun k => by
    show StableHlo.after hostOps0 _ _ _ = _
    after_results
    clean_types
    pointwise []
  have w9 : ∀ k : Fin 1024, V m c main_v6 (ix2 0 k) = m ((c : Thread nD τ).loc main_arg9) (ix1 k) := fun k => by
    show StableHlo.after hostOps0 _ _ _ = _
    after_results
    clean_types
    pointwise []
  have x2 : V m c main_arg2 = m ((c : Thread nD τ).loc main_arg2) := V_main_arg2 m c
  have x3 : V m c main_arg3 = m ((c : Thread nD τ).loc main_arg3) := V_main_arg3 m c
  have e1 : ∀ k l, (win0_1.blk t).view.emb (ix2 k l) = ix2 k l := fun k l => by
    funext a; apply Fin.ext
    fin_cases a <;> blk_simp [i1] <;> simp
  have e2 : ∀ k l, (win0_2.blk t).view.emb (ix2 k l) = ix2 k l := fun k l => by
    funext a; apply Fin.ext
    fin_cases a <;> blk_simp [i2] <;> simp
  have e3 : ∀ k l, (win0_3.blk t).view.emb (ix2 k l) = ix2 k l := fun k l => by
    funext a; apply Fin.ext
    fin_cases a <;> blk_simp [i3] <;> simp
  have e4 : ∀ l, (win0_4.blk t).view.emb (ix2 0 l) = ix2 0 l := fun l => by
    funext a; apply Fin.ext
    fin_cases a <;> blk_simp [i4] <;> simp
  have e5 : ∀ l, (win0_5.blk t).view.emb (ix2 0 l) = ix2 0 l := fun l => by
    funext a; apply Fin.ext
    fin_cases a <;> blk_simp [i5] <;> simp
  have e6 : ∀ l, (win0_6.blk t).view.emb (ix2 0 l) = ix2 0 l := fun l => by
    funext a; apply Fin.ext
    fin_cases a <;> blk_simp [i6] <;> simp
  have e7 : ∀ k l, (win0_7.blk t).view.emb (ix2 k l) = ix2 k l := fun k l => by
    funext a; apply Fin.ext
    fin_cases a <;> blk_simp [i7] <;> simp
  have e8 : ∀ l, (win0_8.blk t).view.emb (ix2 0 l) = ix2 0 l := fun l => by
    funext a; apply Fin.ext
    fin_cases a <;> blk_simp [i8] <;> simp
  have e9 : ∀ l, (win0_9.blk t).view.emb (ix2 0 l) = ix2 0 l := fun l => by
    funext a; apply Fin.ext
    fin_cases a <;> blk_simp [i9] <;> simp
  have f1 : ∀ k l, iblk m c 1 t (ix2 k l) = m ((c : Thread nD τ).loc main_arg1) (ix2 k l) :=
    fun k l => (congrFun w1 _).trans (congrArg _ (e1 k l))
  have f2 : ∀ k l, iblk m c 2 t (ix2 k l) = m ((c : Thread nD τ).loc main_arg2) (ix2 k l) :=
    fun k l => (congrFun x2 _).trans (congrArg _ (e2 k l))
  have f3 : ∀ k l, iblk m c 3 t (ix2 k l) = m ((c : Thread nD τ).loc main_arg3) (ix2 k l) :=
    fun k l => (congrFun x3 _).trans (congrArg _ (e3 k l))
  have f4 : ∀ k, iblk m c 4 t (ix2 0 k) = m ((c : Thread nD τ).loc main_arg4) (ix1 k) :=
    fun k => (congrArg (V m c main_v1) (e4 k)).trans (w4 k)
  have f5 : ∀ k, iblk m c 5 t (ix2 0 k) = m ((c : Thread nD τ).loc main_arg5) (ix1 k) :=
    fun k => (congrArg (V m c main_v2) (e5 k)).trans (w5 k)
  have f6 : ∀ k, iblk m c 6 t (ix2 0 k) = m ((c : Thread nD τ).loc main_arg6) (ix1 k) :=
    fun k => (congrArg (V m c main_v3) (e6 k)).trans (w6 k)
  have f7 : ∀ k l, iblk m c 7 t (ix2 k l) = m ((c : Thread nD τ).loc main_arg7) (ix2 k l) :=
    fun k l => (congrFun w7 _).trans (congrArg _ (e7 k l))
  have f8 : ∀ k, iblk m c 8 t (ix2 0 k) = m ((c : Thread nD τ).loc main_arg8) (ix1 k) :=
    fun k => (congrArg (V m c main_v5) (e8 k)).trans (w8 k)
  have f9 : ∀ k, iblk m c 9 t (ix2 0 k) = m ((c : Thread nD τ).loc main_arg9) (ix1 k) :=
    fun k => (congrArg (V m c main_v6) (e9 k)).trans (w9 k)
  unfold wts Ref.Args.W args
  congr 1
  · exact funext fun k => funext fun l => f1 k l
  · exact funext fun k => funext fun l => f2 _ l
  · exact funext fun k => funext fun l => f3 _ l
  · exact funext fun k => f4 k
  · exact funext fun k => f5 k
  · exact funext fun k => f6 k
  · exact funext fun k => funext fun l => f7 k l
  · exact funext fun k => f8 k
  · exact funext fun k => f9 k

/-- The first sequence's buffer at point `n`. -/
def bufA (n : ℕ) (hn : n < cfg0.N) (q : ℕ) : Fin 512 → EReal :=
  ext (sA (args m c).W (args m c).X (brow ⟨n, hn⟩)) (512 * (n % 4) + q)

/-- The second sequence's buffer at point `n`. -/
def bufB (n : ℕ) (hn : n < cfg0.N) (q : ℕ) : Fin 512 → EReal :=
  ext (sB (args m c).W (args m c).X (brow ⟨n, hn⟩)) (512 * (n % 4) + q)

theorem bufA_new (t : Fin cfg0.N) (r k : Fin 512) :
    seqA (wts (iblk m c 1 t) (iblk m c 2 t) (iblk m c 3 t) (iblk m c 4 t) (iblk m c 5 t) (iblk m c 6 t) (iblk m c 7 t)
      (iblk m c 8 t) (iblk m c 9 t)) (xrow (iblk m c 0 t) r) k = bufA m c t.val t.isLt (32 + r.val) k := by
  have e : 512 * (t.val % 4) + (32 + r.val) = 32 + (pos t r).val := by show _ = 32 + (512 * (t.val % 4) + r.val); omega
  rw [wts_eq, xrow_eq, bufA, e, ext_add, sA_apply]

theorem bufB_new (t : Fin cfg0.N) (r k : Fin 512) :
    seqB (wts (iblk m c 1 t) (iblk m c 2 t) (iblk m c 3 t) (iblk m c 4 t) (iblk m c 5 t) (iblk m c 6 t) (iblk m c 7 t)
      (iblk m c 8 t) (iblk m c 9 t)) (xrow (iblk m c 0 t) r) k = bufB m c t.val t.isLt (32 + r.val) k := by
  have e : 512 * (t.val % 4) + (32 + r.val) = 32 + (pos t r).val := by show _ = 32 + (512 * (t.val % 4) + r.val); omega
  rw [wts_eq, xrow_eq, bufB, e, ext_add, sB_apply]

theorem bufA_first (n : ℕ) (hn : n < cfg0.N) (h0 : n % 4 = 0) (q : ℕ) (hq : q < 32) (k : Fin 512) : bufA m c n hn q k = 0 := by
  rw [bufA, h0]
  exact ext_zero _ _ (by omega) k

theorem bufB_first (n : ℕ) (hn : n < cfg0.N) (h0 : n % 4 = 0) (q : ℕ) (hq : q < 32) (k : Fin 512) : bufB m c n hn q k = 0 := by
  rw [bufB, h0]
  exact ext_zero _ _ (by omega) k

theorem bufA_carry (n : ℕ) (hn : n < cfg0.N) (h1 : 1 ≤ n % 4) (q : ℕ) :
    bufA m c (n - 1) (by omega) (512 + q) = bufA m c n hn q := by
  have e : brow ⟨n - 1, by omega⟩ = brow ⟨n, hn⟩ := Fin.ext (by show (n - 1) / 4 = n / 4; omega)
  rw [bufA, bufA, e, show 512 * ((n - 1) % 4) + (512 + q) = 512 * (n % 4) + q by omega]

theorem bufB_carry (n : ℕ) (hn : n < cfg0.N) (h1 : 1 ≤ n % 4) (q : ℕ) :
    bufB m c (n - 1) (by omega) (512 + q) = bufB m c n hn q := by
  have e : brow ⟨n - 1, by omega⟩ = brow ⟨n, hn⟩ := Fin.ext (by show (n - 1) / 4 = n / 4; omega)
  rw [bufB, bufB, e, show 512 * ((n - 1) % 4) + (512 + q) = 512 * (n % 4) + q by omega]

section first

variable (t : Fin cfg0.N) (h0 : t.val % 4 = 0)
include h0

theorem c_first (y : S544x512.Idx) : (outsAt0 m c t.val t.isLt).2.2.1 y = bufA m c t.val t.isLt (y 0).val (y 1) := by
  rw [outsAt0_A m c t h0 (by omega)]
  dsimp only
  refine cA (bc := bufA m c t.val t.isLt) (y := y) (hA := ?_) (hC := ?_) ..
  · exact bufA_new m c t
  · exact bufA_first m c t.val t.isLt h0

theorem g_first (y : S544x512.Idx) : (outsAt0 m c t.val t.isLt).2.2.2 y = bufB m c t.val t.isLt (y 0).val (y 1) := by
  rw [outsAt0_A m c t h0 (by omega)]
  dsimp only
  refine gA (bg := bufB m c t.val t.isLt) (y := y) (hB := ?_) (hG := ?_) ..
  · exact bufB_new m c t
  · exact bufB_first m c t.val t.isLt h0

theorem out_first (r : Fin 512) (j : Fin 1024) : (outsAt0 m c t.val t.isLt).1 (ix3 0 r j)
    = rowOut (wts (iblk m c 1 t) (iblk m c 2 t) (iblk m c 3 t) (iblk m c 4 t) (iblk m c 5 t) (iblk m c 6 t)
      (iblk m c 7 t) (iblk m c 8 t) (iblk m c 9 t)) (xrow (iblk m c 0 t) r) (fun k => bufA m c t.val t.isLt (r.val + 30 + k))
      (fun k => bufB m c t.val t.isLt (r.val + 2 + k)) j := by
  rw [outsAt0_A m c t h0 (by omega)]
  dsimp only
  refine outA (bc := bufA m c t.val t.isLt) (bg := bufB m c t.val t.isLt) (r := r) (j := j) (hA := ?_) (hB := ?_) (hC := ?_) (hG := ?_) ..
  · exact bufA_new m c t
  · exact bufB_new m c t
  · exact bufA_first m c t.val t.isLt h0
  · exact bufB_first m c t.val t.isLt h0

end first

section next

variable (t : Fin cfg0.N) (h1 : 1 ≤ t.val % 4)
  (hp : t.val - 1 < cfg0.N)
  (pA : ∀ y : S544x512.Idx, (outsAt0 m c (t.val - 1) hp).2.2.1 y = bufA m c (t.val - 1) hp (y 0).val (y 1))
  (pB : ∀ y : S544x512.Idx, (outsAt0 m c (t.val - 1) hp).2.2.2 y = bufB m c (t.val - 1) hp (y 0).val (y 1))
include h1

include pA in
theorem c_next (y : S544x512.Idx) : (outsAt0 m c t.val t.isLt).2.2.1 y = bufA m c t.val t.isLt (y 0).val (y 1) := by
  rw [outsAt0_B m c t (by omega) h1]
  dsimp only
  refine cB (bc := bufA m c t.val t.isLt) (y := y) (hA := ?_) (hC := ?_) ..
  · exact bufA_new m c t
  · exact fun i k => (pA _).trans (congrFun (bufA_carry m c t.val t.isLt h1 i.val) k)

include pB in
theorem g_next (y : S544x512.Idx) : (outsAt0 m c t.val t.isLt).2.2.2 y = bufB m c t.val t.isLt (y 0).val (y 1) := by
  rw [outsAt0_B m c t (by omega) h1]
  dsimp only
  refine gB (bg := bufB m c t.val t.isLt) (y := y) (hB := ?_) (hG := ?_) ..
  · exact bufB_new m c t
  · exact fun i k => (pB _).trans (congrFun (bufB_carry m c t.val t.isLt h1 i.val) k)

include pA pB in
theorem out_next (r : Fin 512) (j : Fin 1024) : (outsAt0 m c t.val t.isLt).1 (ix3 0 r j)
    = rowOut (wts (iblk m c 1 t) (iblk m c 2 t) (iblk m c 3 t) (iblk m c 4 t) (iblk m c 5 t) (iblk m c 6 t)
      (iblk m c 7 t) (iblk m c 8 t) (iblk m c 9 t)) (xrow (iblk m c 0 t) r) (fun k => bufA m c t.val t.isLt (r.val + 30 + k))
      (fun k => bufB m c t.val t.isLt (r.val + 2 + k)) j := by
  rw [outsAt0_B m c t (by omega) h1]
  dsimp only
  refine outB (bc := bufA m c t.val t.isLt) (bg := bufB m c t.val t.isLt) (r := r) (j := j) (hA := ?_) (hB := ?_) (hC := ?_) (hG := ?_) ..
  · exact bufA_new m c t
  · exact bufB_new m c t
  · exact fun i k => (pA _).trans (congrFun (bufA_carry m c t.val t.isLt h1 i.val) k)
  · exact fun i k => (pB _).trans (congrFun (bufB_carry m c t.val t.isLt h1 i.val) k)

end next

/-- The buffers after each point. -/
theorem bufs_eq (n : ℕ) (hn : n < cfg0.N) : (∀ y : S544x512.Idx, (outsAt0 m c n hn).2.2.1 y = bufA m c n hn (y 0).val (y 1))
    ∧ ∀ y : S544x512.Idx, (outsAt0 m c n hn).2.2.2 y = bufB m c n hn (y 0).val (y 1) := by
  induction n with
  | zero => exact ⟨c_first m c ⟨0, hn⟩ rfl, g_first m c ⟨0, hn⟩ rfl⟩
  | succ n ih =>
    have ih := ih (by omega)
    by_cases h0 : (n + 1) % 4 = 0
    · exact ⟨c_first m c ⟨n + 1, hn⟩ h0, g_first m c ⟨n + 1, hn⟩ h0⟩
    · have h1 : 1 ≤ (n + 1) % 4 := by omega
      exact ⟨c_next m c ⟨n + 1, hn⟩ h1 _ ih.1, g_next m c ⟨n + 1, hn⟩ h1 _ ih.2⟩

/-- The block a point writes. -/
theorem block_eq (t : Fin cfg0.N) (r : Fin 512) (j : Fin 1024) : (outsAt0 m c t.val t.isLt).1 (ix3 0 r j)
    = outAt (args m c).W (args m c).X (brow t) (pos t r) j := by
  have K : rowOut (wts (iblk m c 1 t) (iblk m c 2 t) (iblk m c 3 t) (iblk m c 4 t) (iblk m c 5 t) (iblk m c 6 t)
      (iblk m c 7 t) (iblk m c 8 t) (iblk m c 9 t)) (xrow (iblk m c 0 t) r) (fun k => bufA m c t.val t.isLt (r.val + 30 + k))
      (fun k => bufB m c t.val t.isLt (r.val + 2 + k)) j = outAt (args m c).W (args m c).X (brow t) (pos t r) j := by
    rw [wts_eq, xrow_eq]
    refine rowOut_congr _ _ (fun k _ l => ?_) (fun k _ l => ?_) j
    · exact congrArg (ext _ · l) (by show 512 * (t.val % 4) + (r.val + 30 + k) = 512 * (t.val % 4) + r.val + 30 + k; omega)
    · exact congrArg (ext _ · l) (by show 512 * (t.val % 4) + (r.val + 2 + k) = 512 * (t.val % 4) + r.val + 2 + k; omega)
  by_cases h0 : t.val % 4 = 0
  · exact (out_first m c t h0 r j).trans K
  · have P := bufs_eq m c (t.val - 1) (by omega)
    exact (out_next m c t (by omega) _ P.1 P.2 r j).trans K

/-- The layer's array. -/
def out (A : Ref.Args) : Vec Ideal S32x2048x1024 .f32 := fun j => outAt A.W A.X (j 0) (j 1) (j 2)

/-- The kernel's array after its run is `out` of its arguments. -/
theorem arr_eq : (dats m 0 c).arrAt 11 cfg0.N = out (args m c) := by
  refine (dats m 0 c).arrAt_eq_of_covers 11 _ (by decide +kernel) fun t hf y => ?_
  blk_simp
  rw [after0_11]
  have h0 : win0_11.index t = ![t.val / 4, t.val % 4, 0] :=
    (by decide +kernel : ∀ t : Fin grid0.N, win0_11.index t = ![t.val / 4, t.val % 4, 0]) t
  change S1x512x1024.Idx at y
  have hy : y = ix3 0 (y 1) (y 2) := by
    funext a
    fin_cases a
    · exact Subsingleton.elim (α := Fin 1) _ _
    · rfl
    · rfl
  have e0 : (win0_11.blk t).view.emb (ix3 0 (y 1) (y 2)) = ix3 (brow t) (pos t (y 1)) (y 2) := by
    funext a; apply Fin.ext
    fin_cases a <;> blk_simp [h0, brow, pos] <;> simp [brow, pos, Nat.mul_comm]
  rw [hy]
  refine (block_eq m c t (y 1) (y 2)).trans ?_
  exact (congrArg (out (args m c)) e0).symm

/-- The reference runs, leaves its arguments as they were and has no semaphore. -/
theorem ref_frame : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The reference's arguments are the kernel's. -/
theorem holds (m' : (ℓ : Loc Cert.Reference4Ideal.nD Cert.Reference4Ideal.τ Cert.Reference4Ideal.sig) → Buf (Elt Ideal) ℓ)
    (h0 : m' (c.tc.loc Cert.Reference4Ideal.main_arg0) = m (c.tc.loc main_arg0))
    (h1 : m' (c.tc.loc Cert.Reference4Ideal.main_arg1) = m (c.tc.loc main_arg1))
    (h2 : m' (c.tc.loc Cert.Reference4Ideal.main_arg2) = m (c.tc.loc main_arg2))
    (h3 : m' (c.tc.loc Cert.Reference4Ideal.main_arg3) = m (c.tc.loc main_arg3))
    (h4 : m' (c.tc.loc Cert.Reference4Ideal.main_arg4) = m (c.tc.loc main_arg4))
    (h5 : m' (c.tc.loc Cert.Reference4Ideal.main_arg5) = m (c.tc.loc main_arg5))
    (h6 : m' (c.tc.loc Cert.Reference4Ideal.main_arg6) = m (c.tc.loc main_arg6))
    (h7 : m' (c.tc.loc Cert.Reference4Ideal.main_arg7) = m (c.tc.loc main_arg7))
    (h8 : m' (c.tc.loc Cert.Reference4Ideal.main_arg8) = m (c.tc.loc main_arg8))
    (h9 : m' (c.tc.loc Cert.Reference4Ideal.main_arg9) = m (c.tc.loc main_arg9)) :
    Ref.Holds (args m c) (StableHlo.launchContents m' c) where
  h0 := h0
  h1 := h1
  h2 := h2
  h3 := h3
  h4 := h4
  h5 := h5
  h6 := h6
  h7 := h7
  h8 := h8
  h9 := h9

/-- Over the extended reals the kernel's first result and the reference end with the same array. -/
theorem algebraic : Cert.algebraic_Kernel4Ideal_Reference4Ideal := by
  pair_intro
  · run_from Cert.Kernel4Ideal.Value.run_blocks m g
  · run_from Cert.Reference4Ideal.Value.run m' g'
    rw [arr_eq]
    obtain ⟨h0, h1, h2, h3, h4, h5, h6, h7, h8, h9, _⟩ := hagree c
    have H := holds m c m' h0 h1 h2 h3 h4 h5 h6 h7 h8 h9
    rw [show m (c.tc.loc main_arg8) = (args m c).g from rfl, show m (c.tc.loc main_arg9) = (args m c).b from rfl]
    generalize args m c = A at H ⊢
    exact funext fun j => Ref.res_apply H j

end Cert.Even
-- ==== Proof.Combine.lean ====
/-
  The combination of each token's expert rows and the layer norm after it: block by block the kernel writes the rows of
  the reference's array. -/
module

public import proofs.«01_k».proof.Proof.Gen.Kernel6Ideal.Value
public import proofs.«01_k».proof.Proof.Gen.Reference6Ideal.Run
public import proofs.«01_k».proof.Proof.Norm
public import proofs.«01_k».proof.Defs
public import Idealize.ShloMosaic.Lib.Claim
public import Idealize.ShloMosaic.Lib.Pointwise
public import Idealize.ShloMosaic.Lib.Pipeline.ValueKit
public import Idealize.ShloMosaic.Lib.Tactic.CleanTypes
public import Idealize.ShloMosaic.Lib.Pipeline.ReadBack

@[expose] public section

set_option maxRecDepth 16384

noncomputable section

namespace Cert.Combine

open Idealize.ShloMosaic Idealize.ShloMosaic.TcCoe Idealize.SL.Sem Cert.Kernel6Ideal Cert.Kernel6Ideal.Gen

/-- A row before the norm: the scaled input plus the weighted sum of the token's two expert rows. -/
def pre (h : Fin 1024 → EReal) (w0 w1 : EReal) (ya yb : Fin 1024 → EReal) (k : Fin 1024) : EReal :=
  Ideal.ofBits .f32 0x3FD744FD#32 * h k + (w0 * ya k + w1 * yb k)

/-- Token `t`'s first row. -/
def lo (t : Fin 65536) : Fin 131072 := ⟨t.val, by omega⟩

/-- Token `t`'s second row. -/
def hi (t : Fin 65536) : Fin 131072 := ⟨65536 + t.val, by omega⟩

/-- The layer's rows. -/
def out (h : Vec Ideal S65536x1024 .f32) (w : Vec Ideal S65536x2 .f32) (y : Vec Ideal S131072x1024 .f32) (g b : Vec Ideal S1024 .f32) :
    Vec Ideal S65536x1024 .f32 := fun j =>
  Norm.norm (Ideal.ofBits .f32 0x44800000#32) (Ideal.ofBits .f32 0x3727C5AC#32)
    (pre (fun k => h (ix2 (j 0) k)) (w (ix2 (j 0) 0)) (w (ix2 (j 0) 1)) (fun k => y (ix2 (lo (j 0)) k)) (fun k => y (ix2 (hi (j 0)) k)))
    (fun k => g (ix1 k)) (fun k => b (ix1 k)) (j 1)

/-- What the body stores of a block of rows. -/
theorem pay_apply (w : Vec Ideal S512x2 .f32) (ya yb h : Vec Ideal S512x1024 .f32) (g b : Vec Ideal S1x1024 .f32)
    (j : S512x1024.Idx) : k0_pay1 w ya yb h g b j
      = Norm.norm (Ideal.ofBits .f32 0x44800000#32) (Ideal.ofBits .f32 0x3727C5AC#32)
        (pre (fun k => h (ix2 (j 0) k)) (w (ix2 (j 0) 0)) (w (ix2 (j 0) 1)) (fun k => ya (ix2 (j 0) k)) (fun k => yb (ix2 (j 0) k)))
        (fun k => g (ix2 0 k)) (fun k => b (ix2 0 k)) (j 1) := by
  idx_vars j
  pointwise [k0_pay1, Norm.norm, Norm.mean, pre]

/-- The kernel's array after its run is `out` of its arguments. -/
theorem arr_eq (m : (ℓ : Loc nD τ sig) → Buf (Elt Ideal) ℓ) (c : Dev nD) :
    (dats m 0 c).arrAt 6 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_apply]
  have i0 : win0_0.index t = ![t.val, 0] := (by decide +kernel : ∀ t : Fin grid0.N, win0_0.index t = ![t.val, 0]) t
  have i1 : win0_1.index t = ![t.val, 0] := (by decide +kernel : ∀ t : Fin grid0.N, win0_1.index t = ![t.val, 0]) t
  have i2 : win0_2.index t = ![t.val, 0] := (by decide +kernel : ∀ t : Fin grid0.N, win0_2.index t = ![t.val, 0]) t
  have i3 : win0_3.index t = ![128 + t.val, 0] := (by decide +kernel : ∀ t : Fin grid0.N, win0_3.index t = ![128 + t.val, 0]) t
  have i4 : win0_4.index t = ![0, 0] := (by decide +kernel : ∀ t : Fin grid0.N, win0_4.index t = ![0, 0]) t
  have i5 : win0_5.index t = ![0, 0] := (by decide +kernel : ∀ t : Fin grid0.N, win0_5.index t = ![0, 0]) t
  have i6 : win0_6.index t = ![t.val, 0] := (by decide +kernel : ∀ t : Fin grid0.N, win0_6.index t = ![t.val, 0]) t
  have i60 : win0_6.index t (0 : Fin 2) = t.val := congrFun i6 0
  have w4 : ∀ k : Fin 1024, V m c main_v0 (ix2 0 k) = m ((c : Thread nD τ).loc main_arg3) (ix1 k) := fun k => by
    show StableHlo.after hostOps0 _ _ _ = _
    after_results
    clean_types
    pointwise []
  have w5 : ∀ k : Fin 1024, V m c main_v1 (ix2 0 k) = m ((c : Thread nD τ).loc main_arg4) (ix1 k) := fun k => by
    show StableHlo.after hostOps0 _ _ _ = _
    after_results
    clean_types
    pointwise []
  have e0 : ∀ k : Fin 1024, (win0_0.blk t).view.emb (ix2 (y 0) k) = ix2 ((win0_6.blk t).view.emb y 0) k := fun k => by
    funext a; apply Fin.ext
    fin_cases a <;> blk_simp [i0, i6] <;> simp [i60]
  have e1 : ∀ k : Fin 2, (win0_1.blk t).view.emb (ix2 (y 0) k) = ix2 ((win0_6.blk t).view.emb y 0) k := fun k => by
    funext a; apply Fin.ext
    fin_cases a <;> blk_simp [i1, i6] <;> simp [i60]
  have e2 : ∀ k : Fin 1024, (win0_2.blk t).view.emb (ix2 (y 0) k) = ix2 (lo ((win0_6.blk t).view.emb y 0)) k := fun k => by
    funext a; apply Fin.ext
    fin_cases a <;> blk_simp [i2, i6, lo] <;> simp [i60, lo]
  have e3 : ∀ k : Fin 1024, (win0_3.blk t).view.emb (ix2 (y 0) k) = ix2 (hi ((win0_6.blk t).view.emb y 0)) k := fun k => by
    funext a; apply Fin.ext
    fin_cases a <;> blk_simp [i3, i6, hi] <;> simp [i60, hi] <;> omega
  have e4 : ∀ k : Fin 1024, (win0_4.blk t).view.emb (ix2 0 k) = ix2 0 k := fun k => by
    funext a; apply Fin.ext
    fin_cases a <;> blk_simp [i4] <;> simp
  have e5 : ∀ k : Fin 1024, (win0_5.blk t).view.emb (ix2 0 k) = ix2 0 k := fun k => by
    funext a; apply Fin.ext
    fin_cases a <;> blk_simp [i5] <;> simp
  have e6 : (win0_6.blk t).view.emb y 1 = y 1 := by
    apply Fin.ext
    blk_simp [i6]
  have x0 : V m c main_arg0 = m ((c : Thread nD τ).loc main_arg0) := V_main_arg0 m c
  have x1 : V m c main_arg1 = m ((c : Thread nD τ).loc main_arg1) := V_main_arg1 m c
  have x2 : V m c main_arg2 = m ((c : Thread nD τ).loc main_arg2) := V_main_arg2 m c
  have f0 : ∀ k : Fin 1024, iblk m c 0 t (ix2 (y 0) k) = m ((c : Thread nD τ).loc main_arg0) (ix2 ((win0_6.blk t).view.emb y 0) k) :=
    fun k => (congrFun x0 _).trans (congrArg _ (e0 k))
  have f1 : ∀ k : Fin 2, iblk m c 1 t (ix2 (y 0) k) = m ((c : Thread nD τ).loc main_arg1) (ix2 ((win0_6.blk t).view.emb y 0) k) :=
    fun k => (congrFun x1 _).trans (congrArg _ (e1 k))
  have f2 : ∀ k : Fin 1024, iblk m c 2 t (ix2 (y 0) k) = m ((c : Thread nD τ).loc main_arg2) (ix2 (lo ((win0_6.blk t).view.emb y 0)) k) :=
    fun k => (congrFun x2 _).trans (congrArg _ (e2 k))
  have f3 : ∀ k : Fin 1024, iblk m c 3 t (ix2 (y 0) k) = m ((c : Thread nD τ).loc main_arg2) (ix2 (hi ((win0_6.blk t).view.emb y 0)) k) :=
    fun k => (congrFun x2 _).trans (congrArg _ (e3 k))
  have f4 : ∀ k : Fin 1024, iblk m c 4 t (ix2 0 k) = m ((c : Thread nD τ).loc main_arg3) (ix1 k) :=
    fun k => (congrArg (V m c main_v0) (e4 k)).trans (w4 k)
  have f5 : ∀ k : Fin 1024, iblk m c 5 t (ix2 0 k) = m ((c : Thread nD τ).loc main_arg4) (ix1 k) :=
    fun k => (congrArg (V m c main_v1) (e5 k)).trans (w5 k)
  simp only [f0, f1, f2, f3, f4, f5, out, e6]

/-- The reference runs, leaves its arguments as they were and has no semaphore. -/
theorem ref_frame : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- The reference's result, its arguments given. -/
theorem ref_eq (m : (ℓ : Loc Cert.Reference6Ideal.nD Cert.Reference6Ideal.τ Cert.Reference6Ideal.sig) → Buf (Elt Ideal) ℓ)
    (c : Dev nD) (h : Vec Ideal S65536x1024 .f32) (w : Vec Ideal S65536x2 .f32) (y : Vec Ideal S131072x1024 .f32) (g b : Vec Ideal S1024 .f32)
    (h0 : m (c.tc.loc Cert.Reference6Ideal.main_arg0) = h) (h1 : m (c.tc.loc Cert.Reference6Ideal.main_arg1) = w)
    (h2 : m (c.tc.loc Cert.Reference6Ideal.main_arg2) = y) (h3 : m (c.tc.loc Cert.Reference6Ideal.main_arg3) = g)
    (h4 : m (c.tc.loc Cert.Reference6Ideal.main_arg4) = b) :
    Cert.Reference6Ideal.Value.res_main_v32 m c = out h w y g b := by
  unfold Cert.Reference6Ideal.Value.res_main_v32
  rw [h0, h1, h2, h3, h4]
  funext j
  clean_types
  idx_vars j
  pointwise [out, Norm.norm, Norm.mean, pre]
  have S : ∀ d : Fin 1024, ∑ x : Fin 2, y (ix2 ⟨x.val * 65536 + j0.val, by omega⟩ d) * w (ix2 j0 x)
      = w (ix2 j0 0) * y (ix2 (lo j0) d) + w (ix2 j0 1) * y (ix2 (hi j0) d) := fun d => by
    have e0 : (⟨(0 : Fin 2).val * 65536 + j0.val, by omega⟩ : Fin 131072) = lo j0 := Fin.ext (by simp [lo])
    have e1 : (⟨(1 : Fin 2).val * 65536 + j0.val, by omega⟩ : Fin 131072) = hi j0 := Fin.ext (by simp [hi])
    rw [Fin.sum_univ_two, e0, e1, mul_comm (y _), mul_comm (y _)]
  simp only [S]

/-- Over the extended reals the kernel and the reference end with the same array. -/
theorem algebraic : Cert.algebraic_Kernel6Ideal_Reference6Ideal := by
  pair_intro
  · run_from Cert.Kernel6Ideal.Value.run_blocks m g
  · run_from Cert.Reference6Ideal.Value.run m' g'
    rw [arr_eq]
    obtain ⟨h0, h1, h2, h3, h4⟩ := hagree c
    exact ref_eq m' c _ _ _ _ _ h0 h1 h2 h3 h4

end Cert.Combine
-- ==== Proof.Finite.lean ====
/-
  Finite extended reals: sums, products and layer norms of finite entries are finite, and a finite entry less itself
  is 0. With it, a product taken with a high and a low half is the product. -/
module

public import proofs.«01_k».proof.Proof.Norm
public import Idealize.ShloMosaic.PureOps.Ideal
public import Idealize.ShloMosaic.Lib.ReduceAll

@[expose] public section

noncomputable section

namespace Cert.Finite

open Idealize.ShloMosaic

/-- A finite extended real. -/
def Fin' (x : EReal) : Prop := ∃ r : ℝ, x = r

theorem coe (r : ℝ) : Fin' r := ⟨r, rfl⟩

theorem of_sub {x : EReal} (h : x - x = 0) : Fin' x := by
  induction x with
  | bot => simp at h
  | top => simp at h
  | coe r => exact ⟨r, rfl⟩

theorem sub_self {x : EReal} (h : Fin' x) : x - x = 0 := by
  obtain ⟨r, rfl⟩ := h
  rw [← EReal.coe_sub, _root_.sub_self, EReal.coe_zero]

theorem add {x y : EReal} (h : Fin' x) (k : Fin' y) : Fin' (x + y) := by
  obtain ⟨r, rfl⟩ := h
  obtain ⟨s, rfl⟩ := k
  exact ⟨r + s, (EReal.coe_add r s).symm⟩

theorem sub {x y : EReal} (h : Fin' x) (k : Fin' y) : Fin' (x - y) := by
  obtain ⟨r, rfl⟩ := h
  obtain ⟨s, rfl⟩ := k
  exact ⟨r - s, (EReal.coe_sub r s).symm⟩

theorem mul {x y : EReal} (h : Fin' x) (k : Fin' y) : Fin' (x * y) := by
  obtain ⟨r, rfl⟩ := h
  obtain ⟨s, rfl⟩ := k
  exact ⟨r * s, (EReal.coe_mul r s).symm⟩

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem sum {n : ℕ} {f : Fin n → EReal} (h : ∀ k, Fin' (f k)) : Fin' (∑ k, f k) := by
  choose r hr using h
  exact ⟨∑ k, r k, by rw [coe_sum]; exact Finset.sum_congr rfl fun k _ => hr k⟩

theorem zero : Fin' 0 := ⟨0, EReal.coe_zero.symm⟩

/-- The mean of finite entries is finite. -/
theorem mean {n : ℕ} {N : ℝ} (hN : 0 < N) {v : Fin n → EReal} (h : ∀ k, Fin' (v k)) : Fin' (Norm.mean N v) := by
  unfold Norm.mean
  rw [Ideal.div_coe hN.ne']
  exact mul (sum h) (coe _)

/-- A layer norm of finite entries is finite. -/
theorem norm {n : ℕ} {N ε : ℝ} (hN : 0 < N) (hε : 0 < ε) {v g b : Fin n → EReal} (h : ∀ k, Fin' (v k)) (hg : ∀ k, Fin' (g k))
    (hb : ∀ k, Fin' (b k)) (j : Fin n) : Fin' (Norm.norm N ε v g b j) := by
  have hd := fun k => sub (h k) (mean hN h)
  unfold Norm.norm
  refine add (mul (mul (hd j) ?_) (hg j)) (hb j)
  choose r hr using hd
  unfold Norm.mean at hr ⊢
  simp only [hr]
  rw [Ideal.div_coe hN.ne']
  have e : (∑ k, (r k : EReal) * (r k : EReal)) * ((1 / N : ℝ) : EReal) + (ε : EReal) = (((∑ k, r k * r k) * (1 / N) + ε : ℝ) : EReal) := by
    rw [EReal.coe_add, EReal.coe_mul, coe_sum]
    simp only [EReal.coe_mul]
  have p : 0 < (∑ k, r k * r k) * (1 / N) + ε :=
    add_pos_of_nonneg_of_pos (mul_nonneg (Finset.sum_nonneg fun k _ => mul_self_nonneg _) (by positivity)) hε
  rw [e, Ideal.rsqrt_coe, if_neg (not_lt.mpr p.le), if_neg p.ne']
  exact coe _

/-- 1024, as its bits. -/
theorem bits_1024 : Ideal.ofBits .f32 0x44800000#32 = ((1024 : ℝ) : EReal) := by
  simp [Ideal.ofBits, Ideal.ieee, -EReal.coe_mul]; norm_num

/-- 512, as its bits. -/
theorem bits_512 : Ideal.ofBits .f32 0x44000000#32 = ((512 : ℝ) : EReal) := by
  simp [Ideal.ofBits, Ideal.ieee, -EReal.coe_mul]; norm_num

/-- The norm's small constant is finite and positive. -/
theorem bits_eps : ∃ ε : ℝ, 0 < ε ∧ Ideal.ofBits .f32 0x3727C5AC#32 = (ε : EReal) := by
  refine ⟨_, ?_, by simp only [Ideal.ofBits, Ideal.ieee]; rw [if_neg (by decide), if_neg (by decide)]⟩
  have : (BitVec.extractLsb' (8 + 23) 1 (0x3727C5AC#32) == 1#1) = false := by decide
  rw [this]
  norm_num
  positivity

/-- The residual's factor is finite. -/
theorem bits_alpha : Fin' (Ideal.ofBits .f32 0x3FD744FD#32) := by
  refine ⟨_, by simp only [Ideal.ofBits, Ideal.ieee]; rw [if_neg (by decide), if_neg (by decide)]⟩

/-- A product with the high and the low half of finite weights, and of the rows' low half, is the product. -/
theorem halves {n : ℕ} {h w : Fin n → EReal} (hh : ∀ k, Fin' (h k)) (hw : ∀ k, Fin' (w k)) :
    (∑ k, h k * w k) + (∑ k, h k * (w k - w k)) + (∑ k, (h k - h k) * w k) = ∑ k, h k * w k := by
  have e1 : ∀ k, h k * (w k - w k) = 0 := fun k => by rw [sub_self (hw k), mul_zero]
  have e2 : ∀ k, (h k - h k) * w k = 0 := fun k => by rw [sub_self (hh k), zero_mul]
  simp only [e1, e2, Finset.sum_const_zero, add_zero]

/-- What a comparison of a difference with 0 says. -/
theorem of_cmp {x : EReal} (h : Ideal.cmp .oeq (x - x) 0 = 1#1) : Fin' x := by
  have e : BitVec.ofBool (decide (x - x = 0)) = 1#1 := h
  by_cases k : x - x = 0
  · exact of_sub k
  · rw [decide_eq_false k] at e; exact absurd e (by decide)

end Cert.Finite

end
-- ==== Proof.OutLogits.lean ====
/-
  The router logits an attention layer's output projection writes beside its rows: for finite arguments they are the rows
  times the routers' weights. -/
module

public import proofs.«01_k».proof.Proof.Gen.Kernel7Ideal.Value
public import proofs.«01_k».proof.Proof.Gen.Reference7Ideal.Run
public import proofs.«01_k».proof.Proof.Gen.Pre_pre7
public import proofs.«01_k».proof.Proof.Finite
public import proofs.«01_k».proof.Defs
public import Idealize.ShloMosaic.Lib.Claim
public import Idealize.ShloMosaic.Lib.Pointwise
public import Idealize.ShloMosaic.Lib.Pipeline.ValueKit
public import Idealize.ShloMosaic.Lib.Tactic.CleanTypes
public import Idealize.ShloMosaic.Lib.Pipeline.ReadBack

@[expose] public section

set_option maxRecDepth 16384

noncomputable section

namespace Cert.OutLogits

open Idealize.ShloMosaic Idealize.ShloMosaic.TcCoe Idealize.SL.Sem Cert.Kernel7Ideal Cert.Kernel7Ideal.Gen

/-- A row before the norm: the scaled input plus the projected attention. -/
def pre (o : Fin 1024 → EReal) (x : Fin 1024 → EReal) (w : Vec Ideal S1024x1024 .f32) (k : Fin 1024) : EReal :=
  Ideal.ofBits .f32 0x3FD744FD#32 * x k + ∑ e : Fin 1024, o e * w (ix2 e k)

/-- A row of the layer. -/
def row (o : Fin 1024 → EReal) (x : Fin 1024 → EReal) (w : Vec Ideal S1024x1024 .f32) (g b : Fin 1024 → EReal) (k : Fin 1024) : EReal :=
  Norm.norm (Ideal.ofBits .f32 0x44800000#32) (Ideal.ofBits .f32 0x3727C5AC#32) (pre o x w) g b k

/-- The routers' weights side by side: 4 columns of groups, 32 of experts, and columns of 0. -/
def col (rg : Vec Ideal S1024x4 .f32) (re : Vec Ideal S1024x32 .f32) (k : Fin 1024) (j : Fin 128) : EReal :=
  if h : j.val < 4 then rg (ix2 k ⟨j.val, h⟩) else if h : j.val < 36 then re (ix2 k ⟨j.val - 4, by omega⟩) else 0

/-- The logits. -/
def logits (o : Vec Ideal S32x2048x1024 .bf16) (x : Vec Ideal S32x2048x1024 .f32) (w : Vec Ideal S1024x1024 .f32) (g b : Vec Ideal S1024 .f32)
    (rg : Vec Ideal S1024x4 .f32) (re : Vec Ideal S1024x32 .f32) : Vec Ideal S32x2048x128 .f32 := fun j =>
  ∑ k : Fin 1024, row (fun e => o (ix3 (j 0) (j 1) e)) (fun k => x (ix3 (j 0) (j 1) k)) w (fun k => g (ix1 k)) (fun k => b (ix1 k)) k
    * col rg re k (j 2)

/-- The layer's row, as the body forms it. -/
theorem row_apply (x0 : Vec Ideal S1x512x1024 .bf16) (x1 : Vec Ideal S1x512x1024 .f32) (x2 : Vec Ideal S1024x1024 .bf16) (x3 x4 : Vec Ideal S1x1024 .f32)
    (j : S512x1024.Idx) : k0_pay3 x0 x2 x1 x3 x4 j
      = row (fun e => x0 (ix3 0 (j 0) e)) (fun k => x1 (ix3 0 (j 0) k)) x2 (fun k => x3 (ix2 0 k)) (fun k => x4 (ix2 0 k)) (j 1) := by
  idx_vars j
  pointwise [k0_pay3, row, Norm.norm, Norm.mean, pre]

/-- What the body stores of a block of logits. -/
theorem pay_apply (h : FVec Ideal S512x1024 .f32) (w : Vec Ideal S1024x256 .bf16) (v : Vec Ideal S1024x128 .bf16) (j : S1x512x128.Idx) :
    k0_pay2 h w v j = (∑ k : Fin 1024, h (ix2 (j 1) k) * w (ix2 k ⟨(j 2).val, by have := (j 2).isLt; change (j 2).val < 128 at this; omega⟩))
      + (∑ k : Fin 1024, h (ix2 (j 1) k) * w (ix2 k ⟨128 + (j 2).val, by have := (j 2).isLt; change (j 2).val < 128 at this; omega⟩))
      + ∑ k : Fin 1024, HSub.hSub (α := EReal) (β := EReal) (γ := EReal) (h (ix2 (j 1) k)) (h (ix2 (j 1) k)) * v (ix2 k (j 2)) := by
  idx_vars j
  pointwise [k0_pay2]

theorem zero_of_int : FloatOps.sitofp (F := Ideal) .f32 0#32 = (0 : EReal) := by
  show (((0#32 : BitVec 32).toInt : ℝ) : EReal) = 0
  simp

/-- The weights the call is given, before they are halved. -/
theorem col_apply (rg : FVec Ideal S1024x4 .f32) (re : FVec Ideal S1024x32 .f32) (k : Fin 1024) (j : Fin 128) :
    pad S1024x128 ![0, 0] ![0, 92] ![0, 0] (concatenate S1024x36 1 [⟨S1024x4, rg⟩, ⟨S1024x32, re⟩] concatenates_S1024x4_S1024x32_S1024x36_d1)
      (sitofp (F := Ideal) .f32 (constantI S_ 32 0#32)) pads_S1024x36_S1024x128_000_0920 h_S_ (ix2 k j) = col rg re k j := by
  pointwise [col]
  have z : FloatOps.sitofp (F := Ideal) .f32 0#32 = (0 : EReal) := zero_of_int
  rw [z]
  by_cases h : j.val < 4
  · rw [dif_pos (show j.val < 36 by omega), dif_pos h, dif_pos h]
  · by_cases h' : j.val < 36
    · rw [dif_pos h', dif_neg h, dif_neg h, dif_pos h']
    · rw [dif_neg h', dif_neg h, dif_neg h']

/-- The reference's logits, from its rows. -/
theorem tail_apply (h : FVec Ideal Cert.Reference7Ideal.S32x2048x1024 .f32) (rg : FVec Ideal S1024x4 .f32) (re : FVec Ideal S1024x32 .f32)
    (j : Cert.Reference7Ideal.S32x2048x128.Idx) :
    pad Cert.Reference7Ideal.S32x2048x128 ![0, 0, 0] ![0, 0, 92] ![0, 0, 0] (concatenate Cert.Reference7Ideal.S32x2048x36 2
      [⟨Cert.Reference7Ideal.S32x2048x4, Host.dotGeneral Cert.Reference7Ideal.dot_S32x2048x1024_S1024x4_S32x2048x4_2_0_01_1_n_n none h rg⟩,
        ⟨Cert.Reference7Ideal.S32x2048x32, Host.dotGeneral Cert.Reference7Ideal.dot_S32x2048x1024_S1024x32_S32x2048x32_2_0_01_1_n_n none h re⟩]
      Cert.Reference7Ideal.Gen.concatenates_S32x2048x4_S32x2048x32_S32x2048x36_d2)
      (sitofp (F := Ideal) .f32 (constantI Cert.Reference7Ideal.S_ 32 0#32)) Cert.Reference7Ideal.Gen.pads_S32x2048x36_S32x2048x128_000_000_0920
      Cert.Reference7Ideal.Gen.h_S_ j
      = ∑ k : Fin 1024, h (ix3 (j 0) (j 1) k) * col rg re k (j 2) := by
  idx_vars j
  pointwise [col]
  have z : FloatOps.sitofp (F := Ideal) .f32 0#32 = (0 : EReal) := zero_of_int
  rw [z]
  by_cases h : j2.val < 4
  · rw [dif_pos (show j2.val < 36 by omega), dif_pos h]
    simp only [dif_pos h]
  · by_cases h' : j2.val < 36
    · rw [dif_pos h', dif_neg h]
      simp only [dif_neg h, dif_pos h']
    · rw [dif_neg h']
      simp only [dif_neg h, dif_neg h', mul_zero, Finset.sum_const_zero]

theorem w_hi (m : (ℓ : Loc nD τ sig) → Buf (Elt Ideal) ℓ) (c : Dev nD) (k : Fin 1024) (j : Fin 128) :
    V m c main_v6 (ix2 k ⟨j.val, by omega⟩) = col (m ((c : Thread nD τ).loc main_arg5)) (m ((c : Thread nD τ).loc main_arg6)) k j := by
  show StableHlo.after (hostOps0 ++ (hostOps0_1 ++ (hostOps0_2 ++ []))) _ _ _ = _
  simp only [hostOps0, hostOps0_1, hostOps0_2, List.append_nil, List.cons_append, List.nil_append]
  after_results
  clean_types
  generalize m (c.tc.loc main_arg5) = rg
  generalize m (c.tc.loc main_arg6) = re
  pointwise []
  exact col_apply rg re k j

theorem w_lo (m : (ℓ : Loc nD τ sig) → Buf (Elt Ideal) ℓ) (c : Dev nD) (k : Fin 1024) (j : Fin 128) :
    V m c main_v6 (ix2 k ⟨128 + j.val, by omega⟩) = HSub.hSub (α := EReal) (β := EReal) (γ := EReal)
      (col (m ((c : Thread nD τ).loc main_arg5)) (m ((c : Thread nD τ).loc main_arg6)) k j)
      (col (m ((c : Thread nD τ).loc main_arg5)) (m ((c : Thread nD τ).loc main_arg6)) k j) := by
  show StableHlo.after (hostOps0 ++ (hostOps0_1 ++ (hostOps0_2 ++ []))) _ _ _ = _
  simp only [hostOps0, hostOps0_1, hostOps0_2, List.append_nil, List.cons_append, List.nil_append]
  after_results
  clean_types
  generalize m (c.tc.loc main_arg5) = rg
  generalize m (c.tc.loc main_arg6) = re
  pointwise []
  rw [← col_apply rg re k j]
  rfl

/-- What the precondition says: every entry is finite. -/
theorem finite_of_pre (o : FVec Ideal Cert.Pre_pre7.S32x2048x1024 .bf16) (x : FVec Ideal Cert.Pre_pre7.S32x2048x1024 .f32) (w : FVec Ideal Cert.Pre_pre7.S1024x1024 .f32)
    (g b : FVec Ideal Cert.Pre_pre7.S1024 .f32) (rg : FVec Ideal Cert.Pre_pre7.S1024x4 .f32) (re : FVec Ideal Cert.Pre_pre7.S1024x32 .f32)
    (h : Cert.Pre_pre7.fn (F := Ideal) o x w g b rg re = fun _ => 1#1) :
    (∀ i, Finite.Fin' (o i)) ∧ (∀ i, Finite.Fin' (x i)) ∧ (∀ i, Finite.Fin' (w i)) ∧ (∀ i, Finite.Fin' (g i)) ∧ (∀ i, Finite.Fin' (b i))
      ∧ (∀ i, Finite.Fin' (rg i)) ∧ (∀ i, Finite.Fin' (re i)) := by
  have e := congrFun h (fun a => a.elim0)
  simp only [Cert.Pre_pre7.fn, Cert.Pre_pre7.fn_part1, andi] at e
  have split (p q : BitVec 1) (k : IntOp.andi p q = 1#1) : p = 1#1 ∧ q = 1#1 := by
    revert p q; decide
  obtain ⟨e, e6⟩ := split _ _ e
  obtain ⟨e, e5⟩ := split _ _ e
  obtain ⟨e, e4⟩ := split _ _ e
  obtain ⟨e, e3⟩ := split _ _ e
  obtain ⟨e, e2⟩ := split _ _ e
  obtain ⟨e0, e1⟩ := split _ _ e
  have zb : Ideal.ofBits .bf16 0x0000#16 = 0 := Ideal.ofBits_zero_bf16
  have zf : Ideal.ofBits .f32 0x00000000#32 = 0 := Ideal.ofBits_zero_f32
  refine ⟨fun i => ?_, fun i => ?_, fun i => ?_, fun i => ?_, fun i => ?_, fun i => ?_, fun i => ?_⟩
  · have k : Ideal.cmp .oeq (HSub.hSub (α := EReal) (β := EReal) (γ := EReal) (o i) (o i)) (Ideal.ofBits .bf16 0x0000#16) = 1#1 := Host.reduce_andi_all _ _ _ _ _ e0 i
    rw [zb] at k
    exact Finite.of_cmp k
  · have k : Ideal.cmp .oeq (HSub.hSub (α := EReal) (β := EReal) (γ := EReal) (x i) (x i)) (Ideal.ofBits .f32 0x00000000#32) = 1#1 := Host.reduce_andi_all _ _ _ _ _ e1 i
    rw [zf] at k
    exact Finite.of_cmp k
  · have k : Ideal.cmp .oeq (HSub.hSub (α := EReal) (β := EReal) (γ := EReal) (w i) (w i)) (Ideal.ofBits .f32 0x00000000#32) = 1#1 := Host.reduce_andi_all _ _ _ _ _ e2 i
    rw [zf] at k
    exact Finite.of_cmp k
  · have k : Ideal.cmp .oeq (HSub.hSub (α := EReal) (β := EReal) (γ := EReal) (g i) (g i)) (Ideal.ofBits .f32 0x00000000#32) = 1#1 := Host.reduce_andi_all _ _ _ _ _ e3 i
    rw [zf] at k
    exact Finite.of_cmp k
  · have k : Ideal.cmp .oeq (HSub.hSub (α := EReal) (β := EReal) (γ := EReal) (b i) (b i)) (Ideal.ofBits .f32 0x00000000#32) = 1#1 := Host.reduce_andi_all _ _ _ _ _ e4 i
    rw [zf] at k
    exact Finite.of_cmp k
  · have k : Ideal.cmp .oeq (HSub.hSub (α := EReal) (β := EReal) (γ := EReal) (rg i) (rg i)) (Ideal.ofBits .f32 0x00000000#32) = 1#1 := Host.reduce_andi_all _ _ _ _ _ e5 i
    rw [zf] at k
    exact Finite.of_cmp k
  · have k : Ideal.cmp .oeq (HSub.hSub (α := EReal) (β := EReal) (γ := EReal) (re i) (re i)) (Ideal.ofBits .f32 0x00000000#32) = 1#1 := Host.reduce_andi_all _ _ _ _ _ e6 i
    rw [zf] at k
    exact Finite.of_cmp k

/-- A row of finite entries is finite. -/
theorem row_finite {o x : Fin 1024 → EReal} {w : Vec Ideal S1024x1024 .f32} {g b : Fin 1024 → EReal} (ho : ∀ k, Finite.Fin' (o k))
    (hx : ∀ k, Finite.Fin' (x k)) (hw : ∀ i, Finite.Fin' (w i)) (hg : ∀ k, Finite.Fin' (g k)) (hb : ∀ k, Finite.Fin' (b k)) (k : Fin 1024) :
    Finite.Fin' (row o x w g b k) := by
  obtain ⟨ε, hε, e⟩ := Finite.bits_eps
  unfold row
  rw [Finite.bits_1024, e]
  exact Finite.norm (by norm_num) hε
    (fun k => Finite.add (Finite.mul Finite.bits_alpha (hx k)) (Finite.sum fun e => Finite.mul (ho e) (hw _))) hg hb k

theorem col_finite {rg : Vec Ideal S1024x4 .f32} {re : Vec Ideal S1024x32 .f32} (hg : ∀ i, Finite.Fin' (rg i)) (he : ∀ i, Finite.Fin' (re i))
    (k : Fin 1024) (j : Fin 128) : Finite.Fin' (col rg re k j) := by
  unfold col
  split
  · exact hg _
  · split
    · exact he _
    · exact Finite.zero

section Blocks

variable (m : (ℓ : Loc nD τ sig) → Buf (Elt Ideal) ℓ) (c : Dev nD) (t : Fin grid0.N)

theorem host_w : V m c main_v7 = m ((c : Thread nD τ).loc main_arg2) := by
  show StableHlo.after (hostOps0 ++ (hostOps0_1 ++ (hostOps0_2 ++ []))) _ _ = _
  simp only [hostOps0, hostOps0_1, hostOps0_2, List.append_nil, List.cons_append, List.nil_append]
  after_results
  rfl

theorem host_g (k : Fin 1024) : V m c main_v8 (ix2 0 k) = m ((c : Thread nD τ).loc main_arg3) (ix1 k) := by
  show StableHlo.after (hostOps0 ++ (hostOps0_1 ++ (hostOps0_2 ++ []))) _ _ _ = _
  simp only [hostOps0, hostOps0_1, hostOps0_2, List.append_nil, List.cons_append, List.nil_append]
  after_results
  clean_types
  pointwise []

theorem host_b (k : Fin 1024) : V m c main_v9 (ix2 0 k) = m ((c : Thread nD τ).loc main_arg4) (ix1 k) := by
  show StableHlo.after (hostOps0 ++ (hostOps0_1 ++ (hostOps0_2 ++ []))) _ _ _ = _
  simp only [hostOps0, hostOps0_1, hostOps0_2, List.append_nil, List.cons_append, List.nil_append]
  after_results
  clean_types
  pointwise []

theorem blk_o (y : S1x512x128.Idx) (k : Fin 1024) : iblk m c 0 t (ix3 0 (y 1) k)
    = m ((c : Thread nD τ).loc main_arg0) (ix3 ((win0_7.blk t).view.emb y 0) ((win0_7.blk t).view.emb y 1) k) := by
  have h2 : win0_7.index t (2 : Fin 3) = 0 := (by decide +kernel : ∀ t : Fin grid0.N, win0_7.index t (2 : Fin 3) = 0) t
  have h0 : win0_0.index t = win0_7.index t := (by decide +kernel : ∀ t : Fin grid0.N, win0_0.index t = win0_7.index t) t
  have e0 : (win0_0.blk t).view.emb (ix3 0 (y 1) k)
      = ix3 ((win0_7.blk t).view.emb y 0) ((win0_7.blk t).view.emb y 1) k := by
    funext a; apply Fin.ext
    fin_cases a <;> blk_simp [h0, h2] <;> simp
  have x0 : V m c main_arg0 = m ((c : Thread nD τ).loc main_arg0) := V_main_arg0 m c
  exact (congrFun x0 _).trans (congrArg _ e0)

theorem blk_x (y : S1x512x128.Idx) (k : Fin 1024) : iblk m c 1 t (ix3 0 (y 1) k)
    = m ((c : Thread nD τ).loc main_arg1) (ix3 ((win0_7.blk t).view.emb y 0) ((win0_7.blk t).view.emb y 1) k) := by
  have h2 : win0_7.index t (2 : Fin 3) = 0 := (by decide +kernel : ∀ t : Fin grid0.N, win0_7.index t (2 : Fin 3) = 0) t
  have h1 : win0_1.index t = win0_7.index t := (by decide +kernel : ∀ t : Fin grid0.N, win0_1.index t = win0_7.index t) t
  have e1 : (win0_1.blk t).view.emb (ix3 0 (y 1) k)
      = ix3 ((win0_7.blk t).view.emb y 0) ((win0_7.blk t).view.emb y 1) k := by
    funext a; apply Fin.ext
    fin_cases a <;> blk_simp [h1, h2] <;> simp
  have x1 : V m c main_arg1 = m ((c : Thread nD τ).loc main_arg1) := V_main_arg1 m c
  exact (congrFun x1 _).trans (congrArg _ e1)

theorem blk_w : iblk m c 2 t = m ((c : Thread nD τ).loc main_arg2) := by
  have i2 : win0_2.index t = ![0, 0] := (by decide +kernel : ∀ t : Fin grid0.N, win0_2.index t = ![0, 0]) t
  have e2 : ∀ k l : Fin 1024, (win0_2.blk t).view.emb (ix2 k l) = ix2 k l := fun k l => by
    funext a; apply Fin.ext
    fin_cases a <;> blk_simp [i2] <;> simp
  funext i
  change S1024x1024.Idx at i
  idx_vars i
  exact (congrFun (host_w m c) _).trans (congrArg _ (e2 i0 i1))

theorem blk_g (k : Fin 1024) : iblk m c 3 t (ix2 0 k) = m ((c : Thread nD τ).loc main_arg3) (ix1 k) := by
  have i3 : win0_3.index t = ![0, 0] := (by decide +kernel : ∀ t : Fin grid0.N, win0_3.index t = ![0, 0]) t
  have e3 : (win0_3.blk t).view.emb (ix2 0 k) = ix2 0 k := by
    funext a; apply Fin.ext
    fin_cases a <;> blk_simp [i3] <;> simp
  exact (congrArg (V m c main_v8) e3).trans (host_g m c k)

theorem blk_b (k : Fin 1024) : iblk m c 4 t (ix2 0 k) = m ((c : Thread nD τ).loc main_arg4) (ix1 k) := by
  have i4 : win0_4.index t = ![0, 0] := (by decide +kernel : ∀ t : Fin grid0.N, win0_4.index t = ![0, 0]) t
  have e4 : (win0_4.blk t).view.emb (ix2 0 k) = ix2 0 k := by
    funext a; apply Fin.ext
    fin_cases a <;> blk_simp [i4] <;> simp
  exact (congrArg (V m c main_v9) e4).trans (host_b m c k)

theorem blk_r (k : Fin 1024) (l : Fin 256) : iblk m c 5 t (ix2 k l) = V m c main_v6 (ix2 k l) := by
  have i5 : win0_5.index t = ![0, 0] := (by decide +kernel : ∀ t : Fin grid0.N, win0_5.index t = ![0, 0]) t
  have e6 : (win0_5.blk t).view.emb (ix2 k l) = ix2 k l := by
    funext a; apply Fin.ext
    fin_cases a <;> blk_simp [i5] <;> simp
  exact congrArg (V m c main_v6) e6

theorem ld_r (x : Vec Ideal S1024x256 .bf16) (k : Fin 1024) (l : Fin 128) : View.ld x r0_4 (ix2 k l) = x (ix2 k ⟨l.val, by omega⟩) := by
  rw [View.ld_unit]
  pointwise []

/-- What a point stores of its block, for finite rows and weights. -/
theorem stored (y : S1x512x128.Idx) (row_fin : ∀ k : Fin 1024, Finite.Fin' (row (fun e => iblk m c 0 t (ix3 0 (y 1) e)) (fun k => iblk m c 1 t (ix3 0 (y 1) k))
      (iblk m c 2 t) (fun k => iblk m c 3 t (ix2 0 k)) (fun k => iblk m c 4 t (ix2 0 k)) k))
    (col_fin : ∀ k : Fin 1024, Finite.Fin' (col (m ((c : Thread nD τ).loc main_arg5)) (m ((c : Thread nD τ).loc main_arg6)) k (y 2))) :
    k0_pay2 (k0_pay3 (iblk m c 0 t) (iblk m c 2 t) (iblk m c 1 t) (iblk m c 3 t) (iblk m c 4 t)) (iblk m c 5 t) (View.ld (iblk m c 5 t) r0_4) y
      = ∑ k : Fin 1024, row (fun e => iblk m c 0 t (ix3 0 (y 1) e)) (fun k => iblk m c 1 t (ix3 0 (y 1) k))
      (iblk m c 2 t) (fun k => iblk m c 3 t (ix2 0 k)) (fun k => iblk m c 4 t (ix2 0 k)) k * col (m ((c : Thread nD τ).loc main_arg5)) (m ((c : Thread nD τ).loc main_arg6)) k (y 2) := by
  have a (k : Fin 1024) : iblk m c 5 t (ix2 k ⟨(y 2).val, by have := (y 2).isLt; change (y 2).val < 128 at this; omega⟩)
      = col (m ((c : Thread nD τ).loc main_arg5)) (m ((c : Thread nD τ).loc main_arg6)) k (y 2) := (blk_r m c t k _).trans (w_hi m c k (y 2))
  have b (k : Fin 1024) : iblk m c 5 t (ix2 k ⟨128 + (y 2).val, by have := (y 2).isLt; change (y 2).val < 128 at this; omega⟩)
      = HSub.hSub (α := EReal) (β := EReal) (γ := EReal) (col (m ((c : Thread nD τ).loc main_arg5)) (m ((c : Thread nD τ).loc main_arg6)) k (y 2))
        (col (m ((c : Thread nD τ).loc main_arg5)) (m ((c : Thread nD τ).loc main_arg6)) k (y 2)) := (blk_r m c t k _).trans (w_lo m c k (y 2))
  have d (k : Fin 1024) : View.ld (iblk m c 5 t) r0_4 (ix2 k (y 2))
      = col (m ((c : Thread nD τ).loc main_arg5)) (m ((c : Thread nD τ).loc main_arg6)) k (y 2) := (ld_r _ k (y 2)).trans (a k)
  have r (k : Fin 1024) : k0_pay3 (iblk m c 0 t) (iblk m c 2 t) (iblk m c 1 t) (iblk m c 3 t) (iblk m c 4 t) (ix2 (y 1) k)
    = row (fun e => iblk m c 0 t (ix3 0 (y 1) e)) (fun k => iblk m c 1 t (ix3 0 (y 1) k))
      (iblk m c 2 t) (fun k => iblk m c 3 t (ix2 0 k)) (fun k => iblk m c 4 t (ix2 0 k)) k := row_apply _ _ _ _ _ (ix2 (y 1) k)
  rw [pay_apply]
  refine Eq.trans ?_ (Finite.halves row_fin col_fin)
  refine congrArg₂ _ (congrArg₂ _ ?_ ?_) ?_
  · exact Finset.sum_congr rfl fun k _ => congrArg₂ _ (r k) (a k)
  · exact Finset.sum_congr rfl fun k _ => congrArg₂ _ (r k) (b k)
  · exact Finset.sum_congr rfl fun k _ => congrArg₂ _ (congrArg₂ _ (r k) (r k)) (d k)

end Blocks

/-- The kernel's second array after its run, for finite arguments. -/
theorem arr_eq (m : (ℓ : Loc nD τ sig) → Buf (Elt Ideal) ℓ) (c : Dev nD)
    (hp : Cert.Pre_pre7.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = fun _ => 1#1) :
    (dats m 0 c).arrAt 7 cfg0.N = logits (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  obtain ⟨ho, hx, hw, hg, hb, hrg, hre⟩ := finite_of_pre _ _ _ _ _ _ _ hp
  refine (dats m 0 c).arrAt_eq_of_covers 7 _ (by decide +kernel) fun t hf y => ?_
  change S1x512x128.Idx at y
  blk_simp
  rw [after0_7]
  frame_out
  unfold k0_pay4
  simp (disch := decide) only [View.ld_unit_lit]
  refine (stored m c t y ?_ ?_).trans ?_
  rotate_left 2
  · have h2 : win0_7.index t (2 : Fin 3) = 0 := (by decide +kernel : ∀ t : Fin grid0.N, win0_7.index t (2 : Fin 3) = 0) t
    have e5 : (win0_7.blk t).view.emb y 2 = y 2 := by
      apply Fin.ext
      blk_simp [h2]
    simp only [blk_o, blk_x, blk_w, blk_g, blk_b, logits, e5]
  · intro k
    simp only [blk_o, blk_x, blk_w, blk_g, blk_b]
    exact row_finite (fun _ => ho _) (fun _ => hx _) hw (fun _ => hg _) (fun _ => hb _) k
  · exact fun k => col_finite hrg hre k _

/-- The reference runs, leaves its arguments as they were and has no semaphore. -/
theorem ref_frame : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

theorem ref_frame_pre : Cert.quiescent_Reference7Ideal_pre_pre7 := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- Over the extended reals, for finite arguments, the kernel's logits and the reference's are the same array. -/
theorem algebraic : Cert.algebraic_Kernel7Ideal_Reference7Ideal_pre_pre7 := by
  pair_intro
  · run_from Cert.Kernel7Ideal.Value.run_blocks m g
  · run_from Cert.Reference7Ideal.Value.run m' g'
    rw [arr_eq m c (hpre c)]
    obtain ⟨a0, a1, a2, a3, a4, a5, a6⟩ := hagree c
    unfold Cert.Reference7Ideal.Value.res_main_v32
    rw [a0, a1, a2, a3, a4, a5, a6]
    funext j
    generalize m (c.tc.loc main_arg0) = o
    generalize m (c.tc.loc main_arg1) = x
    generalize m (c.tc.loc main_arg2) = w
    generalize m (c.tc.loc main_arg3) = g
    generalize m (c.tc.loc main_arg4) = b
    generalize m (c.tc.loc main_arg5) = rg
    generalize m (c.tc.loc main_arg6) = re
    clean_types
    refine (tail_apply _ rg re j).trans ?_
    refine Finset.sum_congr rfl fun k _ => congrArg (· * _) ?_
    idx_vars j
    pointwise [row, Norm.norm, Norm.mean, pre]

end Cert.OutLogits

end
-- ==== Proof.EvenLogSteps.lean ====
/-
  The convolution mixer's kernel, its second result: the pieces one grid point stores of a block of router logits.
-/
module

public import proofs.«01_k».proof.Proof.EvenSteps

@[expose] public section

set_option maxRecDepth 16384

noncomputable section

namespace Cert.Even

open Idealize.ShloMosaic Idealize.ShloMosaic.TcCoe Idealize.SL.Sem
open Cert.Kernel4Ideal Cert.Kernel4Ideal.Gen

variable {F : FTy → Type} [FloatOps F]

section run

variable (c : Dev nD) (i : grid0.Coords) (arg2 : Memref sig .tc .vmem S1x512x1024 .f32) (harg2 : arg2.IsWhole) (arg3 : Memref sig .tc .vmem S1024x2560 .bf16) (harg3 : arg3.IsWhole) (arg4 : Memref sig .tc .vmem S3x512 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x512x1024 .f32) (harg13 : arg13.IsWhole) (arg14 : Memref sig .tc .vmem S1x512x128 .f32) (harg14 : arg14.IsWhole) (arg15 : Memref sig .tc .vmem S512x2560 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x1024 .bf16) (harg18 : arg18.IsWhole)
  (x0 : Vec F S1x512x1024 .f32) (x1 : Vec F S1024x2560 .bf16) (x2 : Vec F S3x512 .f32) (x3 : Vec F S31x512 .f32) (x4 : Vec F S1x512 .f32) (x5 : Vec F S1x512 .f32) (x6 : Vec F S1x512 .f32) (x7 : Vec F S1024x1024 .bf16) (x8 : Vec F S1x1024 .f32) (x9 : Vec F S1x1024 .f32) (x10 : Vec F S1024x256 .bf16) (xs1 : Vec F S544x512 .f32) (xs2 : Vec F S544x512 .f32)

/-- The rows before the last norm, from what the two sequences' buffers hold. -/
def sumRows (fc : arg16.view.ty.Contents (Elt F)) (fg : arg17.view.ty.Contents (Elt F)) : FVec F S512x1024 .f32 :=
  k0_pay202
    (k0_pay2 (View.readAt (Elt F) arg2.view (Rect.unit (s := S1x512x1024) ![0, 0, 0] S1x512x1024.size inb_S1x512x1024_S1x512x1024_0_0_0).toLoadRect (harg2.unread x0)))
    (View.readAt (Elt F) arg18.view (Rect.unit (s := S512x1024) ![0, 0] S512x1024.size inb_S512x1024_S512x1024_0_0).toLoadRect
      (arg18.view.writes (Elt F) arg18.view.junk
        (mixPcs arg2 harg2 arg3 harg3 arg4 harg4 arg5 harg5 arg6 harg6 arg7 harg7 arg8 harg8 arg15 arg16 arg17 x0 x1 x2 x3 x4 x5 x6 fc fg)))
    (View.readAt (Elt F) arg9.view (Rect.unit (s := S1024x1024) ![0, 0] S1024x1024.size inb_S1024x1024_S1024x1024_0_0).toLoadRect (harg9.unread x7))

/-- The block of logits, as stored. -/
def logPcs (fc : arg16.view.ty.Contents (Elt F)) (fg : arg17.view.ty.Contents (Elt F)) :
    List (View.Piece (Elt F) S1x512x128 .f32) :=
  [⟨Rect.unit ![0, 0, 0] S1x512x128.size inb_S1x512x128_S1x512x128_0_0_0,
    k0_pay1 (k0_pay205
      (sumRows arg2 harg2 arg3 harg3 arg4 harg4 arg5 harg5 arg6 harg6 arg7 harg7 arg8 harg8 arg9 harg9 arg15 arg16 arg17 arg18 x0 x1 x2 x3 x4 x5 x6 x7 fc fg)
      (View.readAt (Elt F) arg10.view (Rect.unit (s := S1x1024) ![0, 0] S1x1024.size inb_S1x1024_S1x1024_0_0).toLoadRect (harg10.unread x8))
      (View.readAt (Elt F) arg11.view (Rect.unit (s := S1x1024) ![0, 0] S1x1024.size inb_S1x1024_S1x1024_0_0).toLoadRect (harg11.unread x9))
      (View.readAt (Elt F) arg12.view (Rect.unit (s := S1024x256) ![0, 0] S1024x256.size inb_S1024x256_S1024x256_0_0).toLoadRect (harg12.unread x10))
      (View.readAt (Elt F) arg12.view (Rect.unit (s := S1024x256) ![0, 0] S1024x128.size inb_S1024x256_S1024x128_0_0).toLoadRect (harg12.unread x10)))⟩]

theorem piecesA_log (hc0 : cond0_0 i) (hc1 : ¬cond0_1 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1
    = logPcs arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10
      (arg16.view.writes (Elt F) arg16.view.junk (cPcs arg2 harg2 arg3 harg3 arg15 x0 x1 k0_pay4))
      (arg17.view.writes (Elt F) arg17.view.junk (gPcs arg2 harg2 arg3 harg3 arg15 x0 x1 k0_pay5)) := by
  sl_kernel_rfl

theorem piecesB_log (hc0 : ¬cond0_0 i) (hc1 : cond0_1 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2).2.1
    = logPcs arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10
      (arg16.view.writes (Elt F) arg16.view.junk (cPcs arg2 harg2 arg3 harg3 arg15 x0 x1 (k0_pay6 (tail arg16 harg16 xs1))))
      (arg17.view.writes (Elt F) arg17.view.junk (gPcs arg2 harg2 arg3 harg3 arg15 x0 x1 (k0_pay7 (tail arg17 harg17 xs2)))) := by
  sl_kernel_rfl

end run

end Cert.Even
-- ==== Proof.EvenLogPoint.lean ====
/-
  The convolution mixer's kernel, its second result: the router logits one grid point leaves, from the layer's rows.
-/
module

public import proofs.«01_k».proof.Proof.EvenPoint
public import proofs.«01_k».proof.Proof.EvenLogSteps

@[expose] public section

set_option maxRecDepth 16384

noncomputable section

namespace Cert.Even

open Idealize.ShloMosaic Idealize.ShloMosaic.TcCoe Idealize.SL.Sem
open Cert.Kernel4Ideal Cert.Kernel4Ideal.Gen

/-- A row's logits: its products with the weights' high and low halves, and its own low half's with the high one. -/
def logOf (h : Fin 1024 → EReal) (w : Vec Ideal S1024x256 .bf16) (j : Fin 128) : EReal :=
  (∑ k : Fin 1024, h k * w (ix2 k ⟨j.val, by omega⟩)) + (∑ k : Fin 1024, h k * w (ix2 k ⟨128 + j.val, by omega⟩))
    + ∑ k : Fin 1024, (h k - h k) * w (ix2 k ⟨j.val, by omega⟩)

/-- The stored rows are the normed rows. -/
theorem pay204_apply (v : FVec Ideal S512x1024 .f32) (g b : Vec Ideal S1x1024 .f32) (r : Fin 512) (k : Fin 1024) :
    k0_pay204 v g b (ix3 0 r k) = k0_pay203 v g b (ix2 r k) := by
  unfold k0_pay204
  generalize k0_pay203 v g b = h
  pointwise []

theorem payLog_apply (v : FVec Ideal S512x1024 .f32) (g b : Vec Ideal S1x1024 .f32) (w : Vec Ideal S1024x256 .bf16) (u : Vec Ideal S1024x128 .bf16)
    (hu : ∀ (k : Fin 1024) (j : Fin 128), u (ix2 k j) = w (ix2 k ⟨j.val, by omega⟩)) (r : Fin 512) (j : Fin 128) :
    k0_pay1 (k0_pay205 v g b w u) (ix3 0 r j) = logOf (fun k => k0_pay203 v g b (ix2 r k)) w j := by
  unfold k0_pay205
  generalize k0_pay203 v g b = h
  pointwise [k0_pay1, logOf]
  simp only [hu]

/-- The weights' high half, read. -/
theorem rd_half (a : Memref sig .tc .vmem S1024x256 .bf16) (ha : a.IsWhole) (x : Vec Ideal S1024x256 .bf16) (k : Fin 1024) (j : Fin 128) :
    View.readAt (Elt Ideal) a.view (Rect.unit (s := S1024x256) ![0, 0] S1024x128.size inb_S1024x256_S1024x128_0_0).toLoadRect (ha.unread x) (ix2 k j)
      = x (ix2 k ⟨j.val, by omega⟩) := by
  refine (congrFun (ha.read_unread x) _).trans (congrArg x (funext fun a => Fin.ext ?_))
  fin_cases a <;> exact (Nat.zero_add _).trans (Nat.one_mul _)

variable (c : Dev nD) (i : grid0.Coords) (arg2 : Memref sig .tc .vmem S1x512x1024 .f32) (harg2 : arg2.IsWhole) (arg3 : Memref sig .tc .vmem S1024x2560 .bf16) (harg3 : arg3.IsWhole) (arg4 : Memref sig .tc .vmem S3x512 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x512x1024 .f32) (harg13 : arg13.IsWhole) (arg14 : Memref sig .tc .vmem S1x512x128 .f32) (harg14 : arg14.IsWhole) (arg15 : Memref sig .tc .vmem S512x2560 .f32) (harg15 : arg15.IsWhole) (arg16 : Memref sig .tc .vmem S544x512 .f32) (harg16 : arg16.IsWhole) (arg17 : Memref sig .tc .vmem S544x512 .f32) (harg17 : arg17.IsWhole) (arg18 : Memref sig .tc .vmem S512x1024 .bf16) (harg18 : arg18.IsWhole)
  (x0 : Vec Ideal S1x512x1024 .f32) (x1 : Vec Ideal S1024x2560 .bf16) (x2 : Vec Ideal S3x512 .f32) (x3 : Vec Ideal S31x512 .f32) (x4 : Vec Ideal S1x512 .f32) (x5 : Vec Ideal S1x512 .f32) (x6 : Vec Ideal S1x512 .f32) (x7 : Vec Ideal S1024x1024 .bf16) (x8 : Vec Ideal S1x1024 .f32) (x9 : Vec Ideal S1x1024 .f32) (x10 : Vec Ideal S1024x256 .bf16) (xs1 : Vec Ideal S544x512 .f32) (xs2 : Vec Ideal S544x512 .f32)

variable (bc bg : ℕ → Fin 512 → EReal)

/-- The logits' block, from what the two sequences' buffers hold. -/
theorem log_canon (fc : arg16.view.ty.Contents (Elt Ideal)) (fg : arg17.view.ty.Contents (Elt Ideal))
    (hc : ∀ o ≤ 512, ∀ (i : Fin 32) (c : Fin 512), View.readAt (Elt Ideal) arg16.view (r544 o).toLoadRect fc (ix2 i c) = bc (o + i.val) c)
    (hg : ∀ o ≤ 512, ∀ (i : Fin 32) (c : Fin 512), View.readAt (Elt Ideal) arg17.view (r544 o).toLoadRect fg (ix2 i c) = bg (o + i.val) c)
    (r : Fin 512) (j : Fin 128) :
    View.canon (logPcs arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10 fc fg) (ix3 0 r j)
      = logOf (rowOut (wts x1 x2 x3 x4 x5 x6 x7 x8 x9) (xrow x0 r) (fun k => bc (r.val + 30 + k)) (fun k => bg (r.val + 2 + k))) x10 j := by
  unfold logPcs
  rw [View.canon_cons_unit_lit _ _ _ (by decide), rd_all arg12]
  refine (payLog_apply _ _ _ _ _ (rd_half arg12 harg12 x10) r j).trans ?_
  refine congrArg (logOf · x10 j) (funext fun k => ?_)
  have e := out_canon arg2 harg2 arg3 harg3 arg4 harg4 arg5 harg5 arg6 harg6 arg7 harg7 arg8 harg8 arg9 harg9 arg10 harg10 arg11 harg11 arg15 arg16 arg17 arg18
    x0 x1 x2 x3 x4 x5 x6 x7 x8 x9 bc bg fc fg hc hg r k
  unfold outPcs at e
  rw [View.canon_cons_unit_lit _ _ _ (by decide)] at e
  exact (pay204_apply _ _ _ r k).symm.trans e

variable  (hA : ∀ r c : Fin 512, seqA (wts x1 x2 x3 x4 x5 x6 x7 x8 x9) (xrow x0 r) c = bc (32 + r.val) c)
  (hB : ∀ r c : Fin 512, seqB (wts x1 x2 x3 x4 x5 x6 x7 x8 x9) (xrow x0 r) c = bg (32 + r.val) c)
include hA hB

/-- At a batch row's first point: the logits. -/
theorem logA (hc0 : cond0_0 i) (hc1 : ¬cond0_1 i) (hC : ∀ q < 32, ∀ c, bc q c = 0) (hG : ∀ q < 32, ∀ c, bg q c = 0) (r : Fin 512) (j : Fin 128) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix3 0 r j)
    = logOf (rowOut (wts x1 x2 x3 x4 x5 x6 x7 x8 x9) (xrow x0 r) (fun k => bc (r.val + 30 + k)) (fun k => bg (r.val + 2 + k))) x10 j := by
  unfold out0_A_12
  rw [View.read_writes_junk_eq_canon, piecesA_log]
  exact log_canon arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10 bc bg _ _
    (buf_read bc arg16 _ (cPcs_canon arg2 harg2 arg3 harg3 arg15 x0 x1 x2 x3 x4 x5 x6 x7 x8 x9 bc _ (fun i c => (pay4_apply i c).trans (hC i.val i.isLt c).symm) hA))
    (buf_read bg arg17 _ (gPcs_canon arg2 harg2 arg3 harg3 arg15 x0 x1 x2 x3 x4 x5 x6 x7 x8 x9 bg _ (fun i c => (pay5_apply i c).trans (hG i.val i.isLt c).symm) hB)) r j

/-- At its later points: the logits. -/
theorem logB (hc0 : ¬cond0_0 i) (hc1 : cond0_1 i)
    (hC : ∀ (i : Fin 32) (c : Fin 512), xs1 (ix2 ⟨512 + i.val, halo_lt i⟩ c) = bc i.val c)
    (hG : ∀ (i : Fin 32) (c : Fin 512), xs2 (ix2 ⟨512 + i.val, halo_lt i⟩ c) = bg i.val c) (r : Fin 512) (j : Fin 128) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs1 xs2 (ix3 0 r j)
    = logOf (rowOut (wts x1 x2 x3 x4 x5 x6 x7 x8 x9) (xrow x0 r) (fun k => bc (r.val + 30 + k)) (fun k => bg (r.val + 2 + k))) x10 j := by
  unfold out0_B_12
  rw [View.read_writes_junk_eq_canon, piecesB_log]
  exact log_canon arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10 bc bg _ _
    (buf_read bc arg16 _ (cPcs_canon arg2 harg2 arg3 harg3 arg15 x0 x1 x2 x3 x4 x5 x6 x7 x8 x9 bc _ (fun i c => by rw [pay6_eq, tail_apply]; exact hC i c) hA))
    (buf_read bg arg17 _ (gPcs_canon arg2 harg2 arg3 harg3 arg15 x0 x1 x2 x3 x4 x5 x6 x7 x8 x9 bg _ (fun i c => by rw [pay7_eq, tail_apply]; exact hG i c) hB)) r j

end Cert.Even
-- ==== Proof.EvenLogRef.lean ====
/-
  The rows under the convolution mixer's router logits: the reference's, index by index.
-/
module

public import proofs.«01_k».proof.Proof.Gen.Reference8Ideal.Run
public import proofs.«01_k».proof.Proof.EvenRef
public import Idealize.ShloMosaic.Lib.Pointwise
public import Idealize.ShloMosaic.Lib.Tactic.CleanTypes

@[expose] public section

set_option maxRecDepth 16384

noncomputable section

namespace Cert.Even.LogRef

open Idealize.ShloMosaic Idealize.ShloMosaic.TcCoe Idealize.SL.Sem
open Cert.Even.Ref (Args sum_halves zero_bits)
open Cert.Reference8Ideal Cert.Reference8Ideal.Gen Cert.Reference8Ideal.Value

variable (A : Args)

variable (V0 : Valuation τ sig (Elt Ideal))

/-- The reference's arguments are `A`. -/
structure Holds : Prop where
  h0 : V0 (Proc.devRef .tc main_arg0) = A.x
  h1 : V0 (Proc.devRef .tc main_arg1) = A.win
  h2 : V0 (Proc.devRef .tc main_arg2) = A.ca
  h3 : V0 (Proc.devRef .tc main_arg3) = A.cb
  h4 : V0 (Proc.devRef .tc main_arg4) = A.bias
  h5 : V0 (Proc.devRef .tc main_arg5) = A.ng
  h6 : V0 (Proc.devRef .tc main_arg6) = A.nb
  h7 : V0 (Proc.devRef .tc main_arg7) = A.wout
  h8 : V0 (Proc.devRef .tc main_arg8) = A.g
  h9 : V0 (Proc.devRef .tc main_arg9) = A.b

variable {A V0} (H : Holds A V0)
include H

theorem v2_apply (b : Fin 32) (t : Fin 2048) (j : Fin 2560) :
    res_main_v2 V0 (ix3 b t j) = proj A.W (A.X b t) j := by
  unfold res_main_v2
  rw [H.h0, H.h1]
  clean_types
  pointwise [proj, Args.W, Args.X]

theorem v9_apply (b : Fin 32) (p : Fin 2050) (c : Fin 512) :
    res_main_v9 V0 (ix3 b p c) = ext (sA A.W A.X b) (p.val + 30) c := by
  have h2 := v2_apply H
  unfold res_main_v9
  generalize res_main_v2 V0 = u at h2 ⊢
  clean_types
  pointwise []
  by_cases h : p.val < 2
  · rw [dif_neg (by omega), ext_zero _ _ (by omega), zero_bits]
  · have e : p.val + 30 = 32 + (⟨p.val - 2, by omega⟩ : Fin 2048).val := by show _ = 32 + (p.val - 2); omega
    rw [dif_pos ⟨by omega, by omega⟩, h2, h2, e, ext_add, sA_apply, seqA]

theorem v38_apply (b : Fin 32) (p : Fin 2078) (c : Fin 512) :
    res_main_v38 V0 (ix3 b p c) = ext (sB A.W A.X b) (p.val + 2) c := by
  have h2 := v2_apply H
  unfold res_main_v38
  generalize res_main_v2 V0 = u at h2 ⊢
  clean_types
  pointwise []
  by_cases h : p.val < 30
  · rw [dif_neg (by omega), ext_zero _ _ (by omega), zero_bits]
  · have e : p.val + 2 = 32 + (⟨p.val - 30, by omega⟩ : Fin 2048).val := by show _ = 32 + (p.val - 30); omega
    rw [dif_pos ⟨by omega, by omega⟩, h2, h2, e, ext_add, sB_apply, seqB]
    rfl

theorem v38_tap (b : Fin 32) (t : Fin 2048) (c : Fin 512) (k : ℕ) (h : k + t.val < 2078) :
    res_main_v38 V0 (ix3 b ⟨k + t.val, h⟩ c) = ext (sB A.W A.X b) (t.val + 2 + k) c := by
  rw [v38_apply H]
  exact congrArg (ext _ · c) (by show k + t.val + 2 = _; omega)

theorem v9_tap (b : Fin 32) (t : Fin 2048) (c : Fin 512) (k : ℕ) (h : k + t.val < 2050) :
    res_main_v9 V0 (ix3 b ⟨k + t.val, h⟩ c) = ext (sA A.W A.X b) (t.val + 30 + k) c := by
  rw [v9_apply H]
  exact congrArg (ext _ · c) (by show k + t.val + 30 = _; omega)

theorem v257_apply (b : Fin 32) (t : Fin 2048) (c : Fin 512) : res_main_v257 V0 (ix3 b t c)
    = conv (fun k => A.W.cb k c) (fun k => ext (sB A.W A.X b) (t.val + 2 + k) c) 30 + A.W.bias c := by
  have h38 := v38_tap H b t c
  have h0 := v38_apply H b ⟨t.val, by omega⟩ c
  unfold res_main_v257 res_main_v191 res_main_v114
  generalize res_main_v38 V0 = u at h38 h0 ⊢
  rw [H.h3, H.h4]
  clean_types
  pointwise []
  simp only [h38, h0]
  rfl

theorem v261_apply (b : Fin 32) (t : Fin 2048) : res_main_v261 V0 (ix3 b t 0)
    = Norm.mean (Ideal.ofBits .f32 0x44000000#32) fun c => res_main_v257 V0 (ix3 b t c) := by
  unfold res_main_v261
  generalize res_main_v257 V0 = u
  clean_types
  pointwise [Norm.mean]

theorem v263_apply (b : Fin 32) (t : Fin 2048) (c : Fin 512) : res_main_v263 V0 (ix3 b t c)
    = HSub.hSub (α := EReal) (β := EReal) (γ := EReal) (res_main_v257 V0 (ix3 b t c))
      (Norm.mean (Ideal.ofBits .f32 0x44000000#32) fun c => res_main_v257 V0 (ix3 b t c)) := by
  rw [← v261_apply H]
  unfold res_main_v263
  generalize res_main_v257 V0 = u
  generalize res_main_v261 V0 = v
  clean_types
  pointwise []

theorem v281_apply (b : Fin 32) (t : Fin 2048) (c : Fin 512) : res_main_v281 V0 (ix3 b t c)
    = normB A.W (fun k => ext (sB A.W A.X b) (t.val + 2 + k)) c := by
  have h1 := v261_apply H b t
  have h3 := v263_apply H b t
  have h7 := v257_apply H b t
  unfold res_main_v281
  generalize res_main_v257 V0 = u at h1 h3 h7 ⊢
  generalize res_main_v261 V0 = v at h1 h3 ⊢
  generalize res_main_v263 V0 = w at h3 ⊢
  rw [H.h5, H.h6]
  clean_types
  pointwise []
  simp only [h3, h1, h7]
  rfl

theorem v289_apply (b : Fin 32) (t : Fin 2048) (j : Fin 1024) : res_main_v289 V0 (ix3 b t j)
    = Ideal.ofBits .f32 0x3FD744FD#32 * A.X b t j + ∑ e, mixed A.W (A.X b t) (fun k => ext (sA A.W A.X b) (t.val + 30 + k))
      (fun k => ext (sB A.W A.X b) (t.val + 2 + k)) e * A.W.wout e j := by
  have h2 := v2_apply H b t
  have h9 := fun c => v9_tap H b t c
  have h0 := fun c => v9_apply H b ⟨t.val, by omega⟩ c
  have h1 := v281_apply H b t
  unfold res_main_v289
  generalize res_main_v2 V0 = u at h2 ⊢
  generalize res_main_v9 V0 = v at h9 h0 ⊢
  generalize res_main_v281 V0 = w at h1 ⊢
  rw [H.h0, H.h2, H.h7]
  clean_types
  pointwise []
  rw [sum_halves fun e => mixed A.W (A.X b t) _ _ e * A.W.wout e j]
  refine congrArg (Ideal.ofBits .f32 0x3FD744FD#32 * A.x (ix3 b t j) + ·) (congrArg₂ (· + ·) ?_ ?_)
  · refine Finset.sum_congr rfl fun c _ => ?_
    rw [mixed_lo _ _ _ _ c ⟨c.val, by omega⟩ rfl, h2, h0, h9, h9]
    rfl
  · refine Finset.sum_congr rfl fun c _ => ?_
    rw [mixed_hi _ _ _ _ c ⟨512 + c.val, by omega⟩ rfl, h1]
    rfl

theorem v293_apply (b : Fin 32) (t : Fin 2048) : res_main_v293 V0 (ix3 b t 0)
    = Norm.mean (Ideal.ofBits .f32 0x44800000#32) fun c => res_main_v289 V0 (ix3 b t c) := by
  unfold res_main_v293
  generalize res_main_v289 V0 = u
  clean_types
  pointwise [Norm.mean]

theorem v295_apply (b : Fin 32) (t : Fin 2048) (c : Fin 1024) : res_main_v295 V0 (ix3 b t c)
    = HSub.hSub (α := EReal) (β := EReal) (γ := EReal) (res_main_v289 V0 (ix3 b t c))
      (Norm.mean (Ideal.ofBits .f32 0x44800000#32) fun c => res_main_v289 V0 (ix3 b t c)) := by
  rw [← v293_apply H]
  unfold res_main_v295
  generalize res_main_v289 V0 = u
  generalize res_main_v293 V0 = v
  clean_types
  pointwise []

/-- The reference's rows. -/
theorem res_apply (j : S32x2048x1024.Idx) :
    addf (mulf (mulf (subf (res_main_v289 V0) (broadcastInDim S32x2048x1024 ![0, 1, 2] bcast_S32x2048x1_S32x2048x1024_0_1_2 (res_main_v293 V0))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (res_main_v295 V0) (res_main_v295 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 A.g))) (broadcastInDim S32x2048x1024 ![0, 1, 2] bcast_S1x1x1024_S32x2048x1024_0_1_2 (broadcastInDim S1x1x1024 ![2] bcast_S1024_S1x1x1024_2 A.b)) j
      = outAt A.W A.X (j 0) (j 1) (j 2) := by
  idx_vars j
  have h1 := v293_apply H j0 j1
  have h3 := v295_apply H j0 j1
  have h7 := v289_apply H j0 j1
  generalize res_main_v289 V0 = u at h1 h3 h7 ⊢
  generalize res_main_v293 V0 = v at h1 h3 ⊢
  generalize res_main_v295 V0 = w at h3 ⊢
  clean_types
  pointwise []
  simp only [h3, h1, h7]
  rfl

end Cert.Even.LogRef
-- ==== Proof.EvenLogits.lean ====
/-
  The router logits the convolution mixer writes beside its rows: for finite arguments they are the rows times the routers'
  weights, which the call is given as two parts that add up to them. The call's program is the rows' program.
-/
module

public import proofs.«01_k».proof.Proof.Even
public import proofs.«01_k».proof.Proof.EvenLogPoint
public import proofs.«01_k».proof.Proof.EvenLogRef
public import proofs.«01_k».proof.Proof.Finite
public import proofs.«01_k».proof.Proof.Gen.Kernel4.Frame
public import proofs.«01_k».proof.Proof.Gen.Kernel8
public import proofs.«01_k».proof.Proof.Gen.Kernel8Ideal
public import proofs.«01_k».proof.Proof.Gen.Reference8Ideal.Run
public import proofs.«01_k».proof.Proof.Gen.Pre_pre8

@[expose] public section

set_option maxRecDepth 16384

noncomputable section

namespace Cert.EvenLogits

open Idealize.ShloMosaic Idealize.ShloMosaic.TcCoe Idealize.SL.Sem
open Cert.Kernel4Ideal Cert.Kernel4Ideal.Gen Cert.Even

section finite

/-- Finite weights. -/
structure WFin (W : Weights) : Prop where
  win : ∀ k j, Finite.Fin' (W.win k j)
  ca : ∀ k c, Finite.Fin' (W.ca k c)
  cb : ∀ k c, Finite.Fin' (W.cb k c)
  bias : ∀ c, Finite.Fin' (W.bias c)
  ng : ∀ c, Finite.Fin' (W.ng c)
  nb : ∀ c, Finite.Fin' (W.nb c)
  wout : ∀ e k, Finite.Fin' (W.wout e k)
  g : ∀ k, Finite.Fin' (W.g k)
  b : ∀ k, Finite.Fin' (W.b k)

theorem logistic_fin {x : EReal} (h : Finite.Fin' x) : Finite.Fin' (Ideal.logistic x) := by
  obtain ⟨r, rfl⟩ := h
  rw [Ideal.logistic_coe]
  exact Finite.coe _

theorem conv_fin {w r : ℕ → EReal} (hw : ∀ k, Finite.Fin' (w k)) (hr : ∀ k, Finite.Fin' (r k)) (n : ℕ) : Finite.Fin' (conv w r n) := by
  induction n with
  | zero => exact Finite.mul (hw 0) (hr 0)
  | succ n ih => exact Finite.add ih (Finite.mul (hw _) (hr _))

theorem norm_fin {n : ℕ} {N : ℝ} (hN : 0 < N) {v g b : Fin n → EReal} (h : ∀ k, Finite.Fin' (v k)) (hg : ∀ k, Finite.Fin' (g k))
    (hb : ∀ k, Finite.Fin' (b k)) (j : Fin n) : Finite.Fin' (Norm.norm N (Ideal.ofBits .f32 0x3727C5AC#32) v g b j) := by
  obtain ⟨ε, hε, e⟩ := Finite.bits_eps
  rw [e]
  exact Finite.norm hN hε h hg hb j

variable {W : Weights} (F : WFin W)
include F

theorem proj_fin {x : Fin 1024 → EReal} (hx : ∀ k, Finite.Fin' (x k)) (j : Fin 2560) : Finite.Fin' (proj W x j) :=
  Finite.sum fun k => Finite.mul (hx k) (F.win k j)

theorem rowOut_fin {x : Fin 1024 → EReal} {A B : ℕ → Fin 512 → EReal} (hx : ∀ k, Finite.Fin' (x k)) (hA : ∀ k c, Finite.Fin' (A k c))
    (hB : ∀ k c, Finite.Fin' (B k c)) (j : Fin 1024) : Finite.Fin' (rowOut W x A B j) := by
  have n : ∀ c, Finite.Fin' (normB W B c) := fun c => by
    unfold normB
    rw [Finite.bits_512]
    exact norm_fin (by norm_num) (fun k => Finite.add (conv_fin (fun i => F.cb i k) (fun i => hB i k) 30) (F.bias k)) F.ng F.nb c
  have e : ∀ e, Finite.Fin' (mixed W x A B e) := fun e => by
    unfold mixed
    split
    · exact Finite.mul (proj_fin F hx _) (conv_fin (fun i => F.ca i _) (fun i => hA i _) 2)
    · exact Finite.mul (n _) (logistic_fin (n _))
  unfold rowOut
  rw [Finite.bits_1024]
  exact norm_fin (by norm_num) (fun k => Finite.add (Finite.mul Finite.bits_alpha (hx k)) (Finite.sum fun i => Finite.mul (e i) (F.wout i k))) F.g F.b j

theorem ext_fin {f : ℕ → Fin 512 → EReal} (h : ∀ t c, Finite.Fin' (f t c)) (q : ℕ) (c : Fin 512) : Finite.Fin' (ext f q c) := by
  unfold ext
  split
  · exact Finite.zero
  · exact h _ _

theorem outAt_fin {x : Fin 32 → Fin 2048 → Fin 1024 → EReal} (hx : ∀ b t k, Finite.Fin' (x b t k)) (b : Fin 32) (t : Fin 2048) (j : Fin 1024) :
    Finite.Fin' (outAt W x b t j) := by
  refine rowOut_fin F (hx b t) (fun k c => ext_fin F (fun t c => ?_) _ c) (fun k c => ext_fin F (fun t c => ?_) _ c) j
  · unfold sA
    split
    · exact Finite.mul (proj_fin F (hx _ _) _) (proj_fin F (hx _ _) _)
    · exact Finite.zero
  · unfold sB
    split
    · exact Finite.mul (proj_fin F (hx _ _) _) (logistic_fin (proj_fin F (hx _ _) _))
    · exact Finite.zero

end finite

/-- Products with two parts of the weights, and of the rows' low half with the first one, are the products with their sum. -/
theorem parts {n : ℕ} {h v w : Fin n → EReal} (hh : ∀ k, Finite.Fin' (h k)) (hv : ∀ k, Finite.Fin' (v k)) (hw : ∀ k, Finite.Fin' (w k)) :
    (∑ k, h k * v k) + (∑ k, h k * w k) + (∑ k, (h k - h k) * v k) = ∑ k, h k * (v k + w k) := by
  have e : ∀ k, (h k - h k) * v k = 0 := fun k => by rw [Finite.sub_self (hh k), zero_mul]
  simp only [e, Finset.sum_const_zero, add_zero]
  rw [← Finset.sum_add_distrib]
  refine Finset.sum_congr rfl fun k _ => ?_
  obtain ⟨p, hp⟩ := hh k
  obtain ⟨q, hq⟩ := hv k
  obtain ⟨r, hr⟩ := hw k
  rw [hp, hq, hr, ← EReal.coe_mul, ← EReal.coe_mul, ← EReal.coe_add, ← EReal.coe_add, ← EReal.coe_mul, mul_add]

/-- What the precondition says: every entry is finite. -/
theorem finite_of_pre (x : FVec Ideal Cert.Pre_pre8.S32x2048x1024 .f32) (win : FVec Ideal Cert.Pre_pre8.S1024x2560 .f32) (ca : FVec Ideal Cert.Pre_pre8.S3x512 .f32) (cb : FVec Ideal Cert.Pre_pre8.S31x512 .f32) (bias : FVec Ideal Cert.Pre_pre8.S512 .f32) (ng : FVec Ideal Cert.Pre_pre8.S512 .f32) (nb : FVec Ideal Cert.Pre_pre8.S512 .f32) (wout : FVec Ideal Cert.Pre_pre8.S1024x1024 .f32) (g : FVec Ideal Cert.Pre_pre8.S1024 .f32) (b : FVec Ideal Cert.Pre_pre8.S1024 .f32) (w : FVec Ideal Cert.Pre_pre8.S1024x256 .bf16)
    (h : Cert.Pre_pre8.fn (F := Ideal) x win ca cb bias ng nb wout g b w = fun _ => 1#1) :
    (∀ i, Finite.Fin' (x i)) ∧ (∀ i, Finite.Fin' (win i)) ∧ (∀ i, Finite.Fin' (ca i)) ∧ (∀ i, Finite.Fin' (cb i)) ∧ (∀ i, Finite.Fin' (bias i)) ∧ (∀ i, Finite.Fin' (ng i)) ∧ (∀ i, Finite.Fin' (nb i)) ∧ (∀ i, Finite.Fin' (wout i)) ∧ (∀ i, Finite.Fin' (g i)) ∧ (∀ i, Finite.Fin' (b i)) ∧ (∀ i, Finite.Fin' (w i)) := by
  have e := congrFun h (fun a => a.elim0)
  simp only [Cert.Pre_pre8.fn, Cert.Pre_pre8.fn_part3, Cert.Pre_pre8.fn_part2, Cert.Pre_pre8.fn_part1, andi] at e
  have split (p q : BitVec 1) (k : IntOp.andi p q = 1#1) : p = 1#1 ∧ q = 1#1 := by
    revert p q; decide
  obtain ⟨e, e10⟩ := split _ _ e
  obtain ⟨e, e9⟩ := split _ _ e
  obtain ⟨e, e8⟩ := split _ _ e
  obtain ⟨e, e7⟩ := split _ _ e
  obtain ⟨e, e6⟩ := split _ _ e
  obtain ⟨e, e5⟩ := split _ _ e
  obtain ⟨e, e4⟩ := split _ _ e
  obtain ⟨e, e3⟩ := split _ _ e
  obtain ⟨e, e2⟩ := split _ _ e
  obtain ⟨e0, e1⟩ := split _ _ e
  have zb : Ideal.ofBits .bf16 0x0000#16 = 0 := Ideal.ofBits_zero_bf16
  have zf : Ideal.ofBits .f32 0x00000000#32 = 0 := Ideal.ofBits_zero_f32
  refine ⟨fun i => ?_, fun i => ?_, fun i => ?_, fun i => ?_, fun i => ?_, fun i => ?_, fun i => ?_, fun i => ?_, fun i => ?_, fun i => ?_, fun i => ?_⟩
  · have k : Ideal.cmp .oeq (HSub.hSub (α := EReal) (β := EReal) (γ := EReal) (x i) (x i)) (Ideal.ofBits .f32 0x00000000#32) = 1#1 := Host.reduce_andi_all _ _ _ _ _ e0 i
    rw [zf] at k
    exact Finite.of_cmp k
  · have k : Ideal.cmp .oeq (HSub.hSub (α := EReal) (β := EReal) (γ := EReal) (win i) (win i)) (Ideal.ofBits .f32 0x00000000#32) = 1#1 := Host.reduce_andi_all _ _ _ _ _ e1 i
    rw [zf] at k
    exact Finite.of_cmp k
  · have k : Ideal.cmp .oeq (HSub.hSub (α := EReal) (β := EReal) (γ := EReal) (ca i) (ca i)) (Ideal.ofBits .f32 0x00000000#32) = 1#1 := Host.reduce_andi_all _ _ _ _ _ e2 i
    rw [zf] at k
    exact Finite.of_cmp k
  · have k : Ideal.cmp .oeq (HSub.hSub (α := EReal) (β := EReal) (γ := EReal) (cb i) (cb i)) (Ideal.ofBits .f32 0x00000000#32) = 1#1 := Host.reduce_andi_all _ _ _ _ _ e3 i
    rw [zf] at k
    exact Finite.of_cmp k
  · have k : Ideal.cmp .oeq (HSub.hSub (α := EReal) (β := EReal) (γ := EReal) (bias i) (bias i)) (Ideal.ofBits .f32 0x00000000#32) = 1#1 := Host.reduce_andi_all _ _ _ _ _ e4 i
    rw [zf] at k
    exact Finite.of_cmp k
  · have k : Ideal.cmp .oeq (HSub.hSub (α := EReal) (β := EReal) (γ := EReal) (ng i) (ng i)) (Ideal.ofBits .f32 0x00000000#32) = 1#1 := Host.reduce_andi_all _ _ _ _ _ e5 i
    rw [zf] at k
    exact Finite.of_cmp k
  · have k : Ideal.cmp .oeq (HSub.hSub (α := EReal) (β := EReal) (γ := EReal) (nb i) (nb i)) (Ideal.ofBits .f32 0x00000000#32) = 1#1 := Host.reduce_andi_all _ _ _ _ _ e6 i
    rw [zf] at k
    exact Finite.of_cmp k
  · have k : Ideal.cmp .oeq (HSub.hSub (α := EReal) (β := EReal) (γ := EReal) (wout i) (wout i)) (Ideal.ofBits .f32 0x00000000#32) = 1#1 := Host.reduce_andi_all _ _ _ _ _ e7 i
    rw [zf] at k
    exact Finite.of_cmp k
  · have k : Ideal.cmp .oeq (HSub.hSub (α := EReal) (β := EReal) (γ := EReal) (g i) (g i)) (Ideal.ofBits .f32 0x00000000#32) = 1#1 := Host.reduce_andi_all _ _ _ _ _ e8 i
    rw [zf] at k
    exact Finite.of_cmp k
  · have k : Ideal.cmp .oeq (HSub.hSub (α := EReal) (β := EReal) (γ := EReal) (b i) (b i)) (Ideal.ofBits .f32 0x00000000#32) = 1#1 := Host.reduce_andi_all _ _ _ _ _ e9 i
    rw [zf] at k
    exact Finite.of_cmp k
  · have k : Ideal.cmp .oeq (HSub.hSub (α := EReal) (β := EReal) (γ := EReal) (w i) (w i)) (Ideal.ofBits .bf16 0x0000#16) = 1#1 := Host.reduce_andi_all _ _ _ _ _ e10 i
    rw [zb] at k
    exact Finite.of_cmp k

/-- The logits: the layer's rows times the sum of the two parts of the weights. -/
def logits (A : Ref.Args) (w : Vec Ideal S1024x256 .bf16) : Vec Ideal S32x2048x128 .f32 := fun j =>
  ∑ k : Fin 1024, outAt A.W A.X (j 0) (j 1) k
    * ((w (ix2 k ⟨(j 2).val, by have := (j 2).isLt; change (j 2).val < 128 at this; omega⟩) : EReal)
      + w (ix2 k ⟨128 + (j 2).val, by have := (j 2).isLt; change (j 2).val < 128 at this; omega⟩))

section launch

variable (m : (ℓ : Loc nD τ sig) → Buf (Elt Ideal) ℓ) (c : Dev nD)

theorem w_eq (t : Fin cfg0.N) : iblk m c 10 t = m ((c : Thread nD τ).loc main_arg10) := by
  have i10 : win0_10.index t = ![0, 0] := (by decide +kernel : ∀ t : Fin grid0.N, win0_10.index t = ![0, 0]) t
  have e10 : ∀ k l, (win0_10.blk t).view.emb (ix2 k l) = ix2 k l := fun k l => by
    funext a; apply Fin.ext
    fin_cases a <;> blk_simp [i10] <;> simp
  have x10 : V m c main_arg10 = m ((c : Thread nD τ).loc main_arg10) := V_main_arg10 m c
  funext i
  change S1024x256.Idx at i
  idx_vars i
  exact (congrFun x10 _).trans (congrArg _ (e10 i0 i1))

theorem log_first (t : Fin cfg0.N) (h0 : t.val % 4 = 0) (r : Fin 512) (j : Fin 128) : (outsAt0 m c t.val t.isLt).2.1 (ix3 0 r j)
    = logOf (rowOut (wts (iblk m c 1 t) (iblk m c 2 t) (iblk m c 3 t) (iblk m c 4 t) (iblk m c 5 t) (iblk m c 6 t) (iblk m c 7 t) (iblk m c 8 t) (iblk m c 9 t)) (xrow (iblk m c 0 t) r) (fun k => bufA m c t.val t.isLt (r.val + 30 + k))
      (fun k => bufB m c t.val t.isLt (r.val + 2 + k))) (iblk m c 10 t) j := by
  rw [outsAt0_A m c t h0 (by omega)]
  dsimp only
  refine logA (bc := bufA m c t.val t.isLt) (bg := bufB m c t.val t.isLt) (r := r) (j := j) (hA := ?_) (hB := ?_) (hC := ?_) (hG := ?_) ..
  · exact bufA_new m c t
  · exact bufB_new m c t
  · exact bufA_first m c t.val t.isLt h0
  · exact bufB_first m c t.val t.isLt h0

theorem log_next (t : Fin cfg0.N) (h1 : 1 ≤ t.val % 4) (hp : t.val - 1 < cfg0.N)
    (pA : ∀ y : S544x512.Idx, (outsAt0 m c (t.val - 1) hp).2.2.1 y = bufA m c (t.val - 1) hp (y 0).val (y 1))
    (pB : ∀ y : S544x512.Idx, (outsAt0 m c (t.val - 1) hp).2.2.2 y = bufB m c (t.val - 1) hp (y 0).val (y 1))
    (r : Fin 512) (j : Fin 128) : (outsAt0 m c t.val t.isLt).2.1 (ix3 0 r j)
    = logOf (rowOut (wts (iblk m c 1 t) (iblk m c 2 t) (iblk m c 3 t) (iblk m c 4 t) (iblk m c 5 t) (iblk m c 6 t) (iblk m c 7 t) (iblk m c 8 t) (iblk m c 9 t)) (xrow (iblk m c 0 t) r) (fun k => bufA m c t.val t.isLt (r.val + 30 + k))
      (fun k => bufB m c t.val t.isLt (r.val + 2 + k))) (iblk m c 10 t) j := by
  rw [outsAt0_B m c t (by omega) h1]
  dsimp only
  refine logB (bc := bufA m c t.val t.isLt) (bg := bufB m c t.val t.isLt) (r := r) (j := j) (hA := ?_) (hB := ?_) (hC := ?_) (hG := ?_) ..
  · exact bufA_new m c t
  · exact bufB_new m c t
  · exact fun i k => (pA _).trans (congrFun (bufA_carry m c t.val t.isLt h1 i.val) k)
  · exact fun i k => (pB _).trans (congrFun (bufB_carry m c t.val t.isLt h1 i.val) k)

/-- The layer's rows, from the buffers of a point. -/
theorem rows_eq (t : Fin cfg0.N) (r : Fin 512) : rowOut (wts (iblk m c 1 t) (iblk m c 2 t) (iblk m c 3 t) (iblk m c 4 t) (iblk m c 5 t) (iblk m c 6 t) (iblk m c 7 t) (iblk m c 8 t) (iblk m c 9 t)) (xrow (iblk m c 0 t) r)
      (fun k => bufA m c t.val t.isLt (r.val + 30 + k)) (fun k => bufB m c t.val t.isLt (r.val + 2 + k))
    = outAt (args m c).W (args m c).X (brow t) (pos t r) := by
  funext j
  rw [wts_eq, xrow_eq]
  refine rowOut_congr _ _ (fun k _ l => ?_) (fun k _ l => ?_) j
  · exact congrArg (ext _ · l) (by show 512 * (t.val % 4) + (r.val + 30 + k) = 512 * (t.val % 4) + r.val + 30 + k; omega)
  · exact congrArg (ext _ · l) (by show 512 * (t.val % 4) + (r.val + 2 + k) = 512 * (t.val % 4) + r.val + 2 + k; omega)

/-- The block of logits a point writes. -/
theorem block_log (t : Fin cfg0.N) (r : Fin 512) (j : Fin 128) : (outsAt0 m c t.val t.isLt).2.1 (ix3 0 r j)
    = logOf (outAt (args m c).W (args m c).X (brow t) (pos t r)) (m ((c : Thread nD τ).loc main_arg10)) j := by
  rw [← w_eq m c t, ← rows_eq]
  by_cases h0 : t.val % 4 = 0
  · exact log_first m c t h0 r j
  · have P := bufs_eq m c (t.val - 1) (by omega)
    exact log_next m c t (by omega) _ P.1 P.2 r j

/-- Finite arguments have finite weights and rows. -/
theorem args_fin (hp : Cert.Pre_pre8.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) = fun _ => 1#1) :
    WFin (args m c).W ∧ (∀ b t k, Finite.Fin' ((args m c).X b t k)) ∧ ∀ i, Finite.Fin' (m ((c : Thread nD τ).loc main_arg10) i) := by
  obtain ⟨h0, h1, h2, h3, h4, h5, h6, h7, h8, h9, h10⟩ := finite_of_pre _ _ _ _ _ _ _ _ _ _ _ hp
  exact ⟨⟨fun _ _ => h1 _, fun _ _ => h2 _, fun _ _ => h3 _, fun _ => h4 _, fun _ => h5 _, fun _ => h6 _, fun _ _ => h7 _, fun _ => h8 _, fun _ => h9 _⟩,
    fun _ _ _ => h0 _, h10⟩

/-- The kernel's second array after its run, for finite arguments. -/
theorem arr_eq (hp : Cert.Pre_pre8.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) = fun _ => 1#1) :
    (dats m 0 c).arrAt 12 cfg0.N = logits (args m c) (m ((c : Thread nD τ).loc main_arg10)) := by
  obtain ⟨hW, hx, hw⟩ := args_fin m c hp
  refine (dats m 0 c).arrAt_eq_of_covers 12 _ (by decide +kernel) fun t hf y => ?_
  blk_simp
  rw [after0_12]
  have h0 : win0_12.index t = ![t.val / 4, t.val % 4, 0] :=
    (by decide +kernel : ∀ t : Fin grid0.N, win0_12.index t = ![t.val / 4, t.val % 4, 0]) t
  change S1x512x128.Idx at y
  have hy : y = ix3 0 (y 1) (y 2) := by
    funext a
    fin_cases a
    · exact Subsingleton.elim (α := Fin 1) _ _
    · rfl
    · rfl
  have e0 : (win0_12.blk t).view.emb (ix3 0 (y 1) (y 2)) = ix3 (brow t) (pos t (y 1)) (y 2) := by
    funext a; apply Fin.ext
    fin_cases a <;> blk_simp [h0, brow, pos] <;> simp [brow, pos, Nat.mul_comm]
  rw [hy]
  refine (block_log m c t (y 1) (y 2)).trans ?_
  refine Eq.trans ?_ (congrArg (logits (args m c) (m ((c : Thread nD τ).loc main_arg10))) e0).symm
  exact parts (fun k => outAt_fin hW hx _ _ k) (fun k => hw _) (fun k => hw _)

end launch

/-- The rows' program ends with these logits too. -/
theorem run_log (m : (ℓ : Loc Cert.Kernel4Ideal.nD Cert.Kernel4Ideal.τ Cert.Kernel4Ideal.sig) → Buf (Elt Ideal) ℓ) (g : Dev Cert.Kernel4Ideal.nD → PrngReg)
    (hp : ∀ c : Dev Cert.Kernel4Ideal.nD, Cert.Pre_pre8.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) = fun _ => 1#1) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v7_1) = logits (args m c) (m ((c.tc : Thread Cert.Kernel4Ideal.nD Cert.Kernel4Ideal.τ).loc Cert.Kernel4Ideal.main_arg10))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)) :=
  (θ_run _ _ _).mono (fun r h c => ⟨(h c).2.1.trans (arr_eq m c (hp c)), (h c).2.2⟩) (Cert.Kernel4Ideal.Value.run_blocks m g)

set_option maxHeartbeats 4000000 in
/-- This call's program is the rows' program. -/
theorem run8 (m : (ℓ : Loc Cert.Kernel8Ideal.nD Cert.Kernel8Ideal.τ Cert.Kernel8Ideal.sig) → Buf (Elt Ideal) ℓ) (g : Dev Cert.Kernel8Ideal.nD → PrngReg)
    (hp : ∀ c : Dev Cert.Kernel8Ideal.nD, Cert.Pre_pre8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) = fun _ => 1#1) :
    θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
      r.2.mem ((c.tc : Thread Cert.Kernel8Ideal.nD Cert.Kernel8Ideal.τ).loc Cert.Kernel8Ideal.main_v7_1) = logits (args m c) (m ((c.tc : Thread Cert.Kernel8Ideal.nD Cert.Kernel8Ideal.τ).loc Cert.Kernel8Ideal.main_arg10))
      ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)) :=
  Eq.mpr (by sl_kernel_rfl) (run_log m g hp)

set_option maxHeartbeats 4000000 in
/-- On the machine's floats the run leaves the arguments: the rows' program does. -/
theorem machine_frame : Cert.quiescent_Kernel8 := fun m ρ _ =>
  Eq.mpr (by sl_kernel_rfl) (Cert.Kernel4.Gen.frame m ρ)

set_option maxHeartbeats 4000000 in
/-- Over the extended reals. -/
theorem ideal_frame : Cert.quiescent_Kernel8Ideal := fun m ρ _ =>
  Eq.mpr (by sl_kernel_rfl) (Cert.Kernel4Ideal.Gen.frame (F := Ideal) m ρ)

theorem ideal_frame_pre : Cert.quiescent_Kernel8Ideal_pre_pre8 := fun m ρ _ => ideal_frame m ρ trivial

/-- The reference runs, leaves its arguments as they were and has no semaphore. -/
theorem ref_frame : Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run (F := Ideal) m ρ)

theorem ref_frame_pre : Cert.quiescent_Reference8Ideal_pre_pre8 := fun m ρ _ => ref_frame m ρ trivial

/-- The reference's logits, from its rows. -/
theorem tail_apply (h : FVec Ideal Cert.Reference8Ideal.S32x2048x1024 .f32) (w : FVec Ideal Cert.Reference8Ideal.S1024x256 .bf16)
    (b : Fin 32) (t : Fin 2048) (j : Fin 128) :
    Host.dotGeneral Cert.Reference8Ideal.dot_S32x2048x1024_S1024x128_S32x2048x128_2_0_01_1_n_n none h
      (addf (extf .f32 (extractStridedSlice Cert.Reference8Ideal.S1024x128 ![0, 0] w Cert.Reference8Ideal.Gen.slices_S1024x256_S1024x128_0_0) Cert.Reference8Ideal.Gen.bitsLt_bf16_f32)
        (extf .f32 (extractStridedSlice Cert.Reference8Ideal.S1024x128 ![0, 128] w Cert.Reference8Ideal.Gen.slices_S1024x256_S1024x128_0_128) Cert.Reference8Ideal.Gen.bitsLt_bf16_f32))
      (ix3 b t j)
      = ∑ k : Fin 1024, h (ix3 b t k) * ((w (ix2 k ⟨j.val, by omega⟩) : EReal) + w (ix2 k ⟨128 + j.val, by omega⟩)) := by
  pointwise []

/-- Over the extended reals, for finite arguments, the kernel's logits and the reference's are the same array. -/
theorem algebraic : Cert.algebraic_Kernel8Ideal_Reference8Ideal_pre_pre8 := by
  pair_intro
  · run_from run8 m g hpre
  · run_from Cert.Reference8Ideal.Value.run m' g'
    obtain ⟨h0, h1, h2, h3, h4, h5, h6, h7, h8, h9, h10⟩ := hagree c
    have H : Cert.Even.LogRef.Holds (args m c) (StableHlo.launchContents m' c) := ⟨h0, h1, h2, h3, h4, h5, h6, h7, h8, h9⟩
    funext j
    rw [show m (c.tc.loc main_arg8) = (args m c).g from rfl, show m (c.tc.loc main_arg9) = (args m c).b from rfl]
    generalize args m c = A at H ⊢
    idx_vars j
    refine (tail_apply _ _ j0 j1 j2).trans ?_
    exact Finset.sum_congr rfl fun k _ => congrArg (· * _) (Cert.Even.LogRef.res_apply H (ix3 j0 j1 k))

end Cert.EvenLogits

end
-- ==== Proof.lean ====
/-
  The claims about the calls named in the statement, put together from the modules that prove them. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Attn
public import proofs.«01_k».proof.Proof.Gen.Kernel2.Frame
public import proofs.«01_k».proof.Proof.Gen.Kernel2Ideal.Value
public import proofs.«01_k».proof.Proof.Gen.Reference2Ideal.Run
public import proofs.«01_k».proof.Proof.Qkv
public import proofs.«01_k».proof.Proof.Gen.Kernel5.Frame
public import proofs.«01_k».proof.Proof.Gen.Kernel5Ideal.Value
public import proofs.«01_k».proof.Proof.Gen.Reference5Ideal.Run
public import proofs.«01_k».proof.Proof.Out
public import proofs.«01_k».proof.Proof.Gen.Kernel3
public import proofs.«01_k».proof.Proof.Gen.Kernel3Ideal
public import proofs.«01_k».proof.Proof.Gen.Reference3Ideal.Run
public import proofs.«01_k».proof.Proof.Gen.Pre_pre3
public import proofs.«01_k».proof.Proof.Experts
public import proofs.«01_k».proof.Proof.Gen.Kernel4.Frame
public import proofs.«01_k».proof.Proof.Gen.Kernel4Ideal.Value
public import proofs.«01_k».proof.Proof.Gen.Reference4Ideal.Run
public import proofs.«01_k».proof.Proof.Even
public import proofs.«01_k».proof.Proof.Gen.Kernel6.Frame
public import proofs.«01_k».proof.Proof.Gen.Kernel6Ideal.Value
public import proofs.«01_k».proof.Proof.Gen.Reference6Ideal.Run
public import proofs.«01_k».proof.Proof.Combine
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_pre7
public import proofs.«01_k».proof.Proof.OutLogits
public import proofs.«01_k».proof.Proof.Gen.Kernel8
public import proofs.«01_k».proof.Proof.Gen.Kernel8Ideal
public import proofs.«01_k».proof.Proof.Gen.Reference8Ideal.Run
public import proofs.«01_k».proof.Proof.Gen.Pre_pre8
public import proofs.«01_k».proof.Proof.EvenLogits

@[expose] public section

noncomputable section

namespace Cert.Proof

/-- Every claim: the frames, the idealizations, and the equalities over the extended reals. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel5.Gen.facts,
  Cert.Kernel5Ideal.Gen.facts,
  Cert.Reference5Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Pre_pre3.Gen.facts,
  Cert.Pre_pre7.Gen.facts,
  Cert.Pre_pre8.Gen.facts,
  fun m ρ _ => Cert.Kernel.Gen.frame m ρ,
  fun m ρ _ => Cert.KernelIdeal.Gen.frame m ρ,
  Cert.Attn.ref_frame,
  fun m ρ _ => Cert.Kernel2.Gen.frame m ρ,
  fun m ρ _ => Cert.Kernel2Ideal.Gen.frame m ρ,
  Cert.Qkv.ref_frame,
  fun m ρ _ => Cert.Kernel5.Gen.frame m ρ,
  fun m ρ _ => Cert.Kernel5Ideal.Gen.frame m ρ,
  Cert.Out.ref_frame,
  Cert.Experts.machine_frame,
  Cert.Experts.ideal_frame,
  Cert.Experts.ref_frame,
  Cert.Experts.ref_frame_pre,
  fun m ρ _ => Cert.Kernel4.Gen.frame m ρ,
  fun m ρ _ => Cert.Kernel4Ideal.Gen.frame m ρ,
  Cert.Even.ref_frame,
  fun m ρ _ => Cert.Kernel6.Gen.frame m ρ,
  fun m ρ _ => Cert.Kernel6Ideal.Gen.frame m ρ,
  Cert.Combine.ref_frame,
  fun m ρ _ => Cert.Kernel7.Gen.frame m ρ,
  fun m ρ _ => Cert.Kernel7Ideal.Gen.frame m ρ,
  fun m ρ _ => Cert.Kernel7Ideal.Gen.frame m ρ,
  Cert.OutLogits.ref_frame,
  Cert.OutLogits.ref_frame_pre,
  Cert.EvenLogits.machine_frame,
  Cert.EvenLogits.ideal_frame,
  Cert.EvenLogits.ideal_frame_pre,
  Cert.EvenLogits.ref_frame,
  Cert.EvenLogits.ref_frame_pre,
  trivial,
  Cert.Attn.algebraic,
  trivial,
  Cert.Qkv.algebraic,
  trivial,
  Cert.Out.algebraic,
  trivial,
  Cert.Experts.algebraic,
  trivial,
  Cert.Even.algebraic,
  trivial,
  Cert.Combine.algebraic,
  trivial,
  Cert.OutLogits.algebraic,
  trivial,
  Cert.EvenLogits.algebraic⟩

end Cert.Proof

end
